-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 [hPre_in_range : Cert.Pre_in_range.Facts] (m : (ℓ : Loc Cert.Kernel2.nD Cert.Kernel2.τ Cert.Kernel2.sig) → Buf (Elt Bits) ℓ) : Prop :=
  ∀ c : Dev Cert.Kernel2.nD,
    (Cert.Pre_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_in_range : Cert.Pre_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_in_range [hPre_in_range : Cert.Pre_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_in_range : Cert.Pre_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_in_range [hReference2Ideal : Cert.Reference2Ideal.Facts] [hPre_in_range : Cert.Pre_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def preserves_Kernel_KernelIdeal : Prop :=
  IdealRules.named_const.Statement Cert.KernelIdeal.κ "qscale" .f32 0x3E38AA3B#32 (((1 / 8) * (Real.log 2)⁻¹ : ℝ) : EReal)
  ∧ IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_in_range : Cert.Pre_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_v22) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_in_range : Cert.Pre_in_range.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_in_range := hPre_in_range)
    ∧ quiescent_Kernel2Ideal (hKernel2Ideal := hKernel2Ideal) (hPre_in_range := hPre_in_range)
    ∧ quiescent_Reference2Ideal (hReference2Ideal := hReference2Ideal)
    ∧ quiescent_Reference2Ideal_pre_in_range (hReference2Ideal := hReference2Ideal) (hPre_in_range := hPre_in_range)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_in_range := hPre_in_range)
    ∧ preserves_Kernel3_Kernel3Ideal
    ∧ algebraic_Kernel3Ideal_Reference3Ideal (hKernel3Ideal := hKernel3Ideal) (hReference3Ideal := hReference3Ideal)
-- ==== Pre_finite.lean ====
abbrev S32x64x512 : Shape := ⟨3, ![32, 64, 512]⟩
abbrev S32x64x1024 : Shape := ⟨3, ![32, 64, 1024]⟩
abbrev S2x32x512x8x64 : Shape := ⟨5, ![2, 32, 512, 8, 64]⟩
abbrev S8x257 : Shape := ⟨2, ![8, 257]⟩
abbrev S_ : Shape := ⟨0, ![]⟩
abbrev S1x32x512x8x64 : Shape := ⟨5, ![1, 32, 512, 8, 64]⟩
abbrev S32x512x8x64 : Shape := ⟨4, ![32, 512, 8, 64]⟩

class Facts : Prop where
  bcast_S_S32x64x512 : S_.BroadcastsInDim S32x64x512 (![] : Fin 0 → Fin S32x64x512.rank)
  reducesTo_S32x64x512_S_d0_1_2 : S32x64x512.ReducesTo [0, 1, 2] S_
  h_S_ : 0 < S_.numel
  slices_S32x64x1024_S32x64x512_0_0_0 : S32x64x1024.Slices ![0, 0, 0] S32x64x512
  slices_S2x32x512x8x64_S1x32x512x8x64_0_0_0_0_0 : S2x32x512x8x64.Slices ![0, 0, 0, 0, 0] S1x32x512x8x64
  shapeCasts_S1x32x512x8x64_S32x512x8x64 : S1x32x512x8x64.ShapeCasts S32x512x8x64
  bcast_S_S32x512x8x64 : S_.BroadcastsInDim S32x512x8x64 (![] : Fin 0 → Fin S32x512x8x64.rank)
  reducesTo_S32x512x8x64_S_d0_1_2_3 : S32x512x8x64.ReducesTo [0, 1, 2, 3] S_
  bcast_S_S8x257 : S_.BroadcastsInDim S8x257 (![] : Fin 0 → Fin S8x257.rank)
  reducesTo_S8x257_S_d0_1 : S8x257.ReducesTo [0, 1] S_

variable [Facts]

def fn_part1 {F : FTy → Type} [FloatOps F] (main_v16 : IVec S_ 1) (main_v17 : FVec F S8x257 .f32) : IVec S_ 1 :=
  let main_cst_4 : FVec F S_ .f32 := constant S_ .f32 0x7F800000#32
  let main_v18 : FVec F S8x257 .f32 := broadcastInDim S8x257 ![] bcast_S_S8x257 main_cst_4
  let main_v19 : IVec S8x257 1 := cmpf .olt main_v17 main_v18
  let main_c_5 : IVec S_ 1 := constantI S_ 1 1#1
  let main_v20 : IVec S_ 1 := (fun x v => Host.reduce IntOp.andi x v reducesTo_S8x257_S_d0_1 h_S_) main_v19 main_c_5
  let main_v21 : IVec S_ 1 := andi main_v16 main_v20
  main_v21

def fn {F : FTy → Type} [FloatOps F] (main_arg0 : FVec F S32x64x512 .f32) (main_arg1 : FVec F S32x64x1024 .f32) (main_arg2 : FVec F S2x32x512x8x64 .f32) (main_arg3 : FVec F S2x32x512x8x64 .f32) (main_arg4 : FVec F S8x257 .f32) : IVec S_ 1 :=
  let main_v0 : FVec F S32x64x512 .f32 := Host.absf main_arg0
  let main_cst : FVec F S_ .f32 := constant S_ .f32 0x7F800000#32
  let main_v1 : FVec F S32x64x512 .f32 := broadcastInDim S32x64x512 ![] bcast_S_S32x64x512 main_cst
  let main_v2 : IVec S32x64x512 1 := cmpf .olt main_v0 main_v1
  let main_c : IVec S_ 1 := constantI S_ 1 1#1
  let main_v3 : IVec S_ 1 := (fun x v => Host.reduce IntOp.andi x v reducesTo_S32x64x512_S_d0_1_2 h_S_) main_v2 main_c
  let main_v4 : FVec F S32x64x512 .f32 := (extractStridedSlice S32x64x512 ![0, 0, 0] · slices_S32x64x1024_S32x64x512_0_0_0) main_arg1
  let main_v5 : FVec F S32x64x512 .f32 := Host.absf main_v4
  let main_cst_0 : FVec F S_ .f32 := constant S_ .f32 0x7F800000#32
  let main_v6 : FVec F S32x64x512 .f32 := broadcastInDim S32x64x512 ![] bcast_S_S32x64x512 main_cst_0
  let main_v7 : IVec S32x64x512 1 := cmpf .olt main_v5 main_v6
  let main_c_1 : IVec S_ 1 := constantI S_ 1 1#1
  let main_v8 : IVec S_ 1 := (fun x v => Host.reduce IntOp.andi x v reducesTo_S32x64x512_S_d0_1_2 h_S_) main_v7 main_c_1
  let main_v9 : IVec S_ 1 := andi main_v3 main_v8
  let main_v10 : FVec F S1x32x512x8x64 .f32 := (extractStridedSlice S1x32x512x8x64 ![0, 0, 0, 0, 0] · slices_S2x32x512x8x64_S1x32x512x8x64_0_0_0_0_0) main_arg2
  let main_v11 : FVec F S32x512x8x64 .f32 := shapeCast S32x512x8x64 main_v10 shapeCasts_S1x32x512x8x64_S32x512x8x64
  let main_v12 : FVec F S32x512x8x64 .f32 := Host.absf main_v11
  let main_cst_2 : FVec F S_ .f32 := constant S_ .f32 0x7F800000#32
  let main_v13 : FVec F S32x512x8x64 .f32 := broadcastInDim S32x512x8x64 ![] bcast_S_S32x512x8x64 main_cst_2
  let main_v14 : IVec S32x512x8x64 1 := cmpf .olt main_v12 main_v13
  let main_c_3 : IVec S_ 1 := constantI S_ 1 1#1
  let main_v15 : IVec S_ 1 := (fun x v => Host.reduce IntOp.andi x v reducesTo_S32x512x8x64_S_d0_1_2_3 h_S_) main_v14 main_c_3
  let main_v16 : IVec S_ 1 := andi main_v9 main_v15
  let main_v17 : FVec F S8x257 .f32 := Host.absf main_arg4
  fn_part1 (F := F) main_v16 main_v17
-- ==== Pre_in_range.lean ====
abbrev S43 : Shape := ⟨1, ![43]⟩
abbrev S1 : Shape := ⟨1, ![1]⟩
abbrev S22016x1280 : Shape := ⟨2, ![22016, 1280]⟩
abbrev S2x16x1024x256 : Shape := ⟨4, ![2, 16, 1024, 256]⟩
abbrev S2x16x256x1024 : Shape := ⟨4, ![2, 16, 256, 1024]⟩
abbrev S_ : Shape := ⟨0, ![]⟩

class Facts : Prop where
  bcast_S_S43 : S_.BroadcastsInDim S43 (![] : Fin 0 → Fin S43.rank)

variable [Facts]

def fn {F : FTy → Type} [FloatOps F] (main_arg0 : IVec S43 32) (main_arg1 : IVec S1 32) (main_arg2 : FVec F S22016x1280 .bf16) (main_arg3 : FVec F S2x16x1024x256 .f32) (main_arg4 : FVec F S2x16x1024x256 .f32) (main_arg5 : FVec F S2x16x256x1024 .f32) : IVec S43 1 :=
  let main_c : IVec S_ 32 := constantI S_ 32 0#32
  let main_v0 : IVec S43 32 := broadcastInDim S43 ![] bcast_S_S43 main_c
  let main_v1 : IVec S43 1 := cmpi .sge main_arg0 main_v0
  let main_c_0 : IVec S_ 32 := constantI S_ 32 4#32
  let main_v2 : IVec S43 32 := broadcastInDim S43 ![] bcast_S_S43 main_c_0
  let main_v3 : IVec S43 1 := cmpi .slt main_arg0 main_v2
  let main_v4 : IVec S43 1 := andi main_v1 main_v3
  main_v4
-- ==== Kernel.lean ====
abbrev S32x64x512 : Shape := ⟨3, ![32, 64, 512]⟩
abbrev S32x64x1024 : Shape := ⟨3, ![32, 64, 1024]⟩
abbrev S2x32x512x8x64 : Shape := ⟨5, ![2, 32, 512, 8, 64]⟩
abbrev S8x257 : Shape := ⟨2, ![8, 257]⟩
abbrev S2x32x512x512 : Shape := ⟨4, ![2, 32, 512, 512]⟩
abbrev S8x1 : Shape := ⟨2, ![8, 1]⟩
abbrev S8x1x704 : Shape := ⟨3, ![8, 1, 704]⟩
abbrev S8x704 : Shape := ⟨2, ![8, 704]⟩
abbrev S8x1665 : Shape := ⟨2, ![8, 1665]⟩
abbrev S8x577 : Shape := ⟨2, ![8, 577]⟩
abbrev S8x63 : Shape := ⟨2, ![8, 63]⟩
abbrev S8x640 : Shape := ⟨2, ![8, 640]⟩
abbrev S1x8x1x640 : Shape := ⟨4, ![1, 8, 1, 640]⟩
abbrev S1x8x64x640 : Shape := ⟨4, ![1, 8, 64, 640]⟩
abbrev S8x40960 : Shape := ⟨2, ![8, 40960]⟩
abbrev S8x40896 : Shape := ⟨2, ![8, 40896]⟩
abbrev S8x64x639 : Shape := ⟨3, ![8, 64, 639]⟩
abbrev S8x64x576 : Shape := ⟨3, ![8, 64, 576]⟩
abbrev S1x64x512 : Shape := ⟨3, ![1, 64, 512]⟩
abbrev S1x64x1024 : Shape := ⟨3, ![1, 64, 1024]⟩
abbrev S1x1x512x512 : Shape := ⟨4, ![1, 1, 512, 512]⟩
abbrev S64x128 : Shape := ⟨2, ![64, 128]⟩
abbrev S1x64x128 : Shape := ⟨3, ![1, 64, 128]⟩
abbrev S1x1x512x128 : Shape := ⟨4, ![1, 1, 512, 128]⟩
abbrev S512x128 : Shape := ⟨2, ![512, 128]⟩
abbrev S64x512 : Shape := ⟨2, ![64, 512]⟩
abbrev S64x64 : Shape := ⟨2, ![64, 64]⟩
abbrev S1x64x64 : Shape := ⟨3, ![1, 64, 64]⟩
abbrev S64 : Shape := ⟨1, ![64]⟩
abbrev S64x1 : Shape := ⟨2, ![64, 1]⟩

abbrev nBuf : Space → Nat
  | .hbm => 27
  | .vmem => 11
  | .smem => 0
  | _ => 0

abbrev bufTy : (tb : Table) → Fin (tcTables nBuf tb) → BufTy
  | .hbm, ⟨0, _⟩ => ⟨S32x64x512, .f32⟩
  | .hbm, ⟨1, _⟩ => ⟨S32x64x1024, .f32⟩
  | .hbm, ⟨2, _⟩ => ⟨S2x32x512x8x64, .f32⟩
  | .hbm, ⟨3, _⟩ => ⟨S2x32x512x8x64, .f32⟩
  | .hbm, ⟨4, _⟩ => ⟨S8x257, .f32⟩
  | .hbm, ⟨5, _⟩ => ⟨S2x32x512x8x64, .bf16⟩
  | .hbm, ⟨6, _⟩ => ⟨S2x32x512x512, .bf16⟩
  | .hbm, ⟨7, _⟩ => ⟨S2x32x512x8x64, .bf16⟩
  | .hbm, ⟨8, _⟩ => ⟨S2x32x512x512, .bf16⟩
  | .hbm, ⟨9, _⟩ => ⟨S8x1, .f32⟩
  | .hbm, ⟨10, _⟩ => ⟨S8x1x704, .f32⟩
  | .hbm, ⟨11, _⟩ => ⟨S8x704, .f32⟩
  | .hbm, ⟨12, _⟩ => ⟨S8x1, .f32⟩
  | .hbm, ⟨13, _⟩ => ⟨S8x1x704, .f32⟩
  | .hbm, ⟨14, _⟩ => ⟨S8x704, .f32⟩
  | .hbm, ⟨15, _⟩ => ⟨S8x1665, .f32⟩
  | .hbm, ⟨16, _⟩ => ⟨S8x1665, .f32⟩
  | .hbm, ⟨17, _⟩ => ⟨S8x577, .f32⟩
  | .hbm, ⟨18, _⟩ => ⟨S8x63, .f32⟩
  | .hbm, ⟨19, _⟩ => ⟨S8x640, .f32⟩
  | .hbm, ⟨20, _⟩ => ⟨S1x8x1x640, .f32⟩
  | .hbm, ⟨21, _⟩ => ⟨S1x8x64x640, .f32⟩
  | .hbm, ⟨22, _⟩ => ⟨S8x40960, .f32⟩
  | .hbm, ⟨23, _⟩ => ⟨S8x40896, .f32⟩
  | .hbm, ⟨24, _⟩ => ⟨S8x64x639, .f32⟩
  | .hbm, ⟨25, _⟩ => ⟨S8x64x576, .f32⟩
  | .hbm, ⟨26, _⟩ => ⟨S32x64x512, .bf16⟩
  | .local _ .vmem, ⟨0, _⟩ => ⟨S1x64x512, .f32⟩
  | .local _ .vmem, ⟨1, _⟩ => ⟨S1x64x512, .f32⟩
  | .local _ .vmem, ⟨2, _⟩ => ⟨S1x64x1024, .f32⟩
  | .local _ .vmem, ⟨3, _⟩ => ⟨S1x64x1024, .f32⟩
  | .local _ .vmem, ⟨4, _⟩ => ⟨S1x1x512x512, .bf16⟩
  | .local _ .vmem, ⟨5, _⟩ => ⟨S1x1x512x512, .bf16⟩
  | .local _ .vmem, ⟨6, _⟩ => ⟨S1x1x512x512, .bf16⟩
  | .local _ .vmem, ⟨7, _⟩ => ⟨S1x1x512x512, .bf16⟩
  | .local _ .vmem, ⟨8, _⟩ => ⟨S8x64x576, .f32⟩
  | .local _ .vmem, ⟨9, _⟩ => ⟨S1x64x512, .bf16⟩
  | .local _ .vmem, ⟨10, _⟩ => ⟨S1x64x512, .bf16⟩
  | _, _ => ⟨S32x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x64x576 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x64x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "log2e" => some (((Real.log 2)⁻¹ : ℝ) : EReal)
  | "qscale" => some (((1 / 8) * (Real.log 2)⁻¹ : ℝ) : EReal)
  | _ => none
-- ==== ReferenceIdeal.lean ====
abbrev S32x64x512 : Shape := ⟨3, ![32, 64, 512]⟩
abbrev S32x64x1024 : Shape := ⟨3, ![32, 64, 1024]⟩
abbrev S2x32x512x8x64 : Shape := ⟨5, ![2, 32, 512, 8, 64]⟩
abbrev S8x257 : Shape := ⟨2, ![8, 257]⟩
abbrev S32x64x8x64 : Shape := ⟨4, ![32, 64, 8, 64]⟩
abbrev S1x32x512x8x64 : Shape := ⟨5, ![1, 32, 512, 8, 64]⟩
abbrev S32x512x8x64 : Shape := ⟨4, ![32, 512, 8, 64]⟩
abbrev S32x576x8x64 : Shape := ⟨4, ![32, 576, 8, 64]⟩
abbrev S32x1x576x8x64 : Shape := ⟨5, ![32, 1, 576, 8, 64]⟩
abbrev S64 : Shape := ⟨1, ![64]⟩
abbrev S_ : Shape := ⟨0, ![]⟩
abbrev S576 : Shape := ⟨1, ![576]⟩
abbrev S1x64x576 : Shape := ⟨3, ![1, 64, 576]⟩
abbrev S32x1x64x8x64 : Shape := ⟨5, ![32, 1, 64, 8, 64]⟩
abbrev S64x1 : Shape := ⟨2, ![64, 1]⟩
abbrev S1x576 : Shape := ⟨2, ![1, 576]⟩
abbrev S64x576 : Shape := ⟨2, ![64, 576]⟩
abbrev S64x576x1 : Shape := ⟨3, ![64, 576, 1]⟩
abbrev S8x64x576 : Shape := ⟨3, ![8, 64, 576]⟩
abbrev S32x1x8x64x576 : Shape := ⟨5, ![32, 1, 8, 64, 576]⟩
abbrev S1x1x8x64x576 : Shape := ⟨5, ![1, 1, 8, 64, 576]⟩
abbrev S1x1x1x64x576 : Shape := ⟨5, ![1, 1, 1, 64, 576]⟩
abbrev S32x1x8x64 : Shape := ⟨4, ![32, 1, 8, 64]⟩
abbrev S32x1x8x64x1 : Shape := ⟨5, ![32, 1, 8, 64, 1]⟩
abbrev S32x1x8x64x64 : Shape := ⟨5, ![32, 1, 8, 64, 64]⟩

abbrev nBuf : Space → Nat
  | .hbm => 81
  | .vmem => 0
  | .smem => 0
  | _ => 0

abbrev bufTy : (tb : Table) → Fin (tcTables nBuf tb) → BufTy
  | .hbm, ⟨0, _⟩ => ⟨S32x64x512, .f32⟩
  | .hbm, ⟨1, _⟩ => ⟨S32x64x1024, .f32⟩
  | .hbm, ⟨2, _⟩ => ⟨S2x32x512x8x64, .f32⟩
  | .hbm, ⟨3, _⟩ => ⟨S2x32x512x8x64, .f32⟩
  | .hbm, ⟨4, _⟩ => ⟨S8x257, .f32⟩
  | .hbm, ⟨5, _⟩ => ⟨S32x64x512, .f32⟩
  | .hbm, ⟨6, _⟩ => ⟨S32x64x8x64, .f32⟩
  | .hbm, ⟨7, _⟩ => ⟨S32x64x512, .f32⟩
  | .hbm, ⟨8, _⟩ => ⟨S32x64x8x64, .f32⟩
  | .hbm, ⟨9, _⟩ => ⟨S1x32x512x8x64, .f32⟩
  | .hbm, ⟨10, _⟩ => ⟨S32x512x8x64, .f32⟩
  | .hbm, ⟨11, _⟩ => ⟨S1x32x512x8x64, .f32⟩
  | .hbm, ⟨12, _⟩ => ⟨S32x512x8x64, .f32⟩
  | .hbm, ⟨13, _⟩ => ⟨S32x576x8x64, .f32⟩
  | .hbm, ⟨14, _⟩ => ⟨S32x1x576x8x64, .f32⟩
  | .hbm, ⟨15, _⟩ => ⟨S32x576x8x64, .f32⟩
  | .hbm, ⟨16, _⟩ => ⟨S32x1x576x8x64, .f32⟩
  | .hbm, ⟨17, _⟩ => ⟨S64, .i32⟩
  | .hbm, ⟨18, _⟩ => ⟨S_, .i32⟩
  | .hbm, ⟨19, _⟩ => ⟨S64, .i32⟩
  | .hbm, ⟨20, _⟩ => ⟨S64, .i32⟩
  | .hbm, ⟨21, _⟩ => ⟨S576, .i32⟩
  | .hbm, ⟨22, _⟩ => ⟨S_, .i1⟩
  | .hbm, ⟨23, _⟩ => ⟨S1x64x576, .i1⟩
  | .hbm, ⟨24, _⟩ => ⟨S32x1x64x8x64, .f32⟩
  | .hbm, ⟨25, _⟩ => ⟨S64x1, .i32⟩
  | .hbm, ⟨26, _⟩ => ⟨S1x576, .i32⟩
  | .hbm, ⟨27, _⟩ => ⟨S64x576, .i32⟩
  | .hbm, ⟨28, _⟩ => ⟨S64x576, .i32⟩
  | .hbm, ⟨29, _⟩ => ⟨S64x576, .i32⟩
  | .hbm, ⟨30, _⟩ => ⟨S_, .i32⟩
  | .hbm, ⟨31, _⟩ => ⟨S_, .i32⟩
  | .hbm, ⟨32, _⟩ => ⟨S_, .i32⟩
  | .hbm, ⟨33, _⟩ => ⟨S64x576, .i32⟩
  | .hbm, ⟨34, _⟩ => ⟨S64x576, .i32⟩
  | .hbm, ⟨35, _⟩ => ⟨S_, .i32⟩
  | .hbm, ⟨36, _⟩ => ⟨S64x576, .i32⟩
  | .hbm, ⟨37, _⟩ => ⟨S64x576, .i32⟩
  | .hbm, ⟨38, _⟩ => ⟨S_, .i32⟩
  | .hbm, ⟨39, _⟩ => ⟨S64x576, .i32⟩
  | .hbm, ⟨40, _⟩ => ⟨S64x576, .i32⟩
  | .hbm, ⟨41, _⟩ => ⟨S_, .i32⟩
  | .hbm, ⟨42, _⟩ => ⟨S64x576, .i32⟩
  | .hbm, ⟨43, _⟩ => ⟨S64x576, .i1⟩
  | .hbm, ⟨44, _⟩ => ⟨S_, .i32⟩
  | .hbm, ⟨45, _⟩ => ⟨S64x576, .i32⟩
  | .hbm, ⟨46, _⟩ => ⟨S64x576, .i32⟩
  | .hbm, ⟨47, _⟩ => ⟨S64x576, .i32⟩
  | .hbm, ⟨48, _⟩ => ⟨S64x576x1, .i32⟩
  | .hbm, ⟨49, _⟩ => ⟨S8x64x576, .f32⟩
  | .hbm, ⟨50, _⟩ => ⟨S32x1x8x64x576, .f32⟩
  | .hbm, ⟨51, _⟩ => ⟨S_, .f32⟩
  | .hbm, ⟨52, _⟩ => ⟨S32x1x8x64x576, .f32⟩
  | .hbm, ⟨53, _⟩ => ⟨S32x1x8x64x576, .f32⟩
  | .hbm, ⟨54, _⟩ => ⟨S1x1x8x64x576, .f32⟩
  | .hbm, ⟨55, _⟩ => ⟨S32x1x8x64x576, .f32⟩
  | .hbm, ⟨56, _⟩ => ⟨S32x1x8x64x576, .f32⟩
  | .hbm, ⟨57, _⟩ => ⟨S1x1x1x64x576, .i1⟩
  | .hbm, ⟨58, _⟩ => ⟨S_, .f32⟩
  | .hbm, ⟨59, _⟩ => ⟨S_, .f32⟩
  | .hbm, ⟨60, _⟩ => ⟨S32x1x8x64x576, .i1⟩
  | .hbm, ⟨61, _⟩ => ⟨S32x1x8x64x576, .f32⟩
  | .hbm, ⟨62, _⟩ => ⟨S32x1x8x64x576, .f32⟩
  | .hbm, ⟨63, _⟩ => ⟨S_, .f32⟩
  | .hbm, ⟨64, _⟩ => ⟨S32x1x8x64, .f32⟩
  | .hbm, ⟨65, _⟩ => ⟨S_, .f32⟩
  | .hbm, ⟨66, _⟩ => ⟨S32x1x8x64, .f32⟩
  | .hbm, ⟨67, _⟩ => ⟨S32x1x8x64, .f32⟩
  | .hbm, ⟨68, _⟩ => ⟨S32x1x8x64x1, .f32⟩
  | .hbm, ⟨69, _⟩ => ⟨S32x1x8x64x576, .f32⟩
  | .hbm, ⟨70, _⟩ => ⟨S32x1x8x64x576, .f32⟩
  | .hbm, ⟨71, _⟩ => ⟨S32x1x8x64x576, .f32⟩
  | .hbm, ⟨72, _⟩ => ⟨S_, .f32⟩
  | .hbm, ⟨73, _⟩ => ⟨S32x1x8x64, .f32⟩
  | .hbm, ⟨74, _⟩ => ⟨S32x1x8x64x1, .f32⟩
  | .hbm, ⟨75, _⟩ => ⟨S32x1x8x64x576, .f32⟩
  | .hbm, ⟨76, _⟩ => ⟨S32x1x8x64x576, .f32⟩
  | .hbm, ⟨77, _⟩ => ⟨S32x1x8x64x64, .f32⟩
  | .hbm, ⟨78, _⟩ => ⟨S32x1x64x8x64, .f32⟩
  | .hbm, ⟨79, _⟩ => ⟨S32x64x512, .f32⟩
  | .hbm, ⟨80, _⟩ => ⟨S32x64x512, .bf16⟩
  | _, _ => ⟨S32x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_1 : Ref sig .tc := ⟨.hbm, 30, rfl⟩
abbrev main_c_2 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_v23 : Ref sig .tc := ⟨.hbm, 37, rfl⟩
abbrev main_c_3 : Ref sig .tc := ⟨.hbm, 38, rfl⟩
abbrev main_v24 : Ref sig .tc := ⟨.hbm, 39, rfl⟩
abbrev main_v25 : Ref sig .tc := ⟨.hbm, 40, rfl⟩
abbrev main_c_4 : Ref sig .tc := ⟨.hbm, 41, rfl⟩
abbrev main_v26 : Ref sig .tc := ⟨.hbm, 42, rfl⟩
abbrev main_v27 : Ref sig .tc := ⟨.hbm, 43, rfl⟩
abbrev main_c_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_6 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v40 : Ref sig .tc := ⟨.hbm, 62, rfl⟩
abbrev main_cst_7 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩

abbrev nD : Nat := 1
abbrev τ : Topo := Topo.v7x

variable {F : FTy → Type} [FloatOps F]
-- ==== Kernel2.lean ====
abbrev S43 : Shape := ⟨1, ![43]⟩
abbrev S1 : Shape := ⟨1, ![1]⟩
abbrev S22016x1280 : Shape := ⟨2, ![22016, 1280]⟩
abbrev S2x16x1024x256 : Shape := ⟨4, ![2, 16, 1024, 256]⟩
abbrev S2x16x256x1024 : Shape := ⟨4, ![2, 16, 256, 1024]⟩
abbrev S22016x1024 : Shape := ⟨2, ![22016, 1024]⟩
abbrev S512x1280 : Shape := ⟨2, ![512, 1280]⟩
abbrev S1x4x1024x256 : Shape := ⟨4, ![1, 4, 1024, 256]⟩
abbrev S1x4x256x1024 : Shape := ⟨4, ![1, 4, 256, 1024]⟩
abbrev S512x1024 : Shape := ⟨2, ![512, 1024]⟩
abbrev S4x1024x256 : Shape := ⟨3, ![4, 1024, 256]⟩
abbrev S4x256x1024 : Shape := ⟨3, ![4, 256, 1024]⟩
abbrev S512x128 : Shape := ⟨2, ![512, 128]⟩
abbrev S512 : Shape := ⟨1, ![512]⟩
abbrev S512x1 : Shape := ⟨2, ![512, 1]⟩
abbrev S1x1024x256 : Shape := ⟨3, ![1, 1024, 256]⟩
abbrev S1024x256 : Shape := ⟨2, ![1024, 256]⟩
abbrev S512x256 : Shape := ⟨2, ![512, 256]⟩
abbrev S1x256x1024 : Shape := ⟨3, ![1, 256, 1024]⟩
abbrev S256x1024 : Shape := ⟨2, ![256, 1024]⟩

abbrev nBuf : Space → Nat
  | .hbm => 5
  | .vmem => 13
  | .smem => 2
  | _ => 0

abbrev bufTy : (tb : Table) → Fin (tcTables nBuf tb) → BufTy
  | .hbm, ⟨0, _⟩ => ⟨S22016x1280, .bf16⟩
  | .hbm, ⟨1, _⟩ => ⟨S2x16x1024x256, .f32⟩
  | .hbm, ⟨2, _⟩ => ⟨S2x16x1024x256, .f32⟩
  | .hbm, ⟨3, _⟩ => ⟨S2x16x256x1024, .f32⟩
  | .hbm, ⟨4, _⟩ => ⟨S22016x1024, .f32⟩
  | .local _ .vmem, ⟨0, _⟩ => ⟨S512x1280, .bf16⟩
  | .local _ .vmem, ⟨1, _⟩ => ⟨S512x1280, .bf16⟩
  | .local _ .vmem, ⟨2, _⟩ => ⟨S1x4x1024x256, .f32⟩
  | .local _ .vmem, ⟨3, _⟩ => ⟨S1x4x1024x256, .f32⟩
  | .local _ .vmem, ⟨4, _⟩ => ⟨S1x4x1024x256, .f32⟩
  | .local _ .vmem, ⟨5, _⟩ => ⟨S1x4x1024x256, .f32⟩
  | .local _ .vmem, ⟨6, _⟩ => ⟨S1x4x256x1024, .f32⟩
  | .local _ .vmem, ⟨7, _⟩ => ⟨S1x4x256x1024, .f32⟩
  | .local _ .vmem, ⟨8, _⟩ => ⟨S512x1024, .f32⟩
  | .local _ .vmem, ⟨9, _⟩ => ⟨S512x1024, .f32⟩
  | .local _ .vmem, ⟨10, _⟩ => ⟨S4x1024x256, .bf16⟩
  | .local _ .vmem, ⟨11, _⟩ => ⟨S4x1024x256, .bf16⟩
  | .local _ .vmem, ⟨12, _⟩ => ⟨S4x256x1024, .bf16⟩
  | .local _ .smem, ⟨0, _⟩ => ⟨S43, .i32⟩
  | .local _ .smem, ⟨1, _⟩ => ⟨S1, .i32⟩
  | _, _ => ⟨S22016x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![43], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_off3 (i : grid0.Coords) : Fin 1 → Nat :=
  let arg0 : BitVec 32 := BitVec.ofNat 32 (i 0).val
  let v26 : Index := Scalar.indexCast arg0
  ![v26.toNat]
def k0_cond2 (i : grid0.Coords) (v11 : BitVec 32) : BitVec 1 :=
  let arg0 : BitVec 32 := BitVec.ofNat 32 (i 0).val
  let v12 : BitVec 1 := Scalar.cmpi .sge arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .slt arg0 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S43.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S43) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S43.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S43) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S43.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S43) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S43 : Shape := ⟨1, ![43]⟩
abbrev S1 : Shape := ⟨1, ![1]⟩
abbrev S22016x1280 : Shape := ⟨2, ![22016, 1280]⟩
abbrev S2x16x1024x256 : Shape := ⟨4, ![2, 16, 1024, 256]⟩
abbrev S2x16x256x1024 : Shape := ⟨4, ![2, 16, 256, 1024]⟩
abbrev S22016x1024 : Shape := ⟨2, ![22016, 1024]⟩
abbrev S22016x128 : Shape := ⟨2, ![22016, 128]⟩
abbrev S22016 : Shape := ⟨1, ![22016]⟩
abbrev S_ : Shape := ⟨0, ![]⟩
abbrev S16 : Shape := ⟨1, ![16]⟩
abbrev S22016x1 : Shape := ⟨2, ![22016, 1]⟩
abbrev S1x16 : Shape := ⟨2, ![1, 16]⟩
abbrev S22016x16 : Shape := ⟨2, ![22016, 16]⟩
abbrev S1x16x1024x256 : Shape := ⟨4, ![1, 16, 1024, 256]⟩
abbrev S16x1024x256 : Shape := ⟨3, ![16, 1024, 256]⟩
abbrev S22016x16x256 : Shape := ⟨3, ![22016, 16, 256]⟩
abbrev S22016x16x1 : Shape := ⟨3, ![22016, 16, 1]⟩
abbrev S1x16x256x1024 : Shape := ⟨4, ![1, 16, 256, 1024]⟩
abbrev S16x256x1024 : Shape := ⟨3, ![16, 256, 1024]⟩

abbrev nBuf : Space → Nat
  | .hbm => 98
  | .vmem => 0
  | .smem => 0
  | _ => 0

abbrev bufTy : (tb : Table) → Fin (tcTables nBuf tb) → BufTy
  | .hbm, ⟨0, _⟩ => ⟨S43, .i32⟩
  | .hbm, ⟨1, _⟩ => ⟨S1, .i32⟩
  | .hbm, ⟨2, _⟩ => ⟨S22016x1280, .bf16⟩
  | .hbm, ⟨3, _⟩ => ⟨S2x16x1024x256, .f32⟩
  | .hbm, ⟨4, _⟩ => ⟨S2x16x1024x256, .f32⟩
  | .hbm, ⟨5, _⟩ => ⟨S2x16x256x1024, .f32⟩
  | .hbm, ⟨6, _⟩ => ⟨S22016x1024, .bf16⟩
  | .hbm, ⟨7, _⟩ => ⟨S22016x1024, .f32⟩
  | .hbm, ⟨8, _⟩ => ⟨S22016x128, .bf16⟩
  | .hbm, ⟨9, _⟩ => ⟨S22016x128, .f32⟩
  | .hbm, ⟨10, _⟩ => ⟨S22016x128, .bf16⟩
  | .hbm, ⟨11, _⟩ => ⟨S22016x128, .f32⟩
  | .hbm, ⟨12, _⟩ => ⟨S22016x128, .f32⟩
  | .hbm, ⟨13, _⟩ => ⟨S22016, .i32⟩
  | .hbm, ⟨14, _⟩ => ⟨S_, .i32⟩
  | .hbm, ⟨15, _⟩ => ⟨S_, .i32⟩
  | .hbm, ⟨16, _⟩ => ⟨S22016, .i32⟩
  | .hbm, ⟨17, _⟩ => ⟨S22016, .i32⟩
  | .hbm, ⟨18, _⟩ => ⟨S22016, .i32⟩
  | .hbm, ⟨19, _⟩ => ⟨S_, .i32⟩
  | .hbm, ⟨20, _⟩ => ⟨S22016, .i32⟩
  | .hbm, ⟨21, _⟩ => ⟨S22016, .i1⟩
  | .hbm, ⟨22, _⟩ => ⟨S22016, .i32⟩
  | .hbm, ⟨23, _⟩ => ⟨S22016, .i32⟩
  | .hbm, ⟨24, _⟩ => ⟨S_, .i32⟩
  | .hbm, ⟨25, _⟩ => ⟨S22016, .i32⟩
  | .hbm, ⟨26, _⟩ => ⟨S22016, .i1⟩
  | .hbm, ⟨27, _⟩ => ⟨S22016, .i1⟩
  | .hbm, ⟨28, _⟩ => ⟨S_, .i32⟩
  | .hbm, ⟨29, _⟩ => ⟨S22016, .i32⟩
  | .hbm, ⟨30, _⟩ => ⟨S22016, .i32⟩
  | .hbm, ⟨31, _⟩ => ⟨S22016, .i32⟩
  | .hbm, ⟨32, _⟩ => ⟨S16, .i32⟩
  | .hbm, ⟨33, _⟩ => ⟨S_, .i32⟩
  | .hbm, ⟨34, _⟩ => ⟨S22016, .i32⟩
  | .hbm, ⟨35, _⟩ => ⟨S22016, .i1⟩
  | .hbm, ⟨36, _⟩ => ⟨S_, .i32⟩
  | .hbm, ⟨37, _⟩ => ⟨S22016, .i32⟩
  | .hbm, ⟨38, _⟩ => ⟨S22016, .i32⟩
  | .hbm, ⟨39, _⟩ => ⟨S22016, .i32⟩
  | .hbm, ⟨40, _⟩ => ⟨S22016x1, .i32⟩
  | .hbm, ⟨41, _⟩ => ⟨S22016, .i32⟩
  | .hbm, ⟨42, _⟩ => ⟨S22016x1, .i32⟩
  | .hbm, ⟨43, _⟩ => ⟨S1x16, .i32⟩
  | .hbm, ⟨44, _⟩ => ⟨S_, .i32⟩
  | .hbm, ⟨45, _⟩ => ⟨S_, .i32⟩
  | .hbm, ⟨46, _⟩ => ⟨S1x16, .i32⟩
  | .hbm, ⟨47, _⟩ => ⟨S1x16, .i32⟩
  | .hbm, ⟨48, _⟩ => ⟨S1x16, .i32⟩
  | .hbm, ⟨49, _⟩ => ⟨S_, .i32⟩
  | .hbm, ⟨50, _⟩ => ⟨S1x16, .i32⟩
  | .hbm, ⟨51, _⟩ => ⟨S1x16, .i1⟩
  | .hbm, ⟨52, _⟩ => ⟨S1x16, .i32⟩
  | .hbm, ⟨53, _⟩ => ⟨S1x16, .i32⟩
  | .hbm, ⟨54, _⟩ => ⟨S_, .i32⟩
  | .hbm, ⟨55, _⟩ => ⟨S1x16, .i32⟩
  | .hbm, ⟨56, _⟩ => ⟨S1x16, .i1⟩
  | .hbm, ⟨57, _⟩ => ⟨S1x16, .i1⟩
  | .hbm, ⟨58, _⟩ => ⟨S_, .i32⟩
  | .hbm, ⟨59, _⟩ => ⟨S1x16, .i32⟩
  | .hbm, ⟨60, _⟩ => ⟨S1x16, .i32⟩
  | .hbm, ⟨61, _⟩ => ⟨S1x16, .i32⟩
  | .hbm, ⟨62, _⟩ => ⟨S22016x16, .i32⟩
  | .hbm, ⟨63, _⟩ => ⟨S22016x16, .i32⟩
  | .hbm, ⟨64, _⟩ => ⟨S22016x16, .i1⟩
  | .hbm, ⟨65, _⟩ => ⟨S22016x1, .i32⟩
  | .hbm, ⟨66, _⟩ => ⟨S_, .i32⟩
  | .hbm, ⟨67, _⟩ => ⟨S22016x1, .i32⟩
  | .hbm, ⟨68, _⟩ => ⟨S22016x1, .i1⟩
  | .hbm, ⟨69, _⟩ => ⟨S22016x16, .i1⟩
  | .hbm, ⟨70, _⟩ => ⟨S22016x16, .i1⟩
  | .hbm, ⟨71, _⟩ => ⟨S22016x16, .f32⟩
  | .hbm, ⟨72, _⟩ => ⟨S_, .f32⟩
  | .hbm, ⟨73, _⟩ => ⟨S_, .f32⟩
  | .hbm, ⟨74, _⟩ => ⟨S22016x16, .f32⟩
  | .hbm, ⟨75, _⟩ => ⟨S22016x16, .f32⟩
  | .hbm, ⟨76, _⟩ => ⟨S1x16x1024x256, .f32⟩
  | .hbm, ⟨77, _⟩ => ⟨S16x1024x256, .f32⟩
  | .hbm, ⟨78, _⟩ => ⟨S22016x16x256, .f32⟩
  | .hbm, ⟨79, _⟩ => ⟨S22016x16x256, .f32⟩
  | .hbm, ⟨80, _⟩ => ⟨S22016x16x256, .f32⟩
  | .hbm, ⟨81, _⟩ => ⟨S_, .f32⟩
  | .hbm, ⟨82, _⟩ => ⟨S22016x16x256, .f32⟩
  | .hbm, ⟨83, _⟩ => ⟨S22016x16x256, .f32⟩
  | .hbm, ⟨84, _⟩ => ⟨S_, .f32⟩
  | .hbm, ⟨85, _⟩ => ⟨S22016x16x256, .f32⟩
  | .hbm, ⟨86, _⟩ => ⟨S22016x16x256, .f32⟩
  | .hbm, ⟨87, _⟩ => ⟨S22016x16x256, .f32⟩
  | .hbm, ⟨88, _⟩ => ⟨S1x16x1024x256, .f32⟩
  | .hbm, ⟨89, _⟩ => ⟨S16x1024x256, .f32⟩
  | .hbm, ⟨90, _⟩ => ⟨S22016x16x256, .f32⟩
  | .hbm, ⟨91, _⟩ => ⟨S22016x16x256, .f32⟩
  | .hbm, ⟨92, _⟩ => ⟨S22016x16x1, .f32⟩
  | .hbm, ⟨93, _⟩ => ⟨S22016x16x256, .f32⟩
  | .hbm, ⟨94, _⟩ => ⟨S22016x16x256, .f32⟩
  | .hbm, ⟨95, _⟩ => ⟨S1x16x256x1024, .f32⟩
  | .hbm, ⟨96, _⟩ => ⟨S16x256x1024, .f32⟩
  | .hbm, ⟨97, _⟩ => ⟨S22016x1024, .f32⟩
  | _, _ => ⟨S43, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v8 : Ref sig .tc := ⟨.hbm, 31, rfl⟩
abbrev main_v9 : Ref sig .tc := ⟨.hbm, 32, rfl⟩
abbrev main_c_0 : Ref sig .tc := ⟨.hbm, 33, rfl⟩
abbrev main_v10 : Ref sig .tc := ⟨.hbm, 34, rfl⟩
abbrev main_v11 : Ref sig .tc := ⟨.hbm, 35, rfl⟩
abbrev main_c_1 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_2 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_c : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_0 : Ref sig .tc := ⟨.hbm, 58, rfl⟩
abbrev main_call1_v12 : Ref sig .tc := ⟨.hbm, 59, rfl⟩
abbrev main_call1_v13 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_cst : Ref sig .tc := ⟨.hbm, 72, rfl⟩
abbrev main_call2_v0 : Ref sig .tc := ⟨.hbm, 73, rfl⟩
abbrev main_call2_v1 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_call3_v0 : Ref sig .tc := ⟨.hbm, 79, rfl⟩
abbrev main_call3_v1 : Ref sig .tc := ⟨.hbm, 80, rfl⟩
abbrev main_call3_cst : Ref sig .tc := ⟨.hbm, 81, rfl⟩
abbrev main_call3_v2 : Ref sig .tc := ⟨.hbm, 82, rfl⟩
abbrev main_call3_v3 : Ref sig .tc := ⟨.hbm, 83, rfl⟩
abbrev main_call3_cst_0 : Ref sig .tc := ⟨.hbm, 84, rfl⟩
abbrev main_call3_v4 : Ref sig .tc := ⟨.hbm, 85, rfl⟩
abbrev main_call3_v5 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩

abbrev nD : Nat := 1
abbrev τ : Topo := Topo.v7x

variable {F : FTy → Type} [FloatOps F]
-- ==== Kernel3.lean ====
abbrev S16384x1024 : Shape := ⟨2, ![16384, 1024]⟩
abbrev S16384x512 : Shape := ⟨2, ![16384, 512]⟩
abbrev S16384x256 : Shape := ⟨2, ![16384, 256]⟩
abbrev S2x1024x1024 : Shape := ⟨3, ![2, 1024, 1024]⟩
abbrev S1x1024 : Shape := ⟨2, ![1, 1024]⟩
abbrev S1024x128 : Shape := ⟨2, ![1024, 128]⟩
abbrev S1x128 : Shape := ⟨2, ![1, 128]⟩
abbrev S16384x128 : Shape := ⟨2, ![16384, 128]⟩
abbrev S512x1024 : Shape := ⟨2, ![512, 1024]⟩
abbrev S512x512 : Shape := ⟨2, ![512, 512]⟩
abbrev S512x256 : Shape := ⟨2, ![512, 256]⟩
abbrev S1x1024x1024 : Shape := ⟨3, ![1, 1024, 1024]⟩
abbrev S512x128 : Shape := ⟨2, ![512, 128]⟩
abbrev S1024x1024 : Shape := ⟨2, ![1024, 1024]⟩
abbrev S1x128x1024 : Shape := ⟨3, ![1, 128, 1024]⟩
abbrev S128x1024 : Shape := ⟨2, ![128, 1024]⟩
abbrev S256x512 : Shape := ⟨2, ![256, 512]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩
abbrev S256x128 : Shape := ⟨2, ![256, 128]⟩
abbrev S128 : Shape := ⟨1, ![128]⟩
abbrev S1 : Shape := ⟨1, ![1]⟩
abbrev S1x1 : Shape := ⟨2, ![1, 1]⟩

abbrev nBuf : Space → Nat
  | .hbm => 12
  | .vmem => 20
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x256, .bf16⟩
  | .hbm, ⟨3, _⟩ => ⟨S16384x256, .bf16⟩
  | .hbm, ⟨4, _⟩ => ⟨S2x1024x1024, .f32⟩
  | .hbm, ⟨5, _⟩ => ⟨S1x1024, .f32⟩
  | .hbm, ⟨6, _⟩ => ⟨S1024x128, .bf16⟩
  | .hbm, ⟨7, _⟩ => ⟨S1024x128, .bf16⟩
  | .hbm, ⟨8, _⟩ => ⟨S1x128, .f32⟩
  | .hbm, ⟨9, _⟩ => ⟨S16384x1024, .f32⟩
  | .hbm, ⟨10, _⟩ => ⟨S16384x1024, .bf16⟩
  | .hbm, ⟨11, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S1x1024x1024, .f32⟩
  | .local _ .vmem, ⟨9, _⟩ => ⟨S1x1024, .f32⟩
  | .local _ .vmem, ⟨10, _⟩ => ⟨S1024x128, .bf16⟩
  | .local _ .vmem, ⟨11, _⟩ => ⟨S1024x128, .bf16⟩
  | .local _ .vmem, ⟨12, _⟩ => ⟨S1x128, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x128, .f32⟩
  | .local _ .vmem, ⟨18, _⟩ => ⟨S512x128, .f32⟩
  | .local _ .vmem, ⟨19, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S16384x1024 : Shape := ⟨2, ![16384, 1024]⟩
abbrev S16384x512 : Shape := ⟨2, ![16384, 512]⟩
abbrev S16384x256 : Shape := ⟨2, ![16384, 256]⟩
abbrev S2x1024x1024 : Shape := ⟨3, ![2, 1024, 1024]⟩
abbrev S1x1024 : Shape := ⟨2, ![1, 1024]⟩
abbrev S1024x128 : Shape := ⟨2, ![1024, 128]⟩
abbrev S1x128 : Shape := ⟨2, ![1, 128]⟩
abbrev S1x1024x1024 : Shape := ⟨3, ![1, 1024, 1024]⟩
abbrev S1024x1024 : Shape := ⟨2, ![1024, 1024]⟩
abbrev S1024 : Shape := ⟨1, ![1024]⟩
abbrev S_ : Shape := ⟨0, ![]⟩
abbrev S16384 : Shape := ⟨1, ![16384]⟩
abbrev S16384x1 : Shape := ⟨2, ![16384, 1]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x512, .bf16⟩
  | .hbm, ⟨2, _⟩ => ⟨S16384x256, .bf16⟩
  | .hbm, ⟨3, _⟩ => ⟨S16384x256, .bf16⟩
  | .hbm, ⟨4, _⟩ => ⟨S2x1024x1024, .f32⟩
  | .hbm, ⟨5, _⟩ => ⟨S1x1024, .f32⟩
  | .hbm, ⟨6, _⟩ => ⟨S1024x128, .bf16⟩
  | .hbm, ⟨7, _⟩ => ⟨S1024x128, .bf16⟩
  | .hbm, ⟨8, _⟩ => ⟨S1x128, .f32⟩
  | .hbm, ⟨9, _⟩ => ⟨S16384x512, .f32⟩
  | .hbm, ⟨10, _⟩ => ⟨S16384x256, .f32⟩
  | .hbm, ⟨11, _⟩ => ⟨S16384x256, .f32⟩
  | .hbm, ⟨12, _⟩ => ⟨S16384x1024, .f32⟩
  | .hbm, ⟨13, _⟩ => ⟨S1x1024x1024, .f32⟩
  | .hbm, ⟨14, _⟩ => ⟨S1024x1024, .f32⟩
  | .hbm, ⟨15, _⟩ => ⟨S16384x1024, .f32⟩
  | .hbm, ⟨16, _⟩ => ⟨S16384x1024, .f32⟩
  | .hbm, ⟨17, _⟩ => ⟨S1024, .f32⟩
  | .hbm, ⟨18, _⟩ => ⟨S16384x1024, .f32⟩
  | .hbm, ⟨19, _⟩ => ⟨S_, .f32⟩
  | .hbm, ⟨20, _⟩ => ⟨S16384, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S16384x1, .f32⟩
  | .hbm, ⟨29, _⟩ => ⟨S16384x1024, .f32⟩
  | .hbm, ⟨30, _⟩ => ⟨S16384x1024, .f32⟩
  | .hbm, ⟨31, _⟩ => ⟨S1x1024, .f32⟩
  | .hbm, ⟨32, _⟩ => ⟨S16384x1024, .f32⟩
  | .hbm, ⟨33, _⟩ => ⟨S16384x1024, .f32⟩
  | .hbm, ⟨34, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_cst_0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩

abbrev nD : Nat := 1
abbrev τ : Topo := Topo.v7x

variable {F : FTy → Type} [FloatOps F]
-- ==== Proof.Softmax.lean ====
/- The arithmetic of one attention row over the extended reals, with no program in it: a softmax may be taken in base 2
   after its scores are scaled by `1 / ln 2`, may be normalised by any finite shift, may be summed in two parts, and may
   be divided after the weighted sum instead of before it. -/
module

public import Idealize.ShloMosaic.Lib.Pointwise

@[expose] public section

noncomputable section

namespace Cert.Softmax

open Idealize.ShloMosaic

/-- The factor by which a score is scaled before it is read in base 2. -/
def c : ℝ := (Real.log 2)⁻¹

/-- The factor is positive. -/
theorem c_pos : 0 < c := inv_pos.mpr (Real.log_pos (by norm_num))

/-- The base-2 exponential of a scaled real is its exponential. -/
theorem exp2_scaled (r : ℝ) : Ideal.exp2 ((r * c : ℝ) : EReal) = ((Real.exp r : ℝ) : EReal) := by
  show ((Real.rpow 2 (r * c) : ℝ) : EReal) = _
  congr 1
  show (2 : ℝ) ^ (r * c) = _
  rw [Real.rpow_def_of_pos (by norm_num)]
  congr 1
  have h : Real.log 2 ≠ 0 := (Real.log_pos (by norm_num)).ne'
  unfold c
  field_simp

/-- The exponential of a real. -/
theorem exp_real (r : ℝ) : Ideal.exp (r : EReal) = ((Real.exp r : ℝ) : EReal) := rfl

/-- The maximum of finitely many reals, at least one, is a real. -/
theorem fold_max_real {n : ℕ} [NeZero n] (f : Fin n → ℝ) :
    ∃ M : ℝ, Finset.univ.fold max (⊥ : EReal) (fun i => ((f i : ℝ) : EReal)) = M := by
  have h : Finset.univ.fold max (⊥ : EReal) (fun i => ((f i : ℝ) : EReal)) = Finset.univ.sup fun i => ((f i : ℝ) : EReal) := rfl
  obtain ⟨i, -, hi⟩ := Finset.exists_mem_eq_sup (Finset.univ : Finset (Fin n)) ⟨⟨0, NeZero.pos n⟩, Finset.mem_univ _⟩
    fun i => ((f i : ℝ) : EReal)
  exact ⟨f i, h.trans hi⟩

/-- A finite nonnegative factor on the right distributes over a sum. -/
theorem sum_mul_real {ι : Type*} (s : Finset ι) (f : ι → EReal) {a : ℝ} (ha : 0 ≤ a) :
    (∑ i ∈ s, f i) * (a : EReal) = ∑ i ∈ s, f i * (a : EReal) := by
  classical
  induction s using Finset.induction_on with
  | empty => simp
  | insert i s hi ih =>
    rw [Finset.sum_insert hi, Finset.sum_insert hi, ← ih]
    exact EReal.right_distrib_of_nonneg_of_ne_top (by exact_mod_cast ha) (EReal.coe_ne_top a) _ _

/-- A sum of reals is real. -/
theorem sum_real {ι : Type*} (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- Division by a positive real is the product with its inverse. -/
theorem div_real (x : EReal) {a : ℝ} (ha : 0 < a) : Ideal.div x (a : EReal) = x * ((a⁻¹ : ℝ) : EReal) := by
  unfold Ideal.div
  rw [if_neg (by exact_mod_cast ha.ne'), EReal.coe_inv]

/-- A weighted mean with positive real weights: scaling every weight by `a` and dividing at the end gives the mean with
    the weights divided first. -/
theorem mean_scaled {n : ℕ} [NeZero n] (e : Fin n → ℝ) (he : ∀ i, 0 < e i) (v : Fin n → EReal) {a : ℝ} (ha : 0 < a) :
    Ideal.div (∑ i, ((a * e i : ℝ) : EReal) * v i) (((∑ i, a * e i : ℝ)) : EReal)
      = ∑ i, v i * ((e i * (∑ i, e i)⁻¹ : ℝ) : EReal) := by
  have hN : 0 < ∑ i, e i := Finset.sum_pos (fun i _ => he i) ⟨⟨0, NeZero.pos n⟩, Finset.mem_univ _⟩
  have hS : (∑ i, a * e i : ℝ) = a * ∑ i, e i := (Finset.mul_sum ..).symm
  rw [hS, div_real _ (mul_pos ha hN), sum_mul_real _ _ (inv_nonneg.mpr (mul_pos ha hN).le)]
  refine Finset.sum_congr rfl fun i _ => ?_
  rw [mul_comm (((a * e i : ℝ)) : EReal) (v i), mul_assoc, ← EReal.coe_mul]
  congr 2
  field_simp

/-- The same mean after two different scalings: dividing after the sum or before it. -/
theorem mean_two {n : ℕ} [NeZero n] (e : Fin n → ℝ) (he : ∀ i, 0 < e i) (v : Fin n → EReal) {a b : ℝ} (ha : 0 < a) (hb : 0 < b) :
    Ideal.div (∑ i, ((a * e i : ℝ) : EReal) * v i) (((∑ i, a * e i : ℝ)) : EReal)
      = ∑ i, v i * Ideal.div (((b * e i : ℝ)) : EReal) (((∑ i, b * e i : ℝ)) : EReal) := by
  have hN : 0 < ∑ i, e i := Finset.sum_pos (fun i _ => he i) ⟨⟨0, NeZero.pos n⟩, Finset.mem_univ _⟩
  have hS : (∑ i, b * e i : ℝ) = b * ∑ i, e i := (Finset.mul_sum ..).symm
  rw [mean_scaled e he v ha]
  refine Finset.sum_congr rfl fun i _ => ?_
  rw [hS, div_real _ (mul_pos hb hN), ← EReal.coe_mul]
  congr 2
  field_simp

/-- One attention row in two parts and in base 2, over scores scaled by `1 / ln 2`, is the plain softmax row over the
    unscaled scores of both parts: `A`, `B` are the two scaled score rows, `S` the whole unscaled one. -/
theorem row_eq {n₁ n₂ : ℕ} [NeZero n₁] [NeZero n₂] [NeZero (n₁ + n₂)] (s : Fin (n₁ + n₂) → ℝ) (v : Fin (n₁ + n₂) → EReal)
    (A : Fin n₁ → EReal) (B : Fin n₂ → EReal) (S : Fin (n₁ + n₂) → EReal)
    (hA : ∀ i, A i = ((s (Fin.castAdd n₂ i) * c : ℝ) : EReal)) (hB : ∀ i, B i = ((s (Fin.natAdd n₁ i) * c : ℝ) : EReal))
    (hS : ∀ i, S i = ((s i : ℝ) : EReal)) :
    Ideal.div
        (∑ i, Ideal.exp2 (A i - max (Finset.univ.fold max ⊥ A) (Finset.univ.fold max ⊥ B)) * v (Fin.castAdd n₂ i)
          + ∑ i, Ideal.exp2 (B i - max (Finset.univ.fold max ⊥ A) (Finset.univ.fold max ⊥ B)) * v (Fin.natAdd n₁ i))
        (∑ i, Ideal.exp2 (A i - max (Finset.univ.fold max ⊥ A) (Finset.univ.fold max ⊥ B))
          + ∑ i, Ideal.exp2 (B i - max (Finset.univ.fold max ⊥ A) (Finset.univ.fold max ⊥ B)))
      = ∑ i, v i * Ideal.div (Ideal.exp (S i - Finset.univ.fold max ⊥ S))
          (∑ i, Ideal.exp (S i - Finset.univ.fold max ⊥ S)) := by
  obtain rfl : A = fun i => ((s (Fin.castAdd n₂ i) * c : ℝ) : EReal) := funext hA
  obtain rfl : B = fun i => ((s (Fin.natAdd n₁ i) * c : ℝ) : EReal) := funext hB
  obtain rfl : S = fun i => ((s i : ℝ) : EReal) := funext hS
  obtain ⟨M₁, h₁⟩ := fold_max_real fun i => s (Fin.castAdd n₂ i) * c
  obtain ⟨M₂, h₂⟩ := fold_max_real fun i => s (Fin.natAdd n₁ i) * c
  obtain ⟨M, h⟩ := fold_max_real s
  rw [h₁, h₂, h]
  have hm : max (M₁ : EReal) (M₂ : EReal) = ((max M₁ M₂ / c * c : ℝ) : EReal) := by
    rw [div_mul_cancel₀ _ c_pos.ne']
    exact (EReal.coe_strictMono.monotone.map_max).symm
  rw [hm]
  have e2 : ∀ r : ℝ, Ideal.exp2 (((r * c : ℝ) : EReal) - ((max M₁ M₂ / c * c : ℝ) : EReal))
      = ((Real.exp (-(max M₁ M₂ / c)) * Real.exp r : ℝ) : EReal) := fun r => by
    rw [← EReal.coe_sub, ← sub_mul, exp2_scaled, ← Real.exp_add]
    congr 2; ring
  have e1 : ∀ r : ℝ, Ideal.exp (((r : ℝ) : EReal) - ((M : ℝ) : EReal)) = ((Real.exp (-M) * Real.exp r : ℝ) : EReal) := fun r => by
    rw [← EReal.coe_sub, exp_real, ← Real.exp_add]
    congr 2; ring
  simp only [e2, e1]
  rw [← Fin.sum_univ_add fun i => ((Real.exp (-(max M₁ M₂ / c)) * Real.exp (s i) : ℝ) : EReal) * v i,
    ← Fin.sum_univ_add fun i => ((Real.exp (-(max M₁ M₂ / c)) * Real.exp (s i) : ℝ) : EReal), sum_real, sum_real]
  exact mean_two (fun i => Real.exp (s i)) (fun i => Real.exp_pos _) v (Real.exp_pos _) (Real.exp_pos _)

end Cert.Softmax
-- ==== Proof.Heads.lean ====
module

public import proofs.«01_k».proof.Proof.Gen.KernelIdeal.Value
public import proofs.«01_k».proof.Proof.Softmax
public import Idealize.ShloMosaic.Lib.Pointwise
public import Idealize.ShloMosaic.Lib.Pipeline.ValueKit

@[expose] public section

set_option maxRecDepth 16384

noncomputable section

namespace Cert.KernelIdeal.Heads

open Idealize.ShloMosaic Idealize.SL.Sem Cert.KernelIdeal Cert.KernelIdeal.Gen

/-- One row's scores times the values, in the kernel's two parts. -/
def row (A : Fin 512 → EReal) (B : Fin 64 → EReal) (v : Fin 512 → EReal) (w : Fin 64 → EReal) : EReal :=
  Ideal.div
    (∑ i, Ideal.exp2 (A i - max (Finset.univ.fold max ⊥ A) (Finset.univ.fold max ⊥ B)) * v i
      + ∑ i, Ideal.exp2 (B i - max (Finset.univ.fold max ⊥ A) (Finset.univ.fold max ⊥ B)) * w i)
    (∑ i, Ideal.exp2 (A i - max (Finset.univ.fold max ⊥ A) (Finset.univ.fold max ⊥ B))
      + ∑ i, Ideal.exp2 (B i - max (Finset.univ.fold max ⊥ A) (Finset.univ.fold max ⊥ B)))

/-- The lanes of the lower half of a head pair, the others set to zero: a sum over the half. -/
theorem sum_low (f : Fin 128 → EReal) :
    ∑ x : Fin 128, Scalar.select (IntOp.xori (IntOp.xori (IntOp.cmpi CmpIPredicate.sge (BitVec.ofNat 32 (x : ℕ)) 64#32) 0#1) 1#1) (f x) 0
      = ∑ x : Fin 64, f ⟨x, by omega⟩ := by
  have h := Fin.sum_univ_add (a := 64) (b := 64) (M := EReal) fun x : Fin 128 => Scalar.select (IntOp.xori (IntOp.xori (IntOp.cmpi CmpIPredicate.sge (BitVec.ofNat 32 (x : ℕ)) 64#32) 0#1) 1#1) (f x) 0
  refine h.trans ?_
  have e1 : ∀ x : Fin 64, IntOp.xori (IntOp.xori (IntOp.cmpi CmpIPredicate.sge (BitVec.ofNat 32 (Fin.castAdd 64 x : ℕ)) 64#32) 0#1) 1#1 = 1#1 := by decide +kernel
  have e2 : ∀ x : Fin 64, IntOp.xori (IntOp.xori (IntOp.cmpi CmpIPredicate.sge (BitVec.ofNat 32 (Fin.natAdd 64 x : ℕ)) 64#32) 0#1) 1#1 = 0#1 := by decide +kernel
  simp only [e1, e2]
  show ∑ x : Fin 64, f _ + ∑ x : Fin 64, (0 : EReal) = _
  rw [Finset.sum_const_zero, add_zero]
  rfl

/-- The lanes of the upper half of a head pair, the others set to zero: a sum over the half. -/
theorem sum_high (f : Fin 128 → EReal) :
    ∑ x : Fin 128, Scalar.select (IntOp.xori (IntOp.xori (IntOp.cmpi CmpIPredicate.sge (BitVec.ofNat 32 (x : ℕ)) 64#32) 1#1) 1#1) (f x) 0
      = ∑ x : Fin 64, f ⟨64 + x, by omega⟩ := by
  have h := Fin.sum_univ_add (a := 64) (b := 64) (M := EReal) fun x : Fin 128 => Scalar.select (IntOp.xori (IntOp.xori (IntOp.cmpi CmpIPredicate.sge (BitVec.ofNat 32 (x : ℕ)) 64#32) 1#1) 1#1) (f x) 0
  refine h.trans ?_
  have e1 : ∀ x : Fin 64, IntOp.xori (IntOp.xori (IntOp.cmpi CmpIPredicate.sge (BitVec.ofNat 32 (Fin.castAdd 64 x : ℕ)) 64#32) 1#1) 1#1 = 0#1 := by decide +kernel
  have e2 : ∀ x : Fin 64, IntOp.xori (IntOp.xori (IntOp.cmpi CmpIPredicate.sge (BitVec.ofNat 32 (Fin.natAdd 64 x : ℕ)) 64#32) 1#1) 1#1 = 1#1 := by decide +kernel
  simp only [e1, e2]
  show ∑ x : Fin 64, (0 : EReal) + ∑ x : Fin 64, f _ = _
  rw [Finset.sum_const_zero, zero_add]
  rfl

/-- The row maximum starts from minus infinity. -/
theorem init_bot : Ideal.ofBits FTy.f32 4286578688#32 = ⊥ := by simp [Ideal.ofBits, Ideal.ieee]

/-- The scale of the queries, `1/8 · 1/ln 2`, as the kernel names it. -/
theorem qscale_eq : (Named.named κ "qscale" 1043900987#32 : Ideal .f32) = (((1 / 8) * Softmax.c : ℝ) : EReal) := rfl

/-- The scale of the bias, `1/ln 2`, as the kernel names it. -/
theorem log2e_eq : (Named.named κ "log2e" 1069066811#32 : Ideal .f32) = ((Softmax.c : ℝ) : EReal) := rfl

/-- What the body leaves at a head, a row and a lane: the row of the head's scores over the five input blocks. -/
theorem out_at (x0 : Vec Ideal S1x64x512 .f32) (x1 : Vec Ideal S1x64x1024 .f32) (x2 : Vec Ideal S1x1x512x512 .bf16)
    (x3 : Vec Ideal S1x1x512x512 .bf16) (x4 : Vec Ideal S8x64x576 .f32) (y : S1x64x512.Idx)
    (h : Fin 8) (r d : Fin 64) (hr : (y 1 : ℕ) = r) (hd : (y 2 : ℕ) = 64 * h + d) :
    out0_5 x0 x1 x2 x3 x4 y = row
      (fun i => ∑ e : Fin 64, x0 (ix3 0 r ⟨64 * h + e, by omega⟩) * Named.named (F := Ideal) κ "qscale" (φ := .f32) 1043900987#32 * x2 (ix4 0 0 i ⟨64 * h + e, by omega⟩)
        + x4 (ix3 h r ⟨i, by omega⟩) * Named.named (F := Ideal) κ "log2e" (φ := .f32) 1069066811#32)
      (fun i => ∑ e : Fin 64, x0 (ix3 0 r ⟨64 * h + e, by omega⟩) * Named.named (F := Ideal) κ "qscale" (φ := .f32) 1043900987#32 * x1 (ix3 0 i ⟨64 * h + e, by omega⟩)
        + x4 (ix3 h r ⟨512 + i, by omega⟩) * Named.named (F := Ideal) κ "log2e" (φ := .f32) 1069066811#32)
      (fun i => x3 (ix4 0 0 i ⟨64 * h + d, by omega⟩))
      (fun i => x1 (ix3 0 i ⟨512 + 64 * h + d, by omega⟩)) := by
  have key (n : ℕ) (hn : n < 8) (z1 z2 : ℕ) (h1 : (y 1 : ℕ) = z1) (h2 : (y 2 : ℕ) = 64 * n + z2) (hz : z2 < 64) :
      (⟨n, hn⟩ : Fin 8) = h ∧ z1 = r ∧ z2 = d := ⟨Fin.ext (by show n = h; omega), by omega, by omega⟩
  canon_tiles z hz
  case piece0 =>
    idx_vars z
    obtain ⟨rfl, e1, e2⟩ := key 7 (by decide) z1 z2 (by omega) (by omega) z2_lt
    obtain rfl := Fin.ext e1
    obtain rfl := Fin.ext e2
    unfold_payloads
    pointwise
    simp only [sum_low, sum_high, init_bot, Nat.reduceMul, ← Nat.add_assoc, Nat.reduceAdd, zero_add]
    rfl
  case piece1 =>
    idx_vars z
    obtain ⟨rfl, e1, e2⟩ := key 6 (by decide) z1 z2 (by omega) (by omega) z2_lt
    obtain rfl := Fin.ext e1
    obtain rfl := Fin.ext e2
    unfold_payloads
    pointwise
    simp only [sum_low, sum_high, init_bot, Nat.reduceMul, ← Nat.add_assoc, Nat.reduceAdd, zero_add]
    rfl
  case piece2 =>
    idx_vars z
    obtain ⟨rfl, e1, e2⟩ := key 5 (by decide) z1 z2 (by omega) (by omega) z2_lt
    obtain rfl := Fin.ext e1
    obtain rfl := Fin.ext e2
    unfold_payloads
    pointwise
    simp only [sum_low, sum_high, init_bot, Nat.reduceMul, ← Nat.add_assoc, Nat.reduceAdd, zero_add]
    rfl
  case piece3 =>
    idx_vars z
    obtain ⟨rfl, e1, e2⟩ := key 4 (by decide) z1 z2 (by omega) (by omega) z2_lt
    obtain rfl := Fin.ext e1
    obtain rfl := Fin.ext e2
    unfold_payloads
    pointwise
    simp only [sum_low, sum_high, init_bot, Nat.reduceMul, ← Nat.add_assoc, Nat.reduceAdd, zero_add]
    rfl
  case piece4 =>
    idx_vars z
    obtain ⟨rfl, e1, e2⟩ := key 3 (by decide) z1 z2 (by omega) (by omega) z2_lt
    obtain rfl := Fin.ext e1
    obtain rfl := Fin.ext e2
    unfold_payloads
    pointwise
    simp only [sum_low, sum_high, init_bot, Nat.reduceMul, ← Nat.add_assoc, Nat.reduceAdd, zero_add]
    rfl
  case piece5 =>
    idx_vars z
    obtain ⟨rfl, e1, e2⟩ := key 2 (by decide) z1 z2 (by omega) (by omega) z2_lt
    obtain rfl := Fin.ext e1
    obtain rfl := Fin.ext e2
    unfold_payloads
    pointwise
    simp only [sum_low, sum_high, init_bot, Nat.reduceMul, ← Nat.add_assoc, Nat.reduceAdd, zero_add]
    rfl
  case piece6 =>
    idx_vars z
    obtain ⟨rfl, e1, e2⟩ := key 1 (by decide) z1 z2 (by omega) (by omega) z2_lt
    obtain rfl := Fin.ext e1
    obtain rfl := Fin.ext e2
    unfold_payloads
    pointwise
    simp only [sum_low, sum_high, init_bot, Nat.reduceMul, ← Nat.add_assoc, Nat.reduceAdd, zero_add]
    rfl
  case piece7 =>
    idx_vars z
    obtain ⟨rfl, e1, e2⟩ := key 0 (by decide) z1 z2 (by omega) (by omega) z2_lt
    obtain rfl := Fin.ext e1
    obtain rfl := Fin.ext e2
    unfold_payloads
    pointwise
    simp only [sum_low, sum_high, init_bot, Nat.reduceMul, ← Nat.add_assoc, Nat.reduceAdd, zero_add]
    rfl

end Cert.KernelIdeal.Heads
-- ==== Proof.HostIn.lean ====
module

public import proofs.«01_k».proof.Proof.Gen.KernelIdeal.Frame
public import Idealize.ShloMosaic.Lib.Pointwise
public import Idealize.ShloMosaic.Lib.Pipeline.ValueKit
public import Idealize.ShloMosaic.Lib.Tactic.CleanTypes

@[expose] public section

set_option maxRecDepth 16384

noncomputable section

namespace Cert.KernelIdeal.HostIn

open Idealize.ShloMosaic Idealize.ShloMosaic.TcCoe Idealize.SL.Sem Cert.KernelIdeal Cert.KernelIdeal.Gen

variable (m : (ℓ : Loc nD τ sig) → Buf (Elt Ideal) ℓ) (c : Dev nD)

/-- The cached keys the call reads: layer 0's, heads side by side. -/
theorem cache_k (b : Fin 32) (i j : Fin 512) :
    V m c main_v1 (ix4 (0 : Fin 2) b i j) = m ((c : Thread nD τ).loc main_arg2) (ix5 (0 : Fin 2) b i (⟨j / 64, by omega⟩ : Fin 8) (⟨j % 64, by omega⟩ : Fin 64)) := by
  unfold_abbrev_sides
  after_results_simp
  clean_types
  pointwise

/-- The cached values the call reads: layer 0's, heads side by side. -/
theorem cache_v (b : Fin 32) (i j : Fin 512) :
    V m c main_v3 (ix4 (0 : Fin 2) b i j) = m ((c : Thread nD τ).loc main_arg3) (ix5 (0 : Fin 2) b i (⟨j / 64, by omega⟩ : Fin 8) (⟨j % 64, by omega⟩ : Fin 64)) := by
  unfold_abbrev_sides
  after_results_simp
  clean_types
  pointwise

/-- The table with its first and last columns repeated on either side. -/
def padded (a : Vec Ideal S8x704 .f32) (b : Vec Ideal S8x257 .f32) (d : Vec Ideal S8x704 .f32) : Vec Ideal S8x1665 .f32 :=
  concatenate S8x1665 1 [⟨S8x704, a⟩, ⟨S8x257, b⟩, ⟨S8x704, d⟩] concatenates_S8x704_S8x257_S8x704_S8x1665_d1

/-- The two pieces of the reversed table that one period of the band's diagonals reads. -/
def period (a : Vec Ideal S8x577 .f32) (b : Vec Ideal S8x63 .f32) : Vec Ideal S8x640 .f32 :=
  concatenate S8x640 1 [⟨S8x577, a⟩, ⟨S8x63, b⟩] concatenates_S8x577_S8x63_S8x640_d1

/-- The padded table as the operations compose it. -/
theorem padded_eq : V m c main_v10 = padded (V m c main_v6) (V m c main_arg4) (V m c main_v9) := by
  unfold_abbrev_sides
  after_results_simp
  show padded _ _ _ = padded _ _ _
  congr 1

/-- The period as the operations compose it. -/
theorem period_eq : V m c main_v14 = period (V m c main_v12) (V m c main_v13) := by
  unfold_abbrev_sides
  after_results_simp
  show period _ _ = period _ _
  congr 1

/-- The padded table at a column: the table at the column clipped into it. -/
theorem padded_at (h : Fin 8) (n : Fin 1665) :
    V m c main_v10 (ix2 h n) = m ((c : Thread nD τ).loc main_arg4) (ix2 h (⟨min (n - 704) 256, by omega⟩ : Fin 257)) := by
  rw [padded_eq]
  have e6 (n : Fin 704) : V m c main_v6 (ix2 h n) = m ((c : Thread nD τ).loc main_arg4) (ix2 h (0 : Fin 257)) := by
    unfold_abbrev_sides
    after_results_simp
    clean_types
    pointwise
  have e9 (n : Fin 704) : V m c main_v9 (ix2 h n) = m ((c : Thread nD τ).loc main_arg4) (ix2 h (256 : Fin 257)) := by
    unfold_abbrev_sides
    after_results_simp
    clean_types
    pointwise
  rw [V_main_arg4]
  generalize V m c main_v6 = a6 at *
  generalize V m c main_v9 = a9 at *
  pointwise [padded]
  split
  · rename_i h1
    rw [e6]
    refine congrArg _ (congrArg (ix2 h) (Fin.ext ?_))
    show 0 = min ((n : ℕ) - 704) 256
    omega
  · rename_i h1
    split
    · refine congrArg _ (congrArg (ix2 h) (Fin.ext ?_))
      show (n : ℕ) - 704 = min ((n : ℕ) - 704) 256
      omega
    · rw [e9]
      refine congrArg _ (congrArg (ix2 h) (Fin.ext ?_))
      show 256 = min ((n : ℕ) - 704) 256
      omega

/-- The padded table read backwards. -/
theorem reversed_at (h : Fin 8) (n : Fin 1665) : V m c main_v11 (ix2 h n) = V m c main_v10 (ix2 h (⟨1664 - n, by omega⟩ : Fin 1665)) := by
  have e : V m c main_v11 = Host.reverse [1] (V m c main_v10) := by
    unfold_abbrev_sides
    after_results_simp
    rfl
  rw [e]
  pointwise
  simp only [List.mem_singleton, zero_ne_one, if_false, if_true]
  exact congrArg _ (congrArg (ix2 h) (Fin.ext (by show 1665 - (n + 1) = 1664 - (n : ℕ); omega)))

/-- One period of the diagonals, as columns of the reversed table. -/
theorem period_at (h : Fin 8) (n : Fin 640) : V m c main_v14 (ix2 h n) = V m c main_v11 (ix2 h (⟨if (n : ℕ) < 577 then 320 + n else n - 320, by split <;> omega⟩ : Fin 1665)) := by
  have e12 : V m c main_v12 = extractStridedSlice S8x577 ![0, 320] (V m c main_v11) slices_S8x1665_S8x577_0_320 := by
    unfold_abbrev_sides
    after_results_simp
    rfl
  have e13 : V m c main_v13 = extractStridedSlice S8x63 ![0, 257] (V m c main_v11) slices_S8x1665_S8x63_0_257 := by
    unfold_abbrev_sides
    after_results_simp
    rfl
  rw [period_eq, e12, e13]
  generalize V m c main_v11 = a
  pointwise [period]
  split
  · rfl
  · refine congrArg a (congrArg (ix2 h) (Fin.ext ?_))
    show 257 + ((n : ℕ) - 577) = n - 320
    omega

/-- The band is the period laid out with rows one column shorter than it, so that each row starts one diagonal later. -/
theorem band_at (h : Fin 8) (r : Fin 64) (k : Fin 576) :
    V m c main_v20 (ix3 h r k) = V m c main_v14 (ix2 h (⟨(r * 639 + k) % 640, by omega⟩ : Fin 640)) := by
  have e : ∃ f : Vec Ideal S8x640 .f32 → Vec Ideal S8x64x576 .f32, V m c main_v20 = f (V m c main_v14) ∧
      f = fun a => extractStridedSlice S8x64x576 ![0, 0, 0] (shapeCast S8x64x639 (extractStridedSlice S8x40896 ![0, 0]
        (shapeCast S8x40960 (broadcastInDim S1x8x64x640 ![0, 1, 2, 3] bcast_S1x8x1x640_S1x8x64x640_0_1_2_3 (shapeCast S1x8x1x640 a
          shapeCasts_S8x640_S1x8x1x640)) shapeCasts_S1x8x64x640_S8x40960) slices_S8x40960_S8x40896_0_0)
          shapeCasts_S8x40896_S8x64x639) slices_S8x64x639_S8x64x576_0_0_0 := by
    refine ⟨_, ?_, rfl⟩
    unfold_abbrev_sides
    after_results_simp
    rfl
  obtain ⟨f, e, hf⟩ := e
  rw [e]
  generalize V m c main_v14 = a
  subst hf
  pointwise

/-- The bias of a query row and a key column: the table at their distance, clipped. -/
theorem bias_at (h : Fin 8) (r : Fin 64) (k : Fin 576) :
    V m c main_v20 (ix3 h r k) = m ((c : Thread nD τ).loc main_arg4) (ix2 h (⟨min (640 + r - k) 256, by omega⟩ : Fin 257)) := by
  rw [band_at, period_at, reversed_at, padded_at]
  refine congrArg _ (congrArg (ix2 h) (Fin.ext ?_))
  show min (1664 - (if ((r : ℕ) * 639 + k) % 640 < 577 then 320 + ((r : ℕ) * 639 + k) % 640 else ((r : ℕ) * 639 + k) % 640 - 320) - 704) 256
    = min (640 + (r : ℕ) - k) 256
  have hr := r.isLt
  have hk := k.isLt
  rcases Nat.lt_or_ge (k : ℕ) r with h1 | h1
  · have e : ((r : ℕ) * 639 + k) % 640 = 640 + k - r := by
      rw [show (r : ℕ) * 639 + k = 640 + k - r + 640 * (r - 1) by omega, Nat.add_mul_mod_self_left, Nat.mod_eq_of_lt (by omega)]
    rw [e]
    split <;> omega
  · have e : ((r : ℕ) * 639 + k) % 640 = k - r := by
      rw [show (r : ℕ) * 639 + k = k - r + 640 * r by omega, Nat.add_mul_mod_self_left, Nat.mod_eq_of_lt (by omega)]
    rw [e]
    split <;> omega

end Cert.KernelIdeal.HostIn
-- ==== Proof.Sample.lean ====
module

public import proofs.«01_k».proof.Proof.Heads
public import proofs.«01_k».proof.Proof.HostIn
public import Idealize.ShloMosaic.Lib.Pointwise
public import Idealize.ShloMosaic.Lib.Pipeline.ValueKit

/-!
  The result array of the attention over the cached rows: at a batch, a row and a lane, the row of `Heads` over the
  arguments.
-/

@[expose] public section

set_option maxRecDepth 16384

noncomputable section

namespace Cert.KernelIdeal.Sample

open Idealize.ShloMosaic Idealize.ShloMosaic.TcCoe Idealize.SL.Sem Cert.KernelIdeal Cert.KernelIdeal.Gen Cert.KernelIdeal.Heads

variable (m : (ℓ : Loc nD τ sig) → Buf (Elt Ideal) ℓ) (c : Dev nD)

/-- The result at an index, from the arguments: the kernel's own order of scaling and its two parts of a row. -/
def resAt (q : Vec Ideal S32x64x512 .f32) (kv : Vec Ideal S32x64x1024 .f32) (ck cv : Vec Ideal S2x32x512x8x64 .f32) (t : Vec Ideal S8x257 .f32)
    (b : Fin 32) (r : Fin 64) (h : Fin 8) (d : Fin 64) : EReal :=
  row
    (fun i => ∑ e : Fin 64, q (ix3 b r ⟨64 * h + e, by omega⟩) * Named.named (F := Ideal) κ "qscale" (φ := .f32) 1043900987#32 * ck (ix5 0 b i h e)
      + t (ix2 h ⟨min (640 + r - i) 256, by omega⟩) * Named.named (F := Ideal) κ "log2e" (φ := .f32) 1069066811#32)
    (fun i => ∑ e : Fin 64, q (ix3 b r ⟨64 * h + e, by omega⟩) * Named.named (F := Ideal) κ "qscale" (φ := .f32) 1043900987#32 * kv (ix3 b i ⟨64 * h + e, by omega⟩)
      + t (ix2 h ⟨min (640 + r - (512 + i)) 256, by omega⟩) * Named.named (F := Ideal) κ "log2e" (φ := .f32) 1069066811#32)
    (fun i => cv (ix5 0 b i h d))
    (fun i => kv (ix3 b i ⟨512 + 64 * h + d, by omega⟩))

/-- Window 0's block at a batch. -/
theorem idx0 : ∀ t : Fin cfg0.N, win0_0.index t = ![(t : ℕ), 0, 0] := (by decide +kernel : ∀ t : Fin grid0.N, _)
/-- Window 1's block at a batch. -/
theorem idx1 : ∀ t : Fin cfg0.N, win0_1.index t = ![(t : ℕ), 0, 0] := (by decide +kernel : ∀ t : Fin grid0.N, _)
/-- Window 2's block at a batch. -/
theorem idx2 : ∀ t : Fin cfg0.N, win0_2.index t = ![0, (t : ℕ), 0, 0] := (by decide +kernel : ∀ t : Fin grid0.N, _)
/-- Window 3's block at a batch. -/
theorem idx3 : ∀ t : Fin cfg0.N, win0_3.index t = ![0, (t : ℕ), 0, 0] := (by decide +kernel : ∀ t : Fin grid0.N, _)
/-- Window 4's block at a batch. -/
theorem idx4 : ∀ t : Fin cfg0.N, win0_4.index t = ![0, 0, 0] := (by decide +kernel : ∀ t : Fin grid0.N, _)
/-- The output window's block at a batch. -/
theorem idx5 : ∀ t : Fin cfg0.N, win0_5.index t = ![(t : ℕ), 0, 0] := (by decide +kernel : ∀ t : Fin grid0.N, _)

/-- A grid point as a batch. -/
def pt (t : Fin cfg0.N) : Fin 32 := ⟨t, t.isLt⟩

/-- The queries' block at a grid point. -/
theorem blk0 (t : Fin cfg0.N) (r : Fin 64) (j : Fin 512) : iblk m c 0 t (ix3 (0 : Fin 1) r j) = m ((c : Thread nD τ).loc main_arg0) (ix3 (pt t) r j) := by
  blk_simp [iblk]
  rw [V_main_arg0]
  refine congrArg _ ?_
  blk_ext [idx0 t, pt]

/-- The new rows' block at a grid point. -/
theorem blk1 (t : Fin cfg0.N) (r : Fin 64) (j : Fin 1024) : iblk m c 1 t (ix3 (0 : Fin 1) r j) = m ((c : Thread nD τ).loc main_arg1) (ix3 (pt t) r j) := by
  blk_simp [iblk]
  rw [V_main_arg1]
  refine congrArg _ ?_
  blk_ext [idx1 t, pt]

/-- The cached keys' block at a grid point. -/
theorem blk2 (t : Fin cfg0.N) (i j : Fin 512) : iblk m c 2 t (ix4 (0 : Fin 1) (0 : Fin 1) i j) = V m c main_v1 (ix4 (0 : Fin 2) (pt t) i j) := by
  blk_simp [iblk]
  refine congrArg _ ?_
  blk_ext [idx2 t, pt]

/-- The cached values' block at a grid point. -/
theorem blk3 (t : Fin cfg0.N) (i j : Fin 512) : iblk m c 3 t (ix4 (0 : Fin 1) (0 : Fin 1) i j) = V m c main_v3 (ix4 (0 : Fin 2) (pt t) i j) := by
  blk_simp [iblk]
  refine congrArg _ ?_
  blk_ext [idx3 t, pt]

/-- The bias's block at a grid point. -/
theorem blk4 (t : Fin cfg0.N) (h : Fin 8) (r : Fin 64) (k : Fin 576) : iblk m c 4 t (ix3 h r k) = V m c main_v20 (ix3 h r k) := by
  blk_simp [iblk]
  refine congrArg _ ?_
  blk_ext [idx4 t]

/-- What the body leaves at a grid point, from the arguments. -/
theorem out_eq (t : Fin cfg0.N) (y : S1x64x512.Idx) (h : Fin 8) (r d : Fin 64) (hr : (y 1 : ℕ) = r) (hd : (y 2 : ℕ) = 64 * h + d) :
    out0_5 (iblk m c 0 t) (iblk m c 1 t) (iblk m c 2 t) (iblk m c 3 t) (iblk m c 4 t) y
      = resAt (m ((c : Thread nD τ).loc main_arg0)) (m ((c : Thread nD τ).loc main_arg1))
    (m ((c : Thread nD τ).loc main_arg2)) (m ((c : Thread nD τ).loc main_arg3)) (m ((c : Thread nD τ).loc main_arg4)) (pt t) r h d := by
  have e1 (h : Fin 8) (e : Fin 64) : (⟨(64 * (h : ℕ) + e) / 64, by omega⟩ : Fin 8) = h := Fin.ext (by show (64 * (h : ℕ) + e) / 64 = h; omega)
  have e2 (h : Fin 8) (e : Fin 64) : (⟨(64 * (h : ℕ) + e) % 64, by omega⟩ : Fin 64) = e := Fin.ext (by show (64 * (h : ℕ) + e) % 64 = e; omega)
  have b2 (i : Fin 512) (e : Fin 64) : iblk m c 2 t (ix4 (0 : Fin 1) (0 : Fin 1) i ⟨64 * (h : ℕ) + e, by omega⟩) = m ((c : Thread nD τ).loc main_arg2) (ix5 (0 : Fin 2) (pt t) i h e) := by
    rw [blk2, HostIn.cache_k, e1, e2]
  have b3 (i : Fin 512) : iblk m c 3 t (ix4 (0 : Fin 1) (0 : Fin 1) i ⟨64 * (h : ℕ) + d, by omega⟩) = m ((c : Thread nD τ).loc main_arg3) (ix5 (0 : Fin 2) (pt t) i h d) := by
    rw [blk3, HostIn.cache_v, e1, e2]
  have b4 (k : Fin 576) := (blk4 m c t h r k).trans (HostIn.bias_at m c h r k)
  rw [out_at _ _ _ _ _ y h r d hr hd, resAt]
  refine congr (congr (congr (congrArg row ?_) ?_) ?_) ?_
  · funext i
    rw [b4]
    refine congrArg (· + _) (Finset.sum_congr rfl fun e _ => ?_)
    rw [b2, blk0]
  · funext i
    rw [b4]
    refine congrArg (· + _) (Finset.sum_congr rfl fun e _ => ?_)
    rw [blk0, blk1]
  · funext i
    exact b3 i
  · funext i
    exact blk1 m c t i _

/-- The result array, from the arguments. -/
def result : Vec Ideal S32x64x512 .bf16 := fun i => resAt (m ((c : Thread nD τ).loc main_arg0)) (m ((c : Thread nD τ).loc main_arg1))
    (m ((c : Thread nD τ).loc main_arg2)) (m ((c : Thread nD τ).loc main_arg3)) (m ((c : Thread nD τ).loc main_arg4))
    (i 0) (i 1) ⟨(i 2 : ℕ) / 64, by have : (i 2 : ℕ) < 512 := (i 2).isLt; omega⟩ ⟨(i 2 : ℕ) % 64, by omega⟩

/-- The array the run leaves. -/
theorem final : (dats m 0 c).arrAt 5 cfg0.N = result m c := by
  refine (dats m 0 c).arrAt_eq_of_covers 5 _ (by decide +kernel) fun t hf y => ?_
  have e : ((cfg0.win 5).blk t).view.emb y = ix3 (pt t) (y 1) (y 2) := by
    have h0 : (y 0 : ℕ) < 1 := (y 0).isLt
    blk_ext [idx5 t, pt]
  rw [e]
  blk_simp
  rw [after0_5]
  have h2 : (y 2 : ℕ) < 512 := (y 2).isLt
  exact out_eq m c t y ⟨(y 2 : ℕ) / 64, by omega⟩ (y 1) ⟨(y 2 : ℕ) % 64, by omega⟩ rfl (by show (y 2 : ℕ) = 64 * ((y 2 : ℕ) / 64) + (y 2 : ℕ) % 64; omega)

end Cert.KernelIdeal.Sample
-- ==== Proof.RefStages.lean ====
module

public import proofs.«01_k».proof.Proof.Gen.ReferenceIdeal.Run
public import Idealize.ShloMosaic.Lib.Pointwise
public import Idealize.ShloMosaic.Lib.Pipeline.ValueKit
public import Idealize.ShloMosaic.Lib.Tactic.CleanTypes

@[expose] public section

set_option maxRecDepth 16384

noncomputable section

namespace Cert.ReferenceIdeal.Heads

open Idealize.ShloMosaic Idealize.ShloMosaic.TcCoe Idealize.SL.Sem Cert.ReferenceIdeal Cert.ReferenceIdeal.Gen Cert.ReferenceIdeal.Value

/-- The cached rows followed by the new rows, heads split: the keys with `o = 0`'s half of the projection. -/
def keys (ck : Vec Ideal S2x32x512x8x64 .f32) (kv : Vec Ideal S32x64x1024 .f32) : Vec Ideal S32x1x576x8x64 .f32 :=
  broadcastInDim S32x1x576x8x64 ![0, 2, 3, 4] bcast_S32x576x8x64_S32x1x576x8x64_0_2_3_4 (concatenate S32x576x8x64 1 [⟨S32x512x8x64, (shapeCast _ (extractStridedSlice S1x32x512x8x64 ![0, 0, 0, 0, 0] ck slices_S2x32x512x8x64_S1x32x512x8x64_0_0_0_0_0) shapeCasts_S1x32x512x8x64_S32x512x8x64)⟩, ⟨S32x64x8x64, (shapeCast _ (extractStridedSlice S32x64x512 ![0, 0, 0] kv slices_S32x64x1024_S32x64x512_0_0_0) shapeCasts_S32x64x512_S32x64x8x64)⟩] concatenates_S32x512x8x64_S32x64x8x64_S32x576x8x64_d1)

/-- The cached rows followed by the new rows, heads split: the values. -/
def vals (cv : Vec Ideal S2x32x512x8x64 .f32) (kv : Vec Ideal S32x64x1024 .f32) : Vec Ideal S32x1x576x8x64 .f32 :=
  broadcastInDim S32x1x576x8x64 ![0, 2, 3, 4] bcast_S32x576x8x64_S32x1x576x8x64_0_2_3_4 (concatenate S32x576x8x64 1 [⟨S32x512x8x64, (shapeCast _ (extractStridedSlice S1x32x512x8x64 ![0, 0, 0, 0, 0] cv slices_S2x32x512x8x64_S1x32x512x8x64_0_0_0_0_0) shapeCasts_S1x32x512x8x64_S32x512x8x64)⟩, ⟨S32x64x8x64, (shapeCast _ (extractStridedSlice S32x64x512 ![0, 0, 512] kv slices_S32x64x1024_S32x64x512_0_0_512) shapeCasts_S32x64x512_S32x64x8x64)⟩] concatenates_S32x512x8x64_S32x64x8x64_S32x576x8x64_d1)

/-- The clipped distance of a query row and a key column, from 0. -/
def rel : IVec S64x576 32 :=
  addi (minsi (broadcastInDim S64x576 ![] bcast_S_S64x576 (id (constantI S_ 32 128#32))) (maxsi (broadcastInDim S64x576 ![] bcast_S_S64x576 (id (constantI S_ 32 4294967168#32))) (subi (broadcastInDim S64x576 ![0, 1] bcast_S64x1_S64x576_0_1 (broadcastInDim S64x1 ![0] bcast_S64_S64x1_0 (addi (broadcastInDim S64 ![] bcast_S_S64 (constantI S_ 32 512#32)) (iotaInDim S64 32 0)))) (broadcastInDim S64x576 ![0, 1] bcast_S1x576_S64x576_0_1 (broadcastInDim S1x576 ![1] bcast_S576_S1x576_1 (iotaInDim S576 32 0)))))) (broadcastInDim S64x576 ![] bcast_S_S64x576 (constantI S_ 32 128#32))

/-- The bias read from the table at the clipped distances. -/
def biases (t : Vec Ideal S8x257 .f32) : Vec Ideal S8x64x576 .f32 :=
  Host.gather gather_S8x257_S64x576x1_S8x64x576_0_1_n_n_1_2_81 t (broadcastInDim S64x576x1 ![0, 1] bcast_S64x576_S64x576x1_0_1 (select (cmpi .slt rel (broadcastInDim S64x576 ![] bcast_S_S64x576 (constantI S_ 32 0#32))) (addi rel (broadcastInDim S64x576 ![] bcast_S_S64x576 (constantI S_ 32 257#32))) rel))

/-- The scores with the bias added, under the mask that hides nothing. -/
def scores (q : Vec Ideal S32x64x512 .f32) (k : Vec Ideal S32x1x576x8x64 .f32) (b : Vec Ideal S8x64x576 .f32) : Vec Ideal S32x1x8x64x576 .f32 :=
  select (broadcastInDim S32x1x8x64x576 ![0, 1, 2, 3, 4] bcast_S1x1x1x64x576_S32x1x8x64x576_0_1_2_3_4 (broadcastInDim S1x1x1x64x576 ![1, 3, 4] bcast_S1x64x576_S1x1x1x64x576_1_3_4 (broadcastInDim S1x64x576 ![] bcast_S_S1x64x576 (constantI S_ 1 1#1)))) (addf (F := Ideal) (φ := .f32) (mulf (F := Ideal) (φ := .f32) (Host.dotGeneral (φ₁ := .f32) (φ₂ := .f32) dot_S32x1x64x8x64_S32x1x576x8x64_S32x1x8x64x576_4_4_2_2_013_013 none (shapeCast S32x1x64x8x64 q shapeCasts_S32x64x512_S32x1x64x8x64) k) (broadcastInDim S32x1x8x64x576 ![] bcast_S_S32x1x8x64x576 (constant S_ .f32 0x3E000000#32 : FVec Ideal S_ .f32))) (broadcastInDim S32x1x8x64x576 ![0, 1, 2, 3, 4] bcast_S1x1x8x64x576_S32x1x8x64x576_0_1_2_3_4 (broadcastInDim S1x1x8x64x576 ![2, 3, 4] bcast_S8x64x576_S1x1x8x64x576_2_3_4 b))) (broadcastInDim S32x1x8x64x576 ![] bcast_S_S32x1x8x64x576 (id (constant S_ .f32 0xF149F2CA#32 : FVec Ideal S_ .f32)))

/-- Each row's maximum. -/
def rowMax (s : Vec Ideal S32x1x8x64x576 .f32) : Vec Ideal S32x1x8x64 .f32 :=
  Host.reduce (FloatOps.maximumf (F := Ideal) (φ := .f32)) s (constant S_ .f32 0xFF800000#32 : FVec Ideal S_ .f32) reducesTo_S32x1x8x64x576_S32x1x8x64_d4 h_S_

/-- The exponentials of the scores less a number for each row. -/
def expsOf (s : Vec Ideal S32x1x8x64x576 .f32) (t : Vec Ideal S32x1x8x64 .f32) : Vec Ideal S32x1x8x64x576 .f32 :=
  Host.exp (F := Ideal) (φ := .f32) (subf (F := Ideal) (φ := .f32) s (broadcastInDim S32x1x8x64x576 ![0, 1, 2, 3, 4] bcast_S32x1x8x64x1_S32x1x8x64x576_0_1_2_3_4 (broadcastInDim S32x1x8x64x1 ![0, 1, 2, 3] bcast_S32x1x8x64_S32x1x8x64x1_0_1_2_3 (maximumf (F := Ideal) (φ := .f32) (broadcastInDim S32x1x8x64 ![] bcast_S_S32x1x8x64 (constant S_ .f32 0xFF800000#32 : FVec Ideal S_ .f32)) t))))

/-- The exponentials of the scores less their row's maximum. -/
def exps (s : Vec Ideal S32x1x8x64x576 .f32) : Vec Ideal S32x1x8x64x576 .f32 := expsOf s (rowMax s)

/-- The weights: each exponential over its row's sum. -/
def weights (e : Vec Ideal S32x1x8x64x576 .f32) : Vec Ideal S32x1x8x64x576 .f32 :=
  Host.divf (F := Ideal) (φ := .f32) e (broadcastInDim S32x1x8x64x576 ![0, 1, 2, 3, 4] bcast_S32x1x8x64x1_S32x1x8x64x576_0_1_2_3_4 (broadcastInDim S32x1x8x64x1 ![0, 1, 2, 3] bcast_S32x1x8x64_S32x1x8x64x1_0_1_2_3 (Host.reduceAdd (F := Ideal) (φ := .f32) e (constant S_ .f32 0x00000000#32) reducesTo_S32x1x8x64x576_S32x1x8x64_d4 h_S_)))

/-- The weighted sums of the values, heads side by side. -/
def mixed (v : Vec Ideal S32x1x576x8x64 .f32) (w : Vec Ideal S32x1x8x64x576 .f32) : Vec Ideal S32x64x512 .bf16 :=
  truncf .bf16 (shapeCast S32x64x512 (transpose S32x1x64x8x64 [0, 1, 4, 2, 3] (Host.dotGeneral (F := Ideal) (φ₁ := .f32) (φ₂ := .f32) dot_S32x1x576x8x64_S32x1x8x64x576_S32x1x8x64x64_2_4_4_3_013_012 none v w) transposes_S32x1x8x64x64_S32x1x64x8x64_0_1_4_2_3) shapeCasts_S32x1x64x8x64_S32x64x512) bitsLt_bf16_f32

end Cert.ReferenceIdeal.Heads
-- ==== Proof.RefHeads.lean ====
module

public import proofs.«01_k».proof.Proof.RefStages
public import Idealize.ShloMosaic.Lib.Pointwise
public import Idealize.ShloMosaic.Lib.Pipeline.ValueKit
public import Idealize.ShloMosaic.Lib.Tactic.CleanTypes

@[expose] public section

set_option maxRecDepth 16384

noncomputable section

namespace Cert.ReferenceIdeal.Heads

open Idealize.ShloMosaic Idealize.ShloMosaic.TcCoe Idealize.SL.Sem Cert.ReferenceIdeal Cert.ReferenceIdeal.Gen Cert.ReferenceIdeal.Value

/-- The reference's result, by its stages. -/
theorem res_eq (m : (ℓ : Loc nD τ sig) → Buf (Elt Ideal) ℓ) (c : Dev nD) :
    res_main_v55 (F := Ideal) m c = mixed (vals (m ((c.tc : Thread nD τ).loc main_arg3)) (m ((c.tc : Thread nD τ).loc main_arg1)))
      (weights (exps (scores (m ((c.tc : Thread nD τ).loc main_arg0)) (keys (m ((c.tc : Thread nD τ).loc main_arg2)) (m ((c.tc : Thread nD τ).loc main_arg1)))
        (biases (m ((c.tc : Thread nD τ).loc main_arg4)))))) := rfl

/-- The keys at an index: the cached rows first, then the new ones. -/
theorem keys_at (ck : Vec Ideal S2x32x512x8x64 .f32) (kv : Vec Ideal S32x64x1024 .f32) (b : Fin 32) (i : Fin 576) (h : Fin 8) (d : Fin 64) :
    keys ck kv (ix5 b (0 : Fin 1) i h d) = if hi : (i : ℕ) < 512 then ck (ix5 (0 : Fin 2) b (⟨i, hi⟩ : Fin 512) h d)
      else kv (ix3 b (⟨i - 512, by omega⟩ : Fin 64) (⟨h * 64 + d, by omega⟩ : Fin 1024)) := by
  pointwise [keys]

/-- The values at an index: the cached rows first, then the new ones. -/
theorem vals_at (cv : Vec Ideal S2x32x512x8x64 .f32) (kv : Vec Ideal S32x64x1024 .f32) (b : Fin 32) (i : Fin 576) (h : Fin 8) (d : Fin 64) :
    vals cv kv (ix5 b (0 : Fin 1) i h d) = if hi : (i : ℕ) < 512 then cv (ix5 (0 : Fin 2) b (⟨i, hi⟩ : Fin 512) h d)
      else kv (ix3 b (⟨i - 512, by omega⟩ : Fin 64) (⟨512 + (h * 64 + d), by omega⟩ : Fin 1024)) := by
  pointwise [vals]

/-- A host maximum over the last of five axes, from any initial value, at an index. -/
theorem max_last {n0 n1 n2 n3 n4 : ℕ} {u : Shape} (x : FVec Ideal ⟨5, ![n0, n1, n2, n3, n4]⟩ .f32) (z : FVec Ideal u .f32)
    (h : (⟨5, ![n0, n1, n2, n3, n4]⟩ : Shape).ReducesTo [4] ⟨4, ![n0, n1, n2, n3]⟩) (hu : 0 < u.numel)
    (a : Fin n0) (b : Fin n1) (c : Fin n2) (d : Fin n3) :
    Host.reduce (FloatOps.maximumf (F := Ideal) (φ := .f32)) x z h hu (ix4 a b c d)
      = Finset.univ.fold max (z (Shape.Idx.first hu)) fun k : Fin n4 => x (ix5 a b c d k) := by
  simp only [pointwise]

/-- The row maximum at an index. -/
theorem rowMax_at (s : Vec Ideal S32x1x8x64x576 .f32) (b : Fin 32) (h : Fin 8) (r : Fin 64) :
    rowMax s (ix4 b (0 : Fin 1) h r) = Finset.univ.fold max (Ideal.ofBits FTy.f32 0xFF800000#32) fun i : Fin 576 => s (ix5 b (0 : Fin 1) h r i) :=
  max_last s _ _ _ b 0 h r

/-- The bit pattern of minus infinity. -/
theorem neg_inf : Ideal.ofBits FTy.f32 4286578688#32 = ⊥ := by simp [Ideal.ofBits, Ideal.ieee]

/-- The exponentials at an index, over any row numbers. -/
theorem expsOf_at (s : Vec Ideal S32x1x8x64x576 .f32) (t : Vec Ideal S32x1x8x64 .f32) (b : Fin 32) (h : Fin 8) (r : Fin 64) (i : Fin 576) :
    expsOf s t (ix5 b (0 : Fin 1) h r i) = Ideal.exp (s (ix5 b (0 : Fin 1) h r i) - max (Ideal.ofBits FTy.f32 4286578688#32) (t (ix4 b (0 : Fin 1) h r))) := by
  pointwise [expsOf]

/-- The exponentials at an index. -/
theorem exps_at (s : Vec Ideal S32x1x8x64x576 .f32) (b : Fin 32) (h : Fin 8) (r : Fin 64) (i : Fin 576) :
    exps s (ix5 b (0 : Fin 1) h r i) = Ideal.exp (s (ix5 b (0 : Fin 1) h r i) - Finset.univ.fold max ⊥ fun i : Fin 576 => s (ix5 b (0 : Fin 1) h r i)) := by
  rw [exps, expsOf_at, rowMax_at, neg_inf, max_eq_right bot_le]

/-- The weights at an index. -/
theorem weights_at (e : Vec Ideal S32x1x8x64x576 .f32) (b : Fin 32) (h : Fin 8) (r : Fin 64) (i : Fin 576) :
    weights e (ix5 b (0 : Fin 1) h r i) = Ideal.div (e (ix5 b (0 : Fin 1) h r i)) (∑ i : Fin 576, e (ix5 b (0 : Fin 1) h r i)) := by
  pointwise [weights]

/-- The scores at an index. -/
theorem scores_at (q : Vec Ideal S32x64x512 .f32) (k : Vec Ideal S32x1x576x8x64 .f32) (t : Vec Ideal S8x64x576 .f32) (b : Fin 32) (h : Fin 8) (r : Fin 64) (i : Fin 576) :
    scores q k t (ix5 b (0 : Fin 1) h r i) = (∑ x : Fin 64, q (ix3 b r (⟨h * 64 + x, by omega⟩ : Fin 512)) * k (ix5 b (0 : Fin 1) i h x)) * Ideal.ofBits FTy.f32 1040187392#32 + t (ix3 h r i) := by
  pointwise [scores]

/-- The result at an index. -/
theorem mixed_at (v : Vec Ideal S32x1x576x8x64 .f32) (s : Vec Ideal S32x1x8x64x576 .f32) (b : Fin 32) (r : Fin 64) (j : Fin 512) :
    mixed v s (ix3 b r j) = ∑ i : Fin 576, v (ix5 b (0 : Fin 1) i (⟨j / 64, by omega⟩ : Fin 8) (⟨j % 64, by omega⟩ : Fin 64)) * s (ix5 b (0 : Fin 1) (⟨j / 64, by omega⟩ : Fin 8) r i) := by
  pointwise [mixed]

/-- The clipped distance at an index, as a number. -/
theorem rel_at (r : Fin 64) (i : Fin 576) : rel (ix2 r i) = BitVec.ofNat 32 (min (640 + r - i) 256) := by
  have e : rel (ix2 r i) = IntOp.addi (IntOp.minsi 128#32 (IntOp.maxsi 4294967168#32 (IntOp.subi (IntOp.addi 512#32 (BitVec.ofNat 32 r)) (BitVec.ofNat 32 i)))) 128#32 := by
    pointwise [rel]
    rfl
  rw [e]
  have hd : IntOp.subi (IntOp.addi 512#32 (BitVec.ofNat 32 r)) (BitVec.ofNat 32 i) = BitVec.ofNat 32 (r + 575 - i) - 63#32 := by
    show 512#32 + BitVec.ofNat 32 r - BitVec.ofNat 32 i = _
    have hr := r.isLt
    have hi := i.isLt
    apply BitVec.eq_of_toNat_eq
    simp only [BitVec.toNat_sub, BitVec.toNat_add, BitVec.toNat_ofNat]
    omega
  have hall : ∀ t : Fin 639, IntOp.addi (IntOp.minsi 128#32 (IntOp.maxsi 4294967168#32 (BitVec.ofNat 32 t - 63#32))) 128#32 = BitVec.ofNat 32 (min (65 + t) 256) := by
    decide +kernel
  rw [hd]
  refine (hall ⟨r + 575 - i, by omega⟩).trans (congrArg (BitVec.ofNat 32) ?_)
  show min (65 + ((r : ℕ) + 575 - i)) 256 = _
  omega

/-- The bias gather at an index: the table's row, at the column the index array names. -/
theorem gather_at (t : Vec Ideal S8x257 .f32) (x : IVec S64x576x1 32) (h : Fin 8) (r : Fin 64) (i : Fin 576) :
    Host.gather gather_S8x257_S64x576x1_S8x64x576_0_1_n_n_1_2_81 t x (ix3 h r i)
      = t (ix2 h (⟨min (x (ix3 r i (0 : Fin 1))).toInt.toNat 256, by omega⟩ : Fin 257)) := by
  generalize hd : gather_S8x257_S64x576x1_S8x64x576_0_1_n_n_1_2_81 = d
  unfold Host.gather
  refine congrArg t (funext fun a => Fin.ext ?_)
  show d.start (ix3 h r i) x a + d.batchCoord (ix3 h r i) a + d.offCoord (ix3 h r i) a = _
  subst hd
  match a with
  | ⟨0, _⟩ =>
    rw [GatherDims.batchCoord_eq_zero _ _ _ (by show (0 : Fin 2) ∉ ([] : List (Fin 2)); simp)]
    unfold GatherDims.start
    rw [dif_neg (by show (0 : Fin 2) ∉ ([1] : List (Fin 2)); decide)]
    rw [Nat.zero_add]
    unfold GatherDims.offCoord
    rw [dif_pos ((GatherDims.mem_sKept _ _).mpr ⟨by show (0 : Fin 2) ∉ ([1] : List (Fin 2)); decide, by show (0 : Fin 2) ∉ ([] : List (Fin 2)); simp⟩)]
    rfl
  | ⟨1, _⟩ =>
    rw [GatherDims.batchCoord_eq_zero _ _ _ (by show (1 : Fin 2) ∉ ([] : List (Fin 2)); simp),
      GatherDims.offCoord_eq_zero _ _ _ (fun hm => ((GatherDims.mem_sKept _ _).mp hm).1 (by show (1 : Fin 2) ∈ ([1] : List (Fin 2)); simp))]
    unfold GatherDims.start
    rw [dif_pos (by show (1 : Fin 2) ∈ ([1] : List (Fin 2)); simp)]
    show min (x _).toInt.toNat _ = min (x _).toInt.toNat 256
    congr 4
    funext b
    refine Fin.ext ?_
    match b with
    | ⟨0, _⟩ => rfl
    | ⟨1, _⟩ => rfl
    | ⟨2, _⟩ => rfl

/-- The bias at an index: the table at the clipped distance. -/
theorem biases_at (t : Vec Ideal S8x257 .f32) (h : Fin 8) (r : Fin 64) (i : Fin 576) :
    biases t (ix3 h r i) = t (ix2 h (⟨min (640 + r - i) 256, by omega⟩ : Fin 257)) := by
  have hr := rel_at r i
  unfold biases
  generalize rel = w at hr ⊢
  rw [gather_at]
  refine congrArg t (congrArg (ix2 h) (Fin.ext ?_))
  have e : (broadcastInDim S64x576x1 ![0, 1] bcast_S64x576_S64x576x1_0_1 (select (cmpi .slt w (broadcastInDim S64x576 ![] bcast_S_S64x576 (constantI S_ 32 0#32))) (addi w (broadcastInDim S64x576 ![] bcast_S_S64x576 (constantI S_ 32 257#32))) w)) (ix3 r i (0 : Fin 1))
      = Scalar.select (IntOp.cmpi .slt (w (ix2 r i)) 0#32) (IntOp.addi (w (ix2 r i)) 257#32) (w (ix2 r i)) := by
    pointwise
  have hall : ∀ n : Fin 257, min (Scalar.select (IntOp.cmpi .slt (BitVec.ofNat 32 n) 0#32) (IntOp.addi (BitVec.ofNat 32 n) 257#32) (BitVec.ofNat 32 n)).toInt.toNat 256 = n := by
    decide +kernel
  show min (BitVec.toInt _).toNat 256 = _
  rw [e, hr]
  exact hall ⟨min (640 + r - i) 256, by omega⟩

end Cert.ReferenceIdeal.Heads
-- ==== Proof.Finite.lean ====
module

public import proofs.«01_k».proof.Defs
public import proofs.«01_k».proof.Proof.Gen.Pre_finite
public import Idealize.ShloMosaic.Lib.ReduceAll
public import Idealize.ShloMosaic.Lib.Pointwise
public import Idealize.ShloMosaic.Lib.Pipeline.ValueKit

/-!
  What the precondition `finite` gives: every query, every new key, every cached key of the layer and every entry of the
  bias table is a real number.
-/

@[expose] public section

set_option maxRecDepth 16384

noncomputable section

namespace Cert.Finite

open Idealize.ShloMosaic Cert.Pre_finite Cert.Pre_finite.Gen

/-- A value whose size is below plus infinity is real. -/
theorem real_of_lt (x : EReal) (h : Ideal.cmp .olt (max x (-x)) (Ideal.ofBits .f32 0x7F800000#32) = 1#1) : ∃ r : ℝ, x = r := by
  have hi : Ideal.ofBits .f32 0x7F800000#32 = ⊤ := by simp [Ideal.ofBits, Ideal.ieee]
  rw [hi] at h
  induction x using EReal.rec with
  | bot => simp [Ideal.cmp] at h
  | top => simp [Ideal.cmp] at h
  | coe r => exact ⟨r, rfl⟩

variable (q : Vec Ideal S32x64x512 .f32) (kv : Vec Ideal S32x64x1024 .f32) (ck cv : Vec Ideal S2x32x512x8x64 .f32) (t : Vec Ideal S8x257 .f32)

/-- The one index of an array with no axes. -/
instance : Subsingleton S_.Idx := ⟨fun a b => funext fun k => k.elim0⟩

/-- The four parts of the precondition, each at every index. -/
theorem parts (h : fn (F := Ideal) q kv ck cv t = fun _ => 1#1) :
    (∀ i, ∃ r : ℝ, q i = r) ∧ (∀ (b : Fin 32) (i : Fin 64) (j : Fin 512), ∃ r : ℝ, kv (ix3 b i (⟨j, by omega⟩ : Fin 1024)) = r)
      ∧ (∀ (b : Fin 32) (i : Fin 512) (n : Fin 8) (d : Fin 64), ∃ r : ℝ, ck (ix5 (0 : Fin 2) b i n d) = r) ∧ ∀ i, ∃ r : ℝ, t i = r := by
  have h0 := congrFun h (Shape.Idx.first Facts.h_S_)
  dsimp only [fn, fn_part1] at h0
  obtain ⟨h1, ht⟩ := IntOp.andi_eq_one.1 h0
  obtain ⟨h2, hk⟩ := IntOp.andi_eq_one.1 h1
  obtain ⟨hq, hn⟩ := IntOp.andi_eq_one.1 h2
  refine ⟨fun i => real_of_lt _ (Host.reduce_andi_all _ _ _ _ _ hq i), fun b i j => ?_, fun b i n d => ?_, fun i => real_of_lt _ (Host.reduce_andi_all _ _ _ _ _ ht i)⟩
  · have e := real_of_lt _ (Host.reduce_andi_all _ _ _ _ _ hn (ix3 b i j))
    obtain ⟨r, e⟩ := e
    refine ⟨r, e.symm.trans ?_ |>.symm⟩
    pointwise
  · have e := real_of_lt _ (Host.reduce_andi_all _ _ _ _ _ hk (ix4 b i n d))
    obtain ⟨r, e⟩ := e
    refine ⟨r, e.symm.trans ?_ |>.symm⟩
    pointwise

end Cert.Finite
-- ==== Proof.Attention.lean ====
module

public import proofs.«01_k».proof.Proof.Sample
public import proofs.«01_k».proof.Proof.RefHeads
public import proofs.«01_k».proof.Proof.Gen.ReferenceIdeal.Run
public import proofs.«01_k».proof.Proof.Finite

/-!
  The attention over the cached rows: the kernel's array is the reference's, when `finite` holds.
-/

@[expose] public section

set_option maxRecDepth 16384

noncomputable section

namespace Cert.Attention

open Idealize.ShloMosaic Idealize.ShloMosaic.TcCoe Idealize.SL.Sem
open Cert.KernelIdeal (S32x64x512 S32x64x1024 S2x32x512x8x64 S8x257 κ)
open Cert.ReferenceIdeal.Heads

variable (q : Vec Ideal S32x64x512 .f32) (kv : Vec Ideal S32x64x1024 .f32) (ck cv : Vec Ideal S2x32x512x8x64 .f32) (t : Vec Ideal S8x257 .f32)

/-- The reference's scale of the scores. -/
theorem scale_eq : Ideal.ofBits FTy.f32 1040187392#32 = ((1 / 8 : ℝ) : EReal) := by
  have e : ((8388608 : ℝ) * ((2 : ℝ) ^ 26)⁻¹) = 8⁻¹ := by norm_num
  simp [Ideal.ofBits, Ideal.ieee]
  rw [← e, EReal.coe_mul]

/-- The key of column `i` at a head's lane: cached, then new. -/
def keyAt (b : Fin 32) (h : Fin 8) (i : Fin 576) (x : Fin 64) : EReal :=
  if hi : (i : ℕ) < 512 then ck (ix5 (0 : Fin 2) b (⟨i, hi⟩ : Fin 512) h x)
  else kv (ix3 b (⟨i - 512, by omega⟩ : Fin 64) (⟨h * 64 + x, by omega⟩ : Fin 1024))

/-- The value of column `i` at a head's lane: cached, then new. -/
def valAt (b : Fin 32) (h : Fin 8) (d : Fin 64) (i : Fin 576) : EReal :=
  if hi : (i : ℕ) < 512 then cv (ix5 (0 : Fin 2) b (⟨i, hi⟩ : Fin 512) h d)
  else kv (ix3 b (⟨i - 512, by omega⟩ : Fin 64) (⟨512 + (h * 64 + d), by omega⟩ : Fin 1024))

/-- The reference's score of column `i`. -/
def scoreAt (b : Fin 32) (r : Fin 64) (h : Fin 8) (i : Fin 576) : EReal :=
  (∑ x : Fin 64, q (ix3 b r (⟨h * 64 + x, by omega⟩ : Fin 512)) * keyAt kv ck b h i x) * ((1 / 8 : ℝ) : EReal)
    + t (ix2 h (⟨min (640 + r - i) 256, by omega⟩ : Fin 257))

/-- The reference's result at an index, its operations opened. -/
theorem ref_at (b : Fin 32) (r : Fin 64) (h : Fin 8) (d : Fin 64) :
    mixed (vals cv kv) (weights (exps (scores q (keys ck kv) (biases t)))) (ix3 b r (⟨64 * h + d, by omega⟩ : Fin 512))
      = ∑ i : Fin 576, valAt kv cv b h d i
        * Ideal.div (Ideal.exp (scoreAt q kv ck t b r h i - Finset.univ.fold max ⊥ (scoreAt q kv ck t b r h)))
          (∑ i, Ideal.exp (scoreAt q kv ck t b r h i - Finset.univ.fold max ⊥ (scoreAt q kv ck t b r h))) := by
  have e1 : (⟨(64 * (h : ℕ) + d) / 64, by omega⟩ : Fin 8) = h := Fin.ext (by show (64 * (h : ℕ) + d) / 64 = h; omega)
  have e2 : (⟨(64 * (h : ℕ) + d) % 64, by omega⟩ : Fin 64) = d := Fin.ext (by show (64 * (h : ℕ) + d) % 64 = d; omega)
  have eS (i : Fin 576) : scores q (keys ck kv) (biases t) (ix5 b (0 : Fin 1) h r i) = scoreAt q kv ck t b r h i := by
    rw [scores_at, biases_at, scale_eq, scoreAt]
    simp only [keys_at, keyAt]
  rw [mixed_at, e1, e2]
  simp only [vals_at, weights_at, exps_at, eS, valAt]

/-- The two results at an index. -/
theorem at_eq (hf : Pre_finite.fn (F := Ideal) q kv ck cv t = fun _ => 1#1) (b : Fin 32) (r : Fin 64) (h : Fin 8) (d : Fin 64) :
    KernelIdeal.Sample.resAt q kv ck cv t b r h d
      = mixed (vals cv kv) (weights (exps (scores q (keys ck kv) (biases t)))) (ix3 b r (⟨64 * h + d, by omega⟩ : Fin 512)) := by
  obtain ⟨hq, hn, hk, ht⟩ := Finite.parts q kv ck cv t hf
  choose q' hq using hq
  choose n' hn using hn
  choose k' hk using hk
  choose t' ht using ht
  let key (i : Fin 576) (x : Fin 64) : ℝ := if hi : (i : ℕ) < 512 then k' b ⟨i, hi⟩ h x else n' b ⟨i - 512, by omega⟩ ⟨h * 64 + x, by omega⟩
  have hkey (i : Fin 576) (x : Fin 64) : keyAt kv ck b h i x = ((key i x : ℝ) : EReal) := by
    dsimp only [keyAt, key]
    split
    · exact hk _ _ _ _
    · exact hn _ _ ⟨h * 64 + x, by omega⟩
  have hq' (x : Fin 64) : q (ix3 b r (⟨64 * h + x, by omega⟩ : Fin 512)) = ((q' (ix3 b r (⟨h * 64 + x, by omega⟩ : Fin 512)) : ℝ) : EReal) := by
    rw [← hq]
    exact congrArg (fun n => q (ix3 b r n)) (Fin.ext (by show 64 * (h : ℕ) + x = h * 64 + x; omega))
  let s (i : Fin (512 + 64)) : ℝ := (∑ x : Fin 64, q' (ix3 b r (⟨h * 64 + x, by omega⟩ : Fin 512)) * key i x) * (1 / 8)
    + t' (ix2 h (⟨min (640 + r - (i : ℕ)) 256, by omega⟩ : Fin 257))
  have scaled (i : Fin 576) : ∑ x : Fin 64, ((q' (ix3 b r (⟨h * 64 + x, by omega⟩ : Fin 512)) : ℝ) : EReal) * (((1 / 8) * Softmax.c : ℝ) : EReal) * ((key i x : ℝ) : EReal)
      + ((t' (ix2 h (⟨min (640 + r - (i : ℕ)) 256, by omega⟩ : Fin 257)) : ℝ) : EReal) * ((Softmax.c : ℝ) : EReal) = ((s i * Softmax.c : ℝ) : EReal) := by
    simp only [← EReal.coe_mul, Softmax.sum_real, ← EReal.coe_add]
    refine congrArg (fun x : ℝ => (x : EReal)) ?_
    dsimp only [s]
    rw [add_mul, Finset.sum_mul, Finset.sum_mul]
    refine congrArg (· + t' (ix2 h (⟨min (640 + r - (i : ℕ)) 256, by omega⟩ : Fin 257)) * Softmax.c) (Finset.sum_congr rfl fun x _ => ?_)
    ring
  have qs := KernelIdeal.Heads.qscale_eq
  have ls := KernelIdeal.Heads.log2e_eq
  rw [ref_at]
  refine Eq.trans ?_ (Softmax.row_eq (n₁ := 512) (n₂ := 64) s (valAt kv cv b h d) _ _ (scoreAt q kv ck t b r h) (fun i => scaled (Fin.castAdd 64 i)) (fun i => scaled (Fin.natAdd 512 i)) fun i => ?_)
  · show KernelIdeal.Heads.row _ _ _ _ = KernelIdeal.Heads.row _ _ (fun i => valAt kv cv b h d (Fin.castAdd 64 i)) (fun i => valAt kv cv b h d (Fin.natAdd 512 i))
    refine congr (congr (congr (congrArg KernelIdeal.Heads.row ?_) ?_) ?_) ?_
    · funext i
      rw [ls, ht]
      refine congrArg (· + _) (Finset.sum_congr rfl fun x _ => ?_)
      rw [hq', qs, ← hkey, keyAt, dif_pos (show ((Fin.castAdd 64 i : Fin (512 + 64)) : ℕ) < 512 from i.isLt)]
      rfl
    · funext i
      rw [ls, ht]
      refine congrArg (· + _) (Finset.sum_congr rfl fun x _ => ?_)
      rw [hq', qs, ← hkey, keyAt, dif_neg (by show ¬(512 + (i : ℕ) < 512); omega)]
      refine congrArg (_ * ·) (congrArg₂ (fun a c => kv (ix3 b a c)) (Fin.ext ?_) (Fin.ext ?_))
      · show (i : ℕ) = 512 + i - 512
        omega
      · show 64 * (h : ℕ) + x = h * 64 + x
        omega
    · funext i
      rw [valAt, dif_pos (show ((Fin.castAdd 64 i : Fin (512 + 64)) : ℕ) < 512 from i.isLt)]
      rfl
    · funext i
      rw [valAt, dif_neg (by show ¬(512 + (i : ℕ) < 512); omega)]
      refine congrArg₂ (fun a c => kv (ix3 b a c)) (Fin.ext ?_) (Fin.ext ?_)
      · show (i : ℕ) = 512 + i - 512
        omega
      · show 512 + 64 * (h : ℕ) + d = 512 + (h * 64 + d)
        omega
  · rw [scoreAt, ht]
    simp only [hq, hkey, ← EReal.coe_mul, Softmax.sum_real, ← EReal.coe_add]
    rfl

/-- The two result arrays, from memories that agree on the arguments. -/
theorem result_eq (m : (ℓ : Loc KernelIdeal.nD KernelIdeal.τ KernelIdeal.sig) → Buf (Elt Ideal) ℓ) (m' : (ℓ : Loc ReferenceIdeal.nD ReferenceIdeal.τ ReferenceIdeal.sig) → Buf (Elt Ideal) ℓ)
    (c : Dev KernelIdeal.nD) (hf : Pre_finite.fn (F := Ideal) (m (c.tc.loc KernelIdeal.main_arg0)) (m (c.tc.loc KernelIdeal.main_arg1)) (m (c.tc.loc KernelIdeal.main_arg2)) (m (c.tc.loc KernelIdeal.main_arg3)) (m (c.tc.loc KernelIdeal.main_arg4)) = fun _ => 1#1)
    (h0 : m' (c.tc.loc ReferenceIdeal.main_arg0) = m (c.tc.loc KernelIdeal.main_arg0))
    (h1 : m' (c.tc.loc ReferenceIdeal.main_arg1) = m (c.tc.loc KernelIdeal.main_arg1))
    (h2 : m' (c.tc.loc ReferenceIdeal.main_arg2) = m (c.tc.loc KernelIdeal.main_arg2))
    (h3 : m' (c.tc.loc ReferenceIdeal.main_arg3) = m (c.tc.loc KernelIdeal.main_arg3))
    (h4 : m' (c.tc.loc ReferenceIdeal.main_arg4) = m (c.tc.loc KernelIdeal.main_arg4)) :
    ReferenceIdeal.Value.res_main_v55 (F := Ideal) m' c = KernelIdeal.Sample.result m c := by
  rw [ReferenceIdeal.Heads.res_eq, h0, h1, h2, h3, h4]
  funext i
  idx_vars i
  refine Eq.trans ?_ (at_eq _ _ _ _ _ hf _ _ _ _).symm
  refine congrArg _ (funext fun k => ?_)
  fin_cases k
  · rfl
  · rfl
  · exact Fin.ext (Nat.div_add_mod _ 64).symm

/-- The value claim. -/
theorem algebraic : algebraic_KernelIdeal_ReferenceIdeal_pre_finite := fun m ρ m' ρ' hpre hag =>
  ⟨fun c => KernelIdeal.Sample.result m c,
    (θ_run _ _ _).mono (fun _ h c => ⟨(h c).1.trans (KernelIdeal.Sample.final m c), (h c).2⟩) (KernelIdeal.Value.run_blocks m ρ),
    (θ_run _ _ _).mono (fun _ h c => ⟨(h c).1.trans (result_eq m m' c (hpre c) (hag c).1 (hag c).2.1 (hag c).2.2.1 (hag c).2.2.2.1 (hag c).2.2.2.2), (h c).2⟩)
      (ReferenceIdeal.Value.run m' ρ')⟩

end Cert.Attention
-- ==== Proof.MoeBody.lean ====
module

public import proofs.«01_k».proof.Proof.Gen.Kernel2
public import proofs.«01_k».proof.Proof.Gen.Kernel2.Skeleton
public import proofs.«01_k».proof.Proof.Gen.Kernel2.Launch
public import Idealize.ShloMosaic.Lib.Claim
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Lib.Pipeline.Kit
public import Idealize.ShloMosaic.Lib.Pipeline.FrameBody
public import Idealize.ShloMosaic.PureOps.BitExact
public import Idealize.ShloMosaic.Adequacy
public import Idealize.ShloMosaic.Init

/-!
  The body of the grouped expert kernel at one tile, for any words in its two tables: what it leaves in the output tile
  and in the three scratch buffers. Two decisions make four cases: whether the tile's group differs from the one before
  it (the scratch buffers are filled again), and whether the tile is one of the active ones (else it is filled with zeros).
-/

@[expose] public section

set_option maxRecDepth 16384
set_option Elab.async false

noncomputable section

namespace Cert.Kernel2.Moe

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource algebra of the program logic. -/
abbrev 𝕄 := MT nD τ sig Unit (Elt Bits) ℕ (UR sig nD τ) ℕ

/-- The two tables, whole. -/
abbrev tbM0_0 : Memref sig .tc .smem S43 .i32 := Memref.whole main_arg0
/-- The second table, whole. -/
abbrev tbM0_1 : Memref sig .tc .smem S1 .i32 := Memref.whole main_arg1
/-- The three scratch buffers, whole. -/
abbrev scM0_0 : Memref sig .tc .vmem S4x1024x256 .bf16 := Memref.whole cc0_scratch0
/-- The second scratch buffer, whole. -/
abbrev scM0_1 : Memref sig .tc .vmem S4x1024x256 .bf16 := Memref.whole cc0_scratch1
/-- The third scratch buffer, whole. -/
abbrev scM0_2 : Memref sig .tc .vmem S4x256x1024 .bf16 := Memref.whole cc0_scratch2

/-- The number of active tiles, as the body reads it. -/
abbrev act (T1 : S1.Idx → Elt Bits .i32) : BitVec 32 :=
  View.readAt (Elt Bits) (tbM0_1).view (Rect.unit (s := S1) ![0] S1.size inb_S1_S1_0).toLoadRect T1 (Shape.Idx.first (numel1_S1.symm ▸ Nat.one_pos))

/-- The decision to fill the scratch buffers: the first tile, or one whose group is not the group of the tile before. -/
abbrev Refresh (i : grid0.Coords) (T0 : S43.Idx → Elt Bits .i32) : Prop :=
  (Scalar.cmpi .ne (Scalar.extui (Scalar.ori (Scalar.cmpi .eq (BitVec.ofNat 32 (i 0).val) 0#32) (Scalar.cmpi .ne (View.readAt (Elt Bits) (tbM0_0).view (Rect.unit (s := S43) (k0_off1 i) S1.size (k0_off1_inb i)).toLoadRect T0 (Shape.Idx.first (numel1_S1.symm ▸ Nat.one_pos))) (View.readAt (Elt Bits) (tbM0_0).view (Rect.unit (s := S43) (k0_off2 i) S1.size (k0_off2_inb i)).toLoadRect T0 (Shape.Idx.first (numel1_S1.symm ▸ Nat.one_pos)))))) 0#32) = 1#1

/-- One buffer of the output tile, through which its contents are stated. -/
abbrev VO : View sig .tc .vmem S512x1024 .f32 := (Memref.whole cc0_stg4_0 : Memref sig .tc .vmem S512x1024 .f32).view

set_option backward.proofsInPublic true in
set_option maxHeartbeats 8000000 in
/-- The tile is active and its group is new. The stores into the output tile and the scratch buffers' contents, with the run that leaves them. -/
noncomputable def runRA (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Bits .i32) (T1 : S1.Idx → Elt Bits .i32)
    (x0 : S512x1280.Idx → Elt Bits .bf16) (x1 : S1x4x1024x256.Idx → Elt Bits .f32) (x2 : S1x4x1024x256.Idx → Elt Bits .f32) (x3 : S1x4x256x1024.Idx → Elt Bits .f32)
     (hc0 : Refresh i T0) (h2 : ¬(k0_cond2 i (act T1) = 1#1)) (h3 : (k0_cond3 i (act T1) = 1#1)) :
    Σ' (out0 : List (View.Piece (Elt Bits) S512x1024 .f32)) (out1 : Buf (Elt Bits) ((c : Thread nD τ).loc cc0_scratch0)) (out2 : Buf (Elt Bits) ((c : Thread nD τ).loc cc0_scratch1)), { out3 : Buf (Elt Bits) ((c : Thread nD τ).loc cc0_scratch2) //
      ∀ (xa0 : Buf (Elt Bits) ((c : Thread nD τ).loc cc0_scratch0)) (xa1 : Buf (Elt Bits) ((c : Thread nD τ).loc cc0_scratch1)) (xa2 : Buf (Elt Bits) ((c : Thread nD τ).loc cc0_scratch2)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0_0.view.loc (c : Thread nD τ) ↦{fullShare.right} T0)
              ∗ (tbM0_1.view.loc (c : Thread nD τ) ↦{fullShare.right} T1)
              ∗ (∃ f, arg7.view.loc (c : Thread nD τ) ↦[arg7.view.set]{fullShare} arg7.view.writes (Elt Bits) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Bits)) Variants.none c none) Set.univ (cc0__moe_group_kernel i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _)) K } :=
  ⟨_, _, _, _, fun (xa0 : Buf (Elt Bits) ((c : Thread nD τ).loc cc0_scratch0)) (xa1 : Buf (Elt Bits) ((c : Thread nD τ).loc cc0_scratch1)) (xa2 : Buf (Elt Bits) ((c : Thread nD τ).loc cc0_scratch2)) K => by
    unfold owns
    rw [cc0__moe_group_kernel_eq_skeleton]; unfold cc0__moe_group_kernel_skel
    iintro ⟨H0, H1, H2, H3, HT0, HT1, ⟨%d4, %f4, -, HO4⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(k0_cond2 _ _ = _); exact h2) | (guard_target = k0_cond3 _ _ = _; exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    iexact HS2⟩

/-- The stores of `runRA` cover the output tile. -/
theorem coverRA (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Bits .i32) (T1 : S1.Idx → Elt Bits .i32)
    (x0 : S512x1280.Idx → Elt Bits .bf16) (x1 : S1x4x1024x256.Idx → Elt Bits .f32) (x2 : S1x4x1024x256.Idx → Elt Bits .f32) (x3 : S1x4x256x1024.Idx → Elt Bits .f32)
     (hc0 : Refresh i T0) (h2 : ¬(k0_cond2 i (act T1) = 1#1)) (h3 : (k0_cond3 i (act T1) = 1#1)) (y : S512x1024.Idx) :
    ∃ pc ∈ (runRA c i arg3 harg3 arg4 harg4 arg5 harg5 arg6 harg6 arg7 harg7 T0 T1 x0 x1 x2 x3 hc0 h2 h3).1, y ∈ pc.1.set :=
  View.cover_of_tiledL (runRA c i arg3 harg3 arg4 harg4 arg5 harg5 arg6 harg6 arg7 harg7 T0 T1 x0 x1 x2 x3 hc0 h2 h3).1 S512x1024.size (by sl_kernel_rfl) y

/-- What `runRA` leaves in the output tile. -/
def outRA (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Bits .i32) (T1 : S1.Idx → Elt Bits .i32)
    (x0 : S512x1280.Idx → Elt Bits .bf16) (x1 : S1x4x1024x256.Idx → Elt Bits .f32) (x2 : S1x4x1024x256.Idx → Elt Bits .f32) (x3 : S1x4x256x1024.Idx → Elt Bits .f32)
     (hc0 : Refresh i T0) (h2 : ¬(k0_cond2 i (act T1) = 1#1)) (h3 : (k0_cond3 i (act T1) = 1#1)) : S512x1024.Idx → Elt Bits .f32 :=
  VO.read (Elt Bits) (VO.writes (Elt Bits) VO.junk (runRA c i arg3 harg3 arg4 harg4 arg5 harg5 arg6 harg6 arg7 harg7 T0 T1 x0 x1 x2 x3 hc0 h2 h3).1)

set_option backward.proofsInPublic true in
set_option maxHeartbeats 8000000 in
/-- The tile is not active and its group is new. The stores into the output tile and the scratch buffers' contents, with the run that leaves them. -/
noncomputable def runRZ (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Bits .i32) (T1 : S1.Idx → Elt Bits .i32)
    (x0 : S512x1280.Idx → Elt Bits .bf16) (x1 : S1x4x1024x256.Idx → Elt Bits .f32) (x2 : S1x4x1024x256.Idx → Elt Bits .f32) (x3 : S1x4x256x1024.Idx → Elt Bits .f32)
     (hc0 : Refresh i T0) (h2 : (k0_cond2 i (act T1) = 1#1)) (h3 : ¬(k0_cond3 i (act T1) = 1#1)) :
    Σ' (out0 : List (View.Piece (Elt Bits) S512x1024 .f32)) (out1 : Buf (Elt Bits) ((c : Thread nD τ).loc cc0_scratch0)) (out2 : Buf (Elt Bits) ((c : Thread nD τ).loc cc0_scratch1)), { out3 : Buf (Elt Bits) ((c : Thread nD τ).loc cc0_scratch2) //
      ∀ (xa0 : Buf (Elt Bits) ((c : Thread nD τ).loc cc0_scratch0)) (xa1 : Buf (Elt Bits) ((c : Thread nD τ).loc cc0_scratch1)) (xa2 : Buf (Elt Bits) ((c : Thread nD τ).loc cc0_scratch2)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0_0.view.loc (c : Thread nD τ) ↦{fullShare.right} T0)
              ∗ (tbM0_1.view.loc (c : Thread nD τ) ↦{fullShare.right} T1)
              ∗ (∃ f, arg7.view.loc (c : Thread nD τ) ↦[arg7.view.set]{fullShare} arg7.view.writes (Elt Bits) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Bits)) Variants.none c none) Set.univ (cc0__moe_group_kernel i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _)) K } :=
  ⟨_, _, _, _, fun (xa0 : Buf (Elt Bits) ((c : Thread nD τ).loc cc0_scratch0)) (xa1 : Buf (Elt Bits) ((c : Thread nD τ).loc cc0_scratch1)) (xa2 : Buf (Elt Bits) ((c : Thread nD τ).loc cc0_scratch2)) K => by
    unfold owns
    rw [cc0__moe_group_kernel_eq_skeleton]; unfold cc0__moe_group_kernel_skel
    iintro ⟨H0, H1, H2, H3, HT0, HT1, ⟨%d4, %f4, -, HO4⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = k0_cond2 _ _ = _; exact h2) | (guard_target = ¬(k0_cond3 _ _ = _); exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    iexact HS2⟩

/-- The stores of `runRZ` cover the output tile. -/
theorem coverRZ (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Bits .i32) (T1 : S1.Idx → Elt Bits .i32)
    (x0 : S512x1280.Idx → Elt Bits .bf16) (x1 : S1x4x1024x256.Idx → Elt Bits .f32) (x2 : S1x4x1024x256.Idx → Elt Bits .f32) (x3 : S1x4x256x1024.Idx → Elt Bits .f32)
     (hc0 : Refresh i T0) (h2 : (k0_cond2 i (act T1) = 1#1)) (h3 : ¬(k0_cond3 i (act T1) = 1#1)) (y : S512x1024.Idx) :
    ∃ pc ∈ (runRZ c i arg3 harg3 arg4 harg4 arg5 harg5 arg6 harg6 arg7 harg7 T0 T1 x0 x1 x2 x3 hc0 h2 h3).1, y ∈ pc.1.set :=
  View.cover_of_tiledL (runRZ c i arg3 harg3 arg4 harg4 arg5 harg5 arg6 harg6 arg7 harg7 T0 T1 x0 x1 x2 x3 hc0 h2 h3).1 S512x1024.size (by sl_kernel_rfl) y

/-- What `runRZ` leaves in the output tile. -/
def outRZ (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Bits .i32) (T1 : S1.Idx → Elt Bits .i32)
    (x0 : S512x1280.Idx → Elt Bits .bf16) (x1 : S1x4x1024x256.Idx → Elt Bits .f32) (x2 : S1x4x1024x256.Idx → Elt Bits .f32) (x3 : S1x4x256x1024.Idx → Elt Bits .f32)
     (hc0 : Refresh i T0) (h2 : (k0_cond2 i (act T1) = 1#1)) (h3 : ¬(k0_cond3 i (act T1) = 1#1)) : S512x1024.Idx → Elt Bits .f32 :=
  VO.read (Elt Bits) (VO.writes (Elt Bits) VO.junk (runRZ c i arg3 harg3 arg4 harg4 arg5 harg5 arg6 harg6 arg7 harg7 T0 T1 x0 x1 x2 x3 hc0 h2 h3).1)

set_option backward.proofsInPublic true in
set_option maxHeartbeats 8000000 in
/-- The tile is active and of the same group as the one before. The stores into the output tile and the scratch buffers' contents, with the run that leaves them. -/
noncomputable def runNA (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Bits .i32) (T1 : S1.Idx → Elt Bits .i32)
    (x0 : S512x1280.Idx → Elt Bits .bf16) (x1 : S1x4x1024x256.Idx → Elt Bits .f32) (x2 : S1x4x1024x256.Idx → Elt Bits .f32) (x3 : S1x4x256x1024.Idx → Elt Bits .f32)
    (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬Refresh i T0) (h2 : ¬(k0_cond2 i (act T1) = 1#1)) (h3 : (k0_cond3 i (act T1) = 1#1)) :
    Σ' (out0 : List (View.Piece (Elt Bits) S512x1024 .f32)) (out1 : Buf (Elt Bits) ((c : Thread nD τ).loc cc0_scratch0)) (out2 : Buf (Elt Bits) ((c : Thread nD τ).loc cc0_scratch1)), { out3 : Buf (Elt Bits) ((c : Thread nD τ).loc cc0_scratch2) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0_0.view.loc (c : Thread nD τ) ↦{fullShare.right} T0)
              ∗ (tbM0_1.view.loc (c : Thread nD τ) ↦{fullShare.right} T1)
              ∗ (∃ f, arg7.view.loc (c : Thread nD τ) ↦[arg7.view.set]{fullShare} arg7.view.writes (Elt Bits) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Bits)) Variants.none c none) Set.univ (cc0__moe_group_kernel i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _)) K } :=
  ⟨_, _, _, _, fun K => by
    unfold owns
    rw [cc0__moe_group_kernel_eq_skeleton]; unfold cc0__moe_group_kernel_skel
    iintro ⟨H0, H1, H2, H3, HT0, HT1, ⟨%d4, %f4, -, HO4⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(k0_cond2 _ _ = _); exact h2) | (guard_target = k0_cond3 _ _ = _; exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    iexact HS2⟩

/-- The stores of `runNA` cover the output tile. -/
theorem coverNA (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Bits .i32) (T1 : S1.Idx → Elt Bits .i32)
    (x0 : S512x1280.Idx → Elt Bits .bf16) (x1 : S1x4x1024x256.Idx → Elt Bits .f32) (x2 : S1x4x1024x256.Idx → Elt Bits .f32) (x3 : S1x4x256x1024.Idx → Elt Bits .f32)
    (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬Refresh i T0) (h2 : ¬(k0_cond2 i (act T1) = 1#1)) (h3 : (k0_cond3 i (act T1) = 1#1)) (y : S512x1024.Idx) :
    ∃ pc ∈ (runNA c i arg3 harg3 arg4 harg4 arg5 harg5 arg6 harg6 arg7 harg7 T0 T1 x0 x1 x2 x3 xa0 xa1 xa2 hc0 h2 h3).1, y ∈ pc.1.set :=
  View.cover_of_tiledL (runNA c i arg3 harg3 arg4 harg4 arg5 harg5 arg6 harg6 arg7 harg7 T0 T1 x0 x1 x2 x3 xa0 xa1 xa2 hc0 h2 h3).1 S512x1024.size (by sl_kernel_rfl) y

/-- What `runNA` leaves in the output tile. -/
def outNA (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Bits .i32) (T1 : S1.Idx → Elt Bits .i32)
    (x0 : S512x1280.Idx → Elt Bits .bf16) (x1 : S1x4x1024x256.Idx → Elt Bits .f32) (x2 : S1x4x1024x256.Idx → Elt Bits .f32) (x3 : S1x4x256x1024.Idx → Elt Bits .f32)
    (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬Refresh i T0) (h2 : ¬(k0_cond2 i (act T1) = 1#1)) (h3 : (k0_cond3 i (act T1) = 1#1)) : S512x1024.Idx → Elt Bits .f32 :=
  VO.read (Elt Bits) (VO.writes (Elt Bits) VO.junk (runNA c i arg3 harg3 arg4 harg4 arg5 harg5 arg6 harg6 arg7 harg7 T0 T1 x0 x1 x2 x3 xa0 xa1 xa2 hc0 h2 h3).1)

set_option backward.proofsInPublic true in
set_option maxHeartbeats 8000000 in
/-- The tile is not active and of the same group as the one before. The stores into the output tile and the scratch buffers' contents, with the run that leaves them. -/
noncomputable def runNZ (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Bits .i32) (T1 : S1.Idx → Elt Bits .i32)
    (x0 : S512x1280.Idx → Elt Bits .bf16) (x1 : S1x4x1024x256.Idx → Elt Bits .f32) (x2 : S1x4x1024x256.Idx → Elt Bits .f32) (x3 : S1x4x256x1024.Idx → Elt Bits .f32)
    (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬Refresh i T0) (h2 : (k0_cond2 i (act T1) = 1#1)) (h3 : ¬(k0_cond3 i (act T1) = 1#1)) :
    Σ' (out0 : List (View.Piece (Elt Bits) S512x1024 .f32)) (out1 : Buf (Elt Bits) ((c : Thread nD τ).loc cc0_scratch0)) (out2 : Buf (Elt Bits) ((c : Thread nD τ).loc cc0_scratch1)), { out3 : Buf (Elt Bits) ((c : Thread nD τ).loc cc0_scratch2) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0_0.view.loc (c : Thread nD τ) ↦{fullShare.right} T0)
              ∗ (tbM0_1.view.loc (c : Thread nD τ) ↦{fullShare.right} T1)
              ∗ (∃ f, arg7.view.loc (c : Thread nD τ) ↦[arg7.view.set]{fullShare} arg7.view.writes (Elt Bits) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Bits)) Variants.none c none) Set.univ (cc0__moe_group_kernel i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _)) K } :=
  ⟨_, _, _, _, fun K => by
    unfold owns
    rw [cc0__moe_group_kernel_eq_skeleton]; unfold cc0__moe_group_kernel_skel
    iintro ⟨H0, H1, H2, H3, HT0, HT1, ⟨%d4, %f4, -, HO4⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = k0_cond2 _ _ = _; exact h2) | (guard_target = ¬(k0_cond3 _ _ = _); exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    iexact HS2⟩

/-- The stores of `runNZ` cover the output tile. -/
theorem coverNZ (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Bits .i32) (T1 : S1.Idx → Elt Bits .i32)
    (x0 : S512x1280.Idx → Elt Bits .bf16) (x1 : S1x4x1024x256.Idx → Elt Bits .f32) (x2 : S1x4x1024x256.Idx → Elt Bits .f32) (x3 : S1x4x256x1024.Idx → Elt Bits .f32)
    (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬Refresh i T0) (h2 : (k0_cond2 i (act T1) = 1#1)) (h3 : ¬(k0_cond3 i (act T1) = 1#1)) (y : S512x1024.Idx) :
    ∃ pc ∈ (runNZ c i arg3 harg3 arg4 harg4 arg5 harg5 arg6 harg6 arg7 harg7 T0 T1 x0 x1 x2 x3 xa0 xa1 xa2 hc0 h2 h3).1, y ∈ pc.1.set :=
  View.cover_of_tiledL (runNZ c i arg3 harg3 arg4 harg4 arg5 harg5 arg6 harg6 arg7 harg7 T0 T1 x0 x1 x2 x3 xa0 xa1 xa2 hc0 h2 h3).1 S512x1024.size (by sl_kernel_rfl) y

/-- What `runNZ` leaves in the output tile. -/
def outNZ (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Bits .i32) (T1 : S1.Idx → Elt Bits .i32)
    (x0 : S512x1280.Idx → Elt Bits .bf16) (x1 : S1x4x1024x256.Idx → Elt Bits .f32) (x2 : S1x4x1024x256.Idx → Elt Bits .f32) (x3 : S1x4x256x1024.Idx → Elt Bits .f32)
    (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬Refresh i T0) (h2 : (k0_cond2 i (act T1) = 1#1)) (h3 : ¬(k0_cond3 i (act T1) = 1#1)) : S512x1024.Idx → Elt Bits .f32 :=
  VO.read (Elt Bits) (VO.writes (Elt Bits) VO.junk (runNZ c i arg3 harg3 arg4 harg4 arg5 harg5 arg6 harg6 arg7 harg7 T0 T1 x0 x1 x2 x3 xa0 xa1 xa2 hc0 h2 h3).1)

end Cert.Kernel2.Moe

end
-- ==== Proof.MoeTile.lean ====
module

public import proofs.«01_k».proof.Proof.MoeBody
public import Idealize.ShloMosaic.Lib.VecWindow

/-!
  What the body of the grouped expert kernel leaves, as functions of its blocks: the four experts' part of a tile (`tile`),
  and, in the scratch buffers, the group's weights.
-/

@[expose] public section

set_option maxRecDepth 16384
set_option Elab.async false

noncomputable section

namespace Cert.Kernel2.Moe

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- Expert `e`'s slice of the two up projections and of the down projection. -/
def up0 (a : Vec Bits S4x1024x256 .bf16) : Vec Bits S1x1024x256 .bf16 := fun y => a ((Rect.unit (s := S4x1024x256) ![0, 0, 0] S1x1024x256.size inb_S4x1024x256_S1x1024x256_0_0_0).toLoadRect.idx y)
/-- Expert 1's first-layer weights, cut out of the four. -/
def up1 (a : Vec Bits S4x1024x256 .bf16) : Vec Bits S1x1024x256 .bf16 := fun y => a ((Rect.unit (s := S4x1024x256) ![1, 0, 0] S1x1024x256.size inb_S4x1024x256_S1x1024x256_1_0_0).toLoadRect.idx y)
/-- Expert 2's first-layer weights, cut out of the four. -/
def up2 (a : Vec Bits S4x1024x256 .bf16) : Vec Bits S1x1024x256 .bf16 := fun y => a ((Rect.unit (s := S4x1024x256) ![2, 0, 0] S1x1024x256.size inb_S4x1024x256_S1x1024x256_2_0_0).toLoadRect.idx y)
/-- Expert 3's first-layer weights, cut out of the four. -/
def up3 (a : Vec Bits S4x1024x256 .bf16) : Vec Bits S1x1024x256 .bf16 := fun y => a ((Rect.unit (s := S4x1024x256) ![3, 0, 0] S1x1024x256.size inb_S4x1024x256_S1x1024x256_3_0_0).toLoadRect.idx y)
/-- Expert 0's second-layer weights, cut out of the four. -/
def dn0 (a : Vec Bits S4x256x1024 .bf16) : Vec Bits S1x256x1024 .bf16 := fun y => a ((Rect.unit (s := S4x256x1024) ![0, 0, 0] S1x256x1024.size inb_S4x256x1024_S1x256x1024_0_0_0).toLoadRect.idx y)
/-- Expert 1's second-layer weights, cut out of the four. -/
def dn1 (a : Vec Bits S4x256x1024 .bf16) : Vec Bits S1x256x1024 .bf16 := fun y => a ((Rect.unit (s := S4x256x1024) ![1, 0, 0] S1x256x1024.size inb_S4x256x1024_S1x256x1024_1_0_0).toLoadRect.idx y)
/-- Expert 2's second-layer weights, cut out of the four. -/
def dn2 (a : Vec Bits S4x256x1024 .bf16) : Vec Bits S1x256x1024 .bf16 := fun y => a ((Rect.unit (s := S4x256x1024) ![2, 0, 0] S1x256x1024.size inb_S4x256x1024_S1x256x1024_2_0_0).toLoadRect.idx y)
/-- Expert 3's second-layer weights, cut out of the four. -/
def dn3 (a : Vec Bits S4x256x1024 .bf16) : Vec Bits S1x256x1024 .bf16 := fun y => a ((Rect.unit (s := S4x256x1024) ![3, 0, 0] S1x256x1024.size inb_S4x256x1024_S1x256x1024_3_0_0).toLoadRect.idx y)
/-- The token columns of a row block, and its two groups of gate lanes. -/
def tok (x : Vec Bits S512x1280 .bf16) : Vec Bits S512x1024 .bf16 := fun y => x ((Rect.unit (s := S512x1280) ![0, 0] S512x1024.size inb_S512x1280_S512x1024_0_0).toLoadRect.idx y)
/-- The high half of the gates. -/
def lanA (x : Vec Bits S512x1280 .bf16) : Vec Bits S512x128 .bf16 := fun y => x ((Rect.unit (s := S512x1280) ![0, 1024] S512x128.size inb_S512x1280_S512x128_0_1024).toLoadRect.idx y)
/-- The low half of the gates. -/
def lanB (x : Vec Bits S512x1280 .bf16) : Vec Bits S512x128 .bf16 := fun y => x ((Rect.unit (s := S512x1280) ![0, 1152] S512x128.size inb_S512x1280_S512x128_0_1152).toLoadRect.idx y)

/-- The lane numbers. -/
abbrev lanes : IVec S512x128 32 := iota Kind.tc S512x128 32 [1] iota_S512x128_d1_w32

/-- The four experts' part of a tile of rows `x`, of group `w`, from the group's weights. -/
def tile (w : BitVec 32) (x : Vec Bits S512x1280 .bf16) (a0 a1 : Vec Bits S4x1024x256 .bf16) (a2 : Vec Bits S4x256x1024 .bf16) : Vec Bits S512x1024 .f32 :=
  k0_pay5 (tok x) (k0_pay6 (lanA x) (lanB x)) lanes (Scalar.muli w 4#32)
    (k0_pay10 (tok x) (k0_pay6 (lanA x) (lanB x)) (k0_pay7 (tok x) (lanA x) (lanB x) w (up0 a0) (up0 a1) (dn0 a2)) (k0_pay8 (F := Bits) w) k0_pay9 (up1 a0) (up1 a1) (dn1 a2))
    (k0_pay11 (tok x) (up2 a0) (up2 a1)) (k0_pay12 (k0_pay6 (lanA x) (lanB x)) lanes (Scalar.muli w 4#32)) (dn2 a2) (up3 a0) (up3 a1) (dn3 a2)

/-- The tile's group, as the body reads it. -/
abbrev word (i : grid0.Coords) (T0 : S43.Idx → Elt Bits .i32) : BitVec 32 :=
  View.readAt (Elt Bits) (tbM0_0).view (Rect.unit (s := S43) (k0_off3 i) S1.size (k0_off3_inb i)).toLoadRect T0 (Shape.Idx.first (numel1_S1.symm ▸ Nat.one_pos))

/-- A buffer stored whole holds what was stored. -/
theorem filled {Val : EltTy → Type} (b : Ref sig .tc) (f : b.ty.Contents Val) {off : Fin b.ty.shape.rank → ℕ} (inb : ∀ a, off a + b.ty.shape.size a ≤ b.ty.shape.size a)
    (w : (Rect.unit off b.ty.shape.size inb).shape.Idx → Val b.ty.elt) :
    (View.whole b).writes Val f [⟨Rect.unit off b.ty.shape.size inb, w⟩] = w :=
  (View.read_whole (Val := Val) b _).symm.trans (View.read_writes_full (Val := Val) (View.whole b) f inb w [])
/-- A scratch buffer filled whole holds what was stored. -/
theorem filled0 (f : scM0_0.view.ty.Contents (Elt Bits)) (p : Vec Bits S4x1024x256 .bf16) :
    scM0_0.view.writes (Elt Bits) f [⟨Rect.unit (s := S4x1024x256) ![0, 0, 0] S4x1024x256.size inb_S4x1024x256_S4x1024x256_0_0_0, p⟩] = p :=
  filled (Val := Elt Bits) cc0_scratch0 f inb_S4x1024x256_S4x1024x256_0_0_0 p
/-- Scratch buffer 1, written in full, holds what was written. -/
theorem filled1 (f : scM0_1.view.ty.Contents (Elt Bits)) (p : Vec Bits S4x1024x256 .bf16) :
    scM0_1.view.writes (Elt Bits) f [⟨Rect.unit (s := S4x1024x256) ![0, 0, 0] S4x1024x256.size inb_S4x1024x256_S4x1024x256_0_0_0, p⟩] = p :=
  filled (Val := Elt Bits) cc0_scratch1 f inb_S4x1024x256_S4x1024x256_0_0_0 p
/-- Scratch buffer 2, written in full, holds what was written. -/
theorem filled2 (f : scM0_2.view.ty.Contents (Elt Bits)) (p : Vec Bits S4x256x1024 .bf16) :
    scM0_2.view.writes (Elt Bits) f [⟨Rect.unit (s := S4x256x1024) ![0, 0, 0] S4x256x1024.size inb_S4x256x1024_S4x256x1024_0_0_0, p⟩] = p :=
  filled (Val := Elt Bits) cc0_scratch2 f inb_S4x256x1024_S4x256x1024_0_0_0 p

/-- Scratch 0 after a tile of a new group: the group's weights. -/
theorem sc0RA (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Bits .i32) (T1 : S1.Idx → Elt Bits .i32)
    (x0 : S512x1280.Idx → Elt Bits .bf16) (x1 : S1x4x1024x256.Idx → Elt Bits .f32) (x2 : S1x4x1024x256.Idx → Elt Bits .f32) (x3 : S1x4x256x1024.Idx → Elt Bits .f32) (hc0 : Refresh i T0) (h2 : ¬(k0_cond2 i (act T1) = 1#1)) (h3 : (k0_cond3 i (act T1) = 1#1)) :
    (runRA c i arg3 harg3 arg4 harg4 arg5 harg5 arg6 harg6 arg7 harg7 T0 T1 x0 x1 x2 x3 hc0 h2 h3).2.1 = k0_pay1 x1 := by
  unfold runRA
  dsimp only [runRA.sl.HS0_1]
  rw [View.readAt_rep_full (Val := Elt Bits) arg4.view x1 inb_S1x4x1024x256_S1x4x1024x256_0_0_0_0]
  exact filled0 _ _
/-- Scratch 1 after a tile of a new group: the group's weights. -/
theorem sc1RA (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Bits .i32) (T1 : S1.Idx → Elt Bits .i32)
    (x0 : S512x1280.Idx → Elt Bits .bf16) (x1 : S1x4x1024x256.Idx → Elt Bits .f32) (x2 : S1x4x1024x256.Idx → Elt Bits .f32) (x3 : S1x4x256x1024.Idx → Elt Bits .f32) (hc0 : Refresh i T0) (h2 : ¬(k0_cond2 i (act T1) = 1#1)) (h3 : (k0_cond3 i (act T1) = 1#1)) :
    (runRA c i arg3 harg3 arg4 harg4 arg5 harg5 arg6 harg6 arg7 harg7 T0 T1 x0 x1 x2 x3 hc0 h2 h3).2.2.1 = k0_pay2 x2 := by
  unfold runRA
  dsimp only [runRA.sl.HS1_1]
  rw [View.readAt_rep_full (Val := Elt Bits) arg5.view x2 inb_S1x4x1024x256_S1x4x1024x256_0_0_0_0]
  exact filled1 _ _
/-- Scratch 2 after a tile of a new group: the group's weights. -/
theorem sc2RA (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Bits .i32) (T1 : S1.Idx → Elt Bits .i32)
    (x0 : S512x1280.Idx → Elt Bits .bf16) (x1 : S1x4x1024x256.Idx → Elt Bits .f32) (x2 : S1x4x1024x256.Idx → Elt Bits .f32) (x3 : S1x4x256x1024.Idx → Elt Bits .f32) (hc0 : Refresh i T0) (h2 : ¬(k0_cond2 i (act T1) = 1#1)) (h3 : (k0_cond3 i (act T1) = 1#1)) :
    (runRA c i arg3 harg3 arg4 harg4 arg5 harg5 arg6 harg6 arg7 harg7 T0 T1 x0 x1 x2 x3 hc0 h2 h3).2.2.2.1 = k0_pay3 x3 := by
  unfold runRA
  dsimp only [runRA.sl.HS2_1]
  rw [View.readAt_rep_full (Val := Elt Bits) arg6.view x3 inb_S1x4x256x1024_S1x4x256x1024_0_0_0_0]
  exact filled2 _ _
/-- Scratch 0 after a tile of a new group, not an active one: the group's weights. -/
theorem sc0RZ (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Bits .i32) (T1 : S1.Idx → Elt Bits .i32)
    (x0 : S512x1280.Idx → Elt Bits .bf16) (x1 : S1x4x1024x256.Idx → Elt Bits .f32) (x2 : S1x4x1024x256.Idx → Elt Bits .f32) (x3 : S1x4x256x1024.Idx → Elt Bits .f32) (hc0 : Refresh i T0) (h2 : (k0_cond2 i (act T1) = 1#1)) (h3 : ¬(k0_cond3 i (act T1) = 1#1)) :
    (runRZ c i arg3 harg3 arg4 harg4 arg5 harg5 arg6 harg6 arg7 harg7 T0 T1 x0 x1 x2 x3 hc0 h2 h3).2.1 = k0_pay1 x1 := by
  unfold runRZ
  dsimp only [runRZ.sl.HS0_1]
  rw [View.readAt_rep_full (Val := Elt Bits) arg4.view x1 inb_S1x4x1024x256_S1x4x1024x256_0_0_0_0]
  exact filled0 _ _
/-- Scratch 1 after a tile of a new group, not an active one: the group's weights. -/
theorem sc1RZ (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Bits .i32) (T1 : S1.Idx → Elt Bits .i32)
    (x0 : S512x1280.Idx → Elt Bits .bf16) (x1 : S1x4x1024x256.Idx → Elt Bits .f32) (x2 : S1x4x1024x256.Idx → Elt Bits .f32) (x3 : S1x4x256x1024.Idx → Elt Bits .f32) (hc0 : Refresh i T0) (h2 : (k0_cond2 i (act T1) = 1#1)) (h3 : ¬(k0_cond3 i (act T1) = 1#1)) :
    (runRZ c i arg3 harg3 arg4 harg4 arg5 harg5 arg6 harg6 arg7 harg7 T0 T1 x0 x1 x2 x3 hc0 h2 h3).2.2.1 = k0_pay2 x2 := by
  unfold runRZ
  dsimp only [runRZ.sl.HS1_1]
  rw [View.readAt_rep_full (Val := Elt Bits) arg5.view x2 inb_S1x4x1024x256_S1x4x1024x256_0_0_0_0]
  exact filled1 _ _
/-- Scratch 2 after a tile of a new group, not an active one: the group's weights. -/
theorem sc2RZ (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Bits .i32) (T1 : S1.Idx → Elt Bits .i32)
    (x0 : S512x1280.Idx → Elt Bits .bf16) (x1 : S1x4x1024x256.Idx → Elt Bits .f32) (x2 : S1x4x1024x256.Idx → Elt Bits .f32) (x3 : S1x4x256x1024.Idx → Elt Bits .f32) (hc0 : Refresh i T0) (h2 : (k0_cond2 i (act T1) = 1#1)) (h3 : ¬(k0_cond3 i (act T1) = 1#1)) :
    (runRZ c i arg3 harg3 arg4 harg4 arg5 harg5 arg6 harg6 arg7 harg7 T0 T1 x0 x1 x2 x3 hc0 h2 h3).2.2.2.1 = k0_pay3 x3 := by
  unfold runRZ
  dsimp only [runRZ.sl.HS2_1]
  rw [View.readAt_rep_full (Val := Elt Bits) arg6.view x3 inb_S1x4x256x1024_S1x4x256x1024_0_0_0_0]
  exact filled2 _ _

/-- The output of a tile of a new group, not an active one: zeros. -/
theorem outRZ_eq (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Bits .i32) (T1 : S1.Idx → Elt Bits .i32)
    (x0 : S512x1280.Idx → Elt Bits .bf16) (x1 : S1x4x1024x256.Idx → Elt Bits .f32) (x2 : S1x4x1024x256.Idx → Elt Bits .f32) (x3 : S1x4x256x1024.Idx → Elt Bits .f32) (hc0 : Refresh i T0) (h2 : (k0_cond2 i (act T1) = 1#1)) (h3 : ¬(k0_cond3 i (act T1) = 1#1)) : outRZ c i arg3 harg3 arg4 harg4 arg5 harg5 arg6 harg6 arg7 harg7 T0 T1 x0 x1 x2 x3 hc0 h2 h3 = k0_pay4 (F := Bits) :=
  View.read_writes_full (Val := Elt Bits) VO VO.junk inb_S512x1024_S512x1024_0_0 _ []
/-- The output of a tile of the same group, not an active one: zeros. -/
theorem outNZ_eq (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Bits .i32) (T1 : S1.Idx → Elt Bits .i32)
    (x0 : S512x1280.Idx → Elt Bits .bf16) (x1 : S1x4x1024x256.Idx → Elt Bits .f32) (x2 : S1x4x1024x256.Idx → Elt Bits .f32) (x3 : S1x4x256x1024.Idx → Elt Bits .f32)
    (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬Refresh i T0) (h2 : (k0_cond2 i (act T1) = 1#1)) (h3 : ¬(k0_cond3 i (act T1) = 1#1)) : outNZ c i arg3 harg3 arg4 harg4 arg5 harg5 arg6 harg6 arg7 harg7 T0 T1 x0 x1 x2 x3 xa0 xa1 xa2 hc0 h2 h3 = k0_pay4 (F := Bits) :=
  View.read_writes_full (Val := Elt Bits) VO VO.junk inb_S512x1024_S512x1024_0_0 _ []
set_option maxHeartbeats 1600000 in
/-- The output of an active tile of the same group: the four experts' part, with the weights already in the scratch buffers. -/
theorem outNA_eq (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Bits .i32) (T1 : S1.Idx → Elt Bits .i32)
    (x0 : S512x1280.Idx → Elt Bits .bf16) (x1 : S1x4x1024x256.Idx → Elt Bits .f32) (x2 : S1x4x1024x256.Idx → Elt Bits .f32) (x3 : S1x4x256x1024.Idx → Elt Bits .f32)
    (xa0 : Buf (Elt Bits) ((c : Thread nD τ).loc cc0_scratch0)) (xa1 : Buf (Elt Bits) ((c : Thread nD τ).loc cc0_scratch1)) (xa2 : Buf (Elt Bits) ((c : Thread nD τ).loc cc0_scratch2)) (hc0 : ¬Refresh i T0) (h2 : ¬(k0_cond2 i (act T1) = 1#1)) (h3 : (k0_cond3 i (act T1) = 1#1)) : outNA c i arg3 harg3 arg4 harg4 arg5 harg5 arg6 harg6 arg7 harg7 T0 T1 x0 x1 x2 x3 xa0 xa1 xa2 hc0 h2 h3 = tile (word i T0) x0 xa0 xa1 xa2 := by
  refine (View.read_writes_full (Val := Elt Bits) VO VO.junk inb_S512x1024_S512x1024_0_0 _ []).trans ?_
  simp only [runNA.sl.r_4, runNA.sl.r_5, runNA.sl.r_6, runNA.sl.r_7, runNA.sl.r_8, runNA.sl.r_9, runNA.sl.r_10, View.readAt_rep]
  rfl
set_option maxHeartbeats 1600000 in
/-- The output of an active tile of a new group: the four experts' part, with the group's weights just rounded. -/
theorem outRA_eq (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Bits .i32) (T1 : S1.Idx → Elt Bits .i32)
    (x0 : S512x1280.Idx → Elt Bits .bf16) (x1 : S1x4x1024x256.Idx → Elt Bits .f32) (x2 : S1x4x1024x256.Idx → Elt Bits .f32) (x3 : S1x4x256x1024.Idx → Elt Bits .f32) (hc0 : Refresh i T0) (h2 : ¬(k0_cond2 i (act T1) = 1#1)) (h3 : (k0_cond3 i (act T1) = 1#1)) : outRA c i arg3 harg3 arg4 harg4 arg5 harg5 arg6 harg6 arg7 harg7 T0 T1 x0 x1 x2 x3 hc0 h2 h3 = tile (word i T0) x0 (k0_pay1 x1) (k0_pay2 x2) (k0_pay3 x3) := by
  refine (View.read_writes_full (Val := Elt Bits) VO VO.junk inb_S512x1024_S512x1024_0_0 _ []).trans ?_
  have e0 := (filled0 scM0_0.view.junk _).trans (congrArg k0_pay1 (View.readAt_rep_full (Val := Elt Bits) arg4.view x1 inb_S1x4x1024x256_S1x4x1024x256_0_0_0_0))
  have e1 := (filled1 scM0_1.view.junk _).trans (congrArg k0_pay2 (View.readAt_rep_full (Val := Elt Bits) arg5.view x2 inb_S1x4x1024x256_S1x4x1024x256_0_0_0_0))
  have e2 := (filled2 scM0_2.view.junk _).trans (congrArg k0_pay3 (View.readAt_rep_full (Val := Elt Bits) arg6.view x3 inb_S1x4x256x1024_S1x4x256x1024_0_0_0_0))
  simp only [runRA.sl.r_6, runRA.sl.r_8, runRA.sl.r_9, runRA.sl.v36, runRA.sl.v41, runRA.sl.v48, runRA.sl.v58, runRA.sl.v63, runRA.sl.v70, runRA.sl.v81, runRA.sl.v86, runRA.sl.v93, runRA.sl.v104, runRA.sl.v109, runRA.sl.v116, runRA.sl.HS0_1, runRA.sl.HS1_1, runRA.sl.HS2_1, View.readCov, e0, e1, e2]
  simp only [runRA.sl.r_4, runRA.sl.r_5, runRA.sl.r_7, runRA.sl.r_10, View.readAt_rep]
  rfl

end Cert.Kernel2.Moe

end
-- ==== Proof.MoeRun.lean ====
module

public import proofs.«01_k».proof.Proof.MoeTile
public import Idealize.ShloMosaic.Lib.Pipeline.Quiescent
public import Idealize.ShloMosaic.Lib.Pipeline.TableIdle
public import Idealize.ShloMosaic.Lib.Pipeline.ValueKit

/-!
  The run of the grouped expert kernel from any tables whose groups are below four: every tile ends at the four experts'
  part of its rows (or at zero), the scratch buffers always hold the weights of the tile's group, and the arguments end unchanged.
-/

@[expose] public section

set_option maxRecDepth 16384
set_option Elab.async false

noncomputable section

namespace Cert.Kernel2.Moe

open Cert.Kernel2 Cert.Kernel2.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The tables' contents, as the pipeline takes them. -/
def pfN (T0 : S43.Idx → BitVec 32) (T1 : S1.Idx → BitVec 32) : pre0.Contents (Elt Bits) := fun | ⟨0, _⟩ => T0 | ⟨1, _⟩ => T1 | ⟨_ + 2, h⟩ => absurd h (by simp)

/-- A block inside its array, axis by axis. -/
theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

/-- Every word read from the first table is below four. -/
theorem at_lt (T0 : S43.Idx → BitVec 32) (T1 : S1.Idx → BitVec 32) (hT : ∀ x, (T0 x).toNat < 4) (r : Rect S43) (h : r.shape.numel = 1) :
    ((pfN T0 T1).at 0 r h : BitVec 32).toNat < 4 := hT _

/-- Window 1's block, chosen by the table, is inside its array. -/
theorem ok1 (T0 : S43.Idx → BitVec 32) (T1 : S1.Idx → BitVec 32) (hT : ∀ x, (T0 x).toNat < 4) (i : grid0.Coords) :
    ∀ a, (cc0_transform_1 (F := Bits) k0_off1_inb numel1_S1 (pfN T0 T1) i a + 1) * S1x4x1024x256.size a ≤ S2x16x1024x256.size a :=
  okcons (by decide) (okcons (by have := at_lt T0 T1 hT (Rect.unit (s := S43) ![(Scalar.indexCast (BitVec.ofNat 32 (i 0).val)).toNat] S1.size (k0_off1_inb i)) numel1_S1; omega) (okcons (by decide) (okcons (by decide) fun a => a.elim0)))
/-- Window 2's block, chosen by the table, is inside its array. -/
theorem ok2 (T0 : S43.Idx → BitVec 32) (T1 : S1.Idx → BitVec 32) (hT : ∀ x, (T0 x).toNat < 4) (i : grid0.Coords) :
    ∀ a, (cc0_transform_2 (F := Bits) k0_off1_inb numel1_S1 (pfN T0 T1) i a + 1) * S1x4x1024x256.size a ≤ S2x16x1024x256.size a :=
  okcons (by decide) (okcons (by have := at_lt T0 T1 hT (Rect.unit (s := S43) ![(Scalar.indexCast (BitVec.ofNat 32 (i 0).val)).toNat] S1.size (k0_off1_inb i)) numel1_S1; omega) (okcons (by decide) (okcons (by decide) fun a => a.elim0)))
/-- Window 3's block, chosen by the table, is inside its array. -/
theorem ok3 (T0 : S43.Idx → BitVec 32) (T1 : S1.Idx → BitVec 32) (hT : ∀ x, (T0 x).toNat < 4) (i : grid0.Coords) :
    ∀ a, (cc0_transform_3 (F := Bits) k0_off1_inb numel1_S1 (pfN T0 T1) i a + 1) * S1x4x256x1024.size a ≤ S2x16x256x1024.size a :=
  okcons (by decide) (okcons (by have := at_lt T0 T1 hT (Rect.unit (s := S43) ![(Scalar.indexCast (BitVec.ofNat 32 (i 0).val)).toNat] S1.size (k0_off1_inb i)) numel1_S1; omega) (okcons (by decide) (okcons (by decide) fun a => a.elim0)))

/-- Every block the tables choose is inside its array. -/
theorem ok_pfN (T0 : S43.Idx → BitVec 32) (T1 : S1.Idx → BitVec 32) (hT : ∀ x, (T0 x).toNat < 4) : ok0 (F := Bits) (pfN T0 T1) :=
  ⟨fun i => ⟨ok1 T0 T1 hT i, .inl rfl⟩, fun i => ⟨ok2 T0 T1 hT i, .inl rfl⟩, fun i => ⟨ok3 T0 T1 hT i, .inl rfl⟩⟩

variable (T0 : S43.Idx → BitVec 32) (T1 : S1.Idx → BitVec 32) (hT : ∀ x, (T0 x).toNat < 4)

/-- The pipeline at the tables. -/
def adm : (pcfg0 (F := Bits)).Adm := ⟨pfN T0 T1, ok_pfN T0 T1 hT⟩
/-- The pipeline at these tables. -/
abbrev cfgA : Pipeline.Cfg sig Λ₀ := cfg0 (F := Bits) (adm T0 T1 hT)
/-- The program's one pipeline, at these tables. -/
abbrev pcs : Fin 1 → Pipeline.Cfg sig Λ₀ := Pipeline.pin (pcfgs (F := Bits)) fun _ => adm T0 T1 hT

variable (m : (ℓ : Loc nD τ sig) → Buf (Elt Bits) ℓ) (ρ : Dev nD → PrngReg)

/-- The memory's tables are these. -/
def Pinned : Prop := (∀ c : Dev nD, m ((c : Thread nD τ).loc main_arg0) = T0) ∧ (∀ c : Dev nD, m ((c : Thread nD τ).loc main_arg1) = T1)

/-- A tile's coordinates, and the buffers its blocks are in. -/
abbrev crd (t : Fin (cfgA T0 T1 hT).N) : (cfgA T0 T1 hT).grid.Coords := (cfgA T0 T1 hT).grid.coords t
/-- Window 0's staging buffer at a tile. -/
abbrev ms0_0 (t : Fin (cfgA T0 T1 hT).N) : Memref sig .tc .vmem S512x1280 .bf16 := spec0_0.stage ((cfgA T0 T1 hT).slots t (0 : Fin 5))
/-- Window 0's staging buffer is a whole buffer. -/
abbrev hs0_0 (t : Fin (cfgA T0 T1 hT).N) : (ms0_0 T0 T1 hT t).IsWhole := hstage0_0 (((cfgA T0 T1 hT).slots t (0 : Fin 5)).cast nbuf0_0)
/-- Window 1's staging buffer at a tile. -/
abbrev ms0_1 (t : Fin (cfgA T0 T1 hT).N) : Memref sig .tc .vmem S1x4x1024x256 .f32 := spec0_1.stage ((cfgA T0 T1 hT).slots t (1 : Fin 5))
/-- Window 1's staging buffer is a whole buffer. -/
abbrev hs0_1 (t : Fin (cfgA T0 T1 hT).N) : (ms0_1 T0 T1 hT t).IsWhole := hstage0_1 (((cfgA T0 T1 hT).slots t (1 : Fin 5)).cast nbuf0_1)
/-- Window 2's staging buffer at a tile. -/
abbrev ms0_2 (t : Fin (cfgA T0 T1 hT).N) : Memref sig .tc .vmem S1x4x1024x256 .f32 := spec0_2.stage ((cfgA T0 T1 hT).slots t (2 : Fin 5))
/-- Window 2's staging buffer is a whole buffer. -/
abbrev hs0_2 (t : Fin (cfgA T0 T1 hT).N) : (ms0_2 T0 T1 hT t).IsWhole := hstage0_2 (((cfgA T0 T1 hT).slots t (2 : Fin 5)).cast nbuf0_2)
/-- Window 3's staging buffer at a tile. -/
abbrev ms0_3 (t : Fin (cfgA T0 T1 hT).N) : Memref sig .tc .vmem S1x4x256x1024 .f32 := spec0_3.stage ((cfgA T0 T1 hT).slots t (3 : Fin 5))
/-- Window 3's staging buffer is a whole buffer. -/
abbrev hs0_3 (t : Fin (cfgA T0 T1 hT).N) : (ms0_3 T0 T1 hT t).IsWhole := hstage0_3 (((cfgA T0 T1 hT).slots t (3 : Fin 5)).cast nbuf0_3)
/-- Window 4's staging buffer at a tile. -/
abbrev ms0_4 (t : Fin (cfgA T0 T1 hT).N) : Memref sig .tc .vmem S512x1024 .f32 := spec0_4.stage ((cfgA T0 T1 hT).slots t (4 : Fin 5))
/-- Window 4's staging buffer is a whole buffer. -/
abbrev hs0_4 (t : Fin (cfgA T0 T1 hT).N) : (ms0_4 T0 T1 hT t).IsWhole := hstage0_4 (((cfgA T0 T1 hT).slots t (4 : Fin 5)).cast nbuf0_4)

/-- A window's block at a tile, read off its array at launch. -/
def iblk (c : Dev nD) (w : Fin (cfgA T0 T1 hT).W) (t : Fin (cfgA T0 T1 hT).N) : (((cfgA T0 T1 hT).win w).xblock (crd T0 T1 hT t)).Idx → Elt Bits ((cfgA T0 T1 hT).win w).elt :=
  (((cfgA T0 T1 hT).win w).blk t).view.read (Elt Bits) ((s₀ m ρ).mem (((cfgA T0 T1 hT).win w).arr.view.loc (c : Thread nD τ)))

/-! ## The words the tables hold at a tile -/

/-- A tile's place in the first table. -/
def tix (t : Fin (cfgA T0 T1 hT).N) : S43.Idx := ix1 (⟨t.val, by have h := t.isLt; have e : (cfgA T0 T1 hT).N = 43 := N_0; omega⟩ : Fin 43)
/-- The tile before. -/
def before (t : Fin (cfgA T0 T1 hT).N) : Fin (cfgA T0 T1 hT).N := ⟨t.val - 1, by have := t.isLt; omega⟩

/-- The table word read for a tile is the tile's own. -/
theorem off1_val : ∀ t : Fin grid0.N, k0_off1 (grid0.coords t) 0 = t.val := by decide +kernel
/-- The table word read for a tile is the tile's own. -/
theorem off3_val : ∀ t : Fin grid0.N, k0_off3 (grid0.coords t) 0 = t.val := by decide +kernel
/-- The table word read for the tile before is the one before, or the first. -/
theorem off2_val : ∀ t : Fin grid0.N, k0_off2 (grid0.coords t) 0 = t.val - 1 := by decide +kernel
/-- A tile's number is zero at the first tile only. -/
theorem crd_zero : ∀ t : Fin grid0.N, Scalar.cmpi .eq (BitVec.ofNat 32 (grid0.coords t 0).val) 0#32 = 1#1 ↔ t.val = 0 := by decide +kernel

/-- A word read from the first table through a unit window is the word at the window's offset. -/
theorem tab_at (off : Fin 1 → ℕ) (inb : ∀ a, off a + S1.size a ≤ S43.size a) (x : S43.Idx) (h : off 0 = (x 0).val) :
    (View.readAt (Elt Bits) (tbM0_0).view (Rect.unit (s := S43) off S1.size inb).toLoadRect T0 (Shape.Idx.first (numel1_S1.symm ▸ Nat.one_pos)) : BitVec 32) = T0 x := by
  refine congrArg T0 (funext fun a => ?_)
  obtain rfl : a = 0 := Subsingleton.elim (α := Fin 1) _ _
  exact Fin.ext ((show _ = off 0 + 1 * 0 from rfl).trans (by omega))

/-- The group of a tile, as the body reads it. -/
theorem word_eq (t : Fin (cfgA T0 T1 hT).N) : word (crd T0 T1 hT t) T0 = T0 (tix T0 T1 hT t) := tab_at T0 _ _ _ (off3_val t)

/-- A bit widened to a word differs from zero when the bit is one. -/
theorem ext_ne (b : BitVec 1) : Scalar.cmpi .ne (Scalar.extui b) 0#32 = 1#1 ↔ b = 1#1 := by revert b; decide

/-- A tile is active or not. -/
theorem cond_iff (i : grid0.Coords) (v : BitVec 32) : k0_cond2 i v = 1#1 ↔ ¬(k0_cond3 i v = 1#1) := by
  unfold k0_cond2 k0_cond3
  dsimp only
  rw [ext_ne, ext_ne]
  show IntOp.cmpi .sge _ _ = 1#1 ↔ ¬(IntOp.cmpi .slt _ _ = 1#1)
  rw [IntOp.cmpi_sge, IntOp.cmpi_slt, not_lt]

/-- A tile that does not fill the scratch buffers is not the first, and its group is the group of the tile before. -/
theorem of_not_refresh (t : Fin (cfgA T0 T1 hT).N) (h : ¬Refresh (crd T0 T1 hT t) T0) : t.val ≠ 0 ∧ T0 (tix T0 T1 hT t) = T0 (tix T0 T1 hT (before T0 T1 hT t)) := by
  unfold Refresh at h
  rw [ext_ne] at h
  have h' := mt IntOp.ori_eq_one.mpr h
  rw [not_or] at h'
  refine ⟨fun h0 => h'.1 ((crd_zero t).2 h0), ?_⟩
  have h2 := mt IntOp.cmpi_ne.mpr h'.2
  rw [not_not] at h2
  exact ((tab_at T0 _ _ _ (off1_val t)).symm.trans h2).trans (tab_at T0 _ _ _ (off2_val t))

/-! ## The weights' blocks depend on the tile's group only -/

/-- A tile's coordinate is its number. -/
theorem row_val : ∀ t : Fin grid0.N, (grid0.coords t 0).val = t.val := by decide +kernel

/-- Window 1's block at a tile is the tile's group. -/
theorem idx1 (t : Fin (cfgA T0 T1 hT).N) : ((cfgA T0 T1 hT).win (1 : Fin 5)).index t = ![0, (T0 (tix T0 T1 hT t)).toNat, 0, 0] :=
  congrArg (fun w : BitVec 32 => ![0, w.toNat, 0, 0]) (tab_at T0 _ (k0_off1_inb (grid0.coords t)) (tix T0 T1 hT t) (off1_val t))
/-- The weights' block 1 at a tile, from the argument. -/
theorem blk1 (c : Dev nD) (t : Fin (cfgA T0 T1 hT).N) (e : Fin 4) (a : Fin 1024) (b : Fin 256) :
    iblk T0 T1 hT m ρ c (1 : Fin 5) t (ix4 (0 : Fin 1) e a b) = m ((c : Thread nD τ).loc main_arg3) (ix4 (0 : Fin 2) ⟨4 * (T0 (tix T0 T1 hT t)).toNat + e, by have := hT (tix T0 T1 hT t); omega⟩ a b) := by
  blk_simp [iblk]
  refine congrArg _ ?_
  blk_ext [idx1 T0 T1 hT t]
/-- Two tiles of the same group have the same block in window 1. -/
theorem same1 (c : Dev nD) (t t' : Fin (cfgA T0 T1 hT).N) (h : T0 (tix T0 T1 hT t) = T0 (tix T0 T1 hT t')) :
    (iblk T0 T1 hT m ρ c (1 : Fin 5) t : Vec Bits S1x4x1024x256 .f32) = iblk T0 T1 hT m ρ c (1 : Fin 5) t' := by
  funext y
  have e : y = ix4 (0 : Fin 1) (y 1) (y 2) (y 3) := by
    funext a
    match a with
    | 0 => exact Subsingleton.elim (α := Fin 1) _ _
    | 1 => rfl
    | 2 => rfl
    | 3 => rfl
  rw [e]
  refine (blk1 T0 T1 hT m ρ c t _ _ _).trans (Eq.trans ?_ (blk1 T0 T1 hT m ρ c t' _ _ _).symm)
  refine congrArg (fun z => m ((c : Thread nD τ).loc main_arg3) (ix4 (0 : Fin 2) z (y 2) (y 3))) (Fin.ext ?_)
  show 4 * (T0 _).toNat + _ = 4 * (T0 _).toNat + _
  rw [h]

/-- Window 2's block at a tile is the tile's group. -/
theorem idx2 (t : Fin (cfgA T0 T1 hT).N) : ((cfgA T0 T1 hT).win (2 : Fin 5)).index t = ![0, (T0 (tix T0 T1 hT t)).toNat, 0, 0] :=
  congrArg (fun w : BitVec 32 => ![0, w.toNat, 0, 0]) (tab_at T0 _ (k0_off1_inb (grid0.coords t)) (tix T0 T1 hT t) (off1_val t))
/-- The weights' block 2 at a tile, from the argument. -/
theorem blk2 (c : Dev nD) (t : Fin (cfgA T0 T1 hT).N) (e : Fin 4) (a : Fin 1024) (b : Fin 256) :
    iblk T0 T1 hT m ρ c (2 : Fin 5) t (ix4 (0 : Fin 1) e a b) = m ((c : Thread nD τ).loc main_arg4) (ix4 (0 : Fin 2) ⟨4 * (T0 (tix T0 T1 hT t)).toNat + e, by have := hT (tix T0 T1 hT t); omega⟩ a b) := by
  blk_simp [iblk]
  refine congrArg _ ?_
  blk_ext [idx2 T0 T1 hT t]
/-- Two tiles of the same group have the same block in window 2. -/
theorem same2 (c : Dev nD) (t t' : Fin (cfgA T0 T1 hT).N) (h : T0 (tix T0 T1 hT t) = T0 (tix T0 T1 hT t')) :
    (iblk T0 T1 hT m ρ c (2 : Fin 5) t : Vec Bits S1x4x1024x256 .f32) = iblk T0 T1 hT m ρ c (2 : Fin 5) t' := by
  funext y
  have e : y = ix4 (0 : Fin 1) (y 1) (y 2) (y 3) := by
    funext a
    match a with
    | 0 => exact Subsingleton.elim (α := Fin 1) _ _
    | 1 => rfl
    | 2 => rfl
    | 3 => rfl
  rw [e]
  refine (blk2 T0 T1 hT m ρ c t _ _ _).trans (Eq.trans ?_ (blk2 T0 T1 hT m ρ c t' _ _ _).symm)
  refine congrArg (fun z => m ((c : Thread nD τ).loc main_arg4) (ix4 (0 : Fin 2) z (y 2) (y 3))) (Fin.ext ?_)
  show 4 * (T0 _).toNat + _ = 4 * (T0 _).toNat + _
  rw [h]

/-- Window 3's block at a tile is the tile's group. -/
theorem idx3 (t : Fin (cfgA T0 T1 hT).N) : ((cfgA T0 T1 hT).win (3 : Fin 5)).index t = ![0, (T0 (tix T0 T1 hT t)).toNat, 0, 0] :=
  congrArg (fun w : BitVec 32 => ![0, w.toNat, 0, 0]) (tab_at T0 _ (k0_off1_inb (grid0.coords t)) (tix T0 T1 hT t) (off1_val t))
/-- The weights' block 3 at a tile, from the argument. -/
theorem blk3 (c : Dev nD) (t : Fin (cfgA T0 T1 hT).N) (e : Fin 4) (a : Fin 256) (b : Fin 1024) :
    iblk T0 T1 hT m ρ c (3 : Fin 5) t (ix4 (0 : Fin 1) e a b) = m ((c : Thread nD τ).loc main_arg5) (ix4 (0 : Fin 2) ⟨4 * (T0 (tix T0 T1 hT t)).toNat + e, by have := hT (tix T0 T1 hT t); omega⟩ a b) := by
  blk_simp [iblk]
  refine congrArg _ ?_
  blk_ext [idx3 T0 T1 hT t]
/-- Two tiles of the same group have the same block in window 3. -/
theorem same3 (c : Dev nD) (t t' : Fin (cfgA T0 T1 hT).N) (h : T0 (tix T0 T1 hT t) = T0 (tix T0 T1 hT t')) :
    (iblk T0 T1 hT m ρ c (3 : Fin 5) t : Vec Bits S1x4x256x1024 .f32) = iblk T0 T1 hT m ρ c (3 : Fin 5) t' := by
  funext y
  have e : y = ix4 (0 : Fin 1) (y 1) (y 2) (y 3) := by
    funext a
    match a with
    | 0 => exact Subsingleton.elim (α := Fin 1) _ _
    | 1 => rfl
    | 2 => rfl
    | 3 => rfl
  rw [e]
  refine (blk3 T0 T1 hT m ρ c t _ _ _).trans (Eq.trans ?_ (blk3 T0 T1 hT m ρ c t' _ _ _).symm)
  refine congrArg (fun z => m ((c : Thread nD τ).loc main_arg5) (ix4 (0 : Fin 2) z (y 2) (y 3))) (Fin.ext ?_)
  show 4 * (T0 _).toNat + _ = 4 * (T0 _).toNat + _
  rw [h]

/-! ## The proof data -/

/-- What a tile ends at. -/
def after4 (c : Dev nD) (t : Fin (cfgA T0 T1 hT).N) : Vec Bits S512x1024 .f32 :=
  if k0_cond3 (crd T0 T1 hT t) (act T1) = 1#1 then
    tile (word (crd T0 T1 hT t) T0) (iblk T0 T1 hT m ρ c (0 : Fin 5) t) (k0_pay1 (iblk T0 T1 hT m ρ c (1 : Fin 5) t)) (k0_pay2 (iblk T0 T1 hT m ρ c (2 : Fin 5) t)) (k0_pay3 (iblk T0 T1 hT m ρ c (3 : Fin 5) t))
  else k0_pay4 (F := Bits)

/-- The tile before a position of the grid. -/
def lastT (t : Fin ((cfgA T0 T1 hT).N + 1)) : Fin (cfgA T0 T1 hT).N := ⟨t.val - 1, by have h := t.isLt; have e : (cfgA T0 T1 hT).N = 43 := N_0; omega⟩

/-- After a tile, the last tile run is that tile. -/
theorem lastT_succ (t : Fin (cfgA T0 T1 hT).N) : lastT T0 T1 hT t.succ = t := Fin.ext (by show t.val + 1 - 1 = t.val; omega)
/-- Before a tile, the last tile run is the one before it. -/
theorem lastT_castSucc (t : Fin (cfgA T0 T1 hT).N) : lastT T0 T1 hT t.castSucc = before T0 T1 hT t := rfl

/-- What holds between tiles: the scratch buffers hold the weights of the group of the tile before (anything before the first tile). -/
def Phi (c : Dev nD) (t : Fin ((cfgA T0 T1 hT).N + 1)) : sProp 𝕄 :=
  iprop((∃ a, ⌜t.val ≠ 0 → a = k0_pay1 (F := Bits) (iblk T0 T1 hT m ρ c (1 : Fin 5) (lastT T0 T1 hT t))⌝ ∗ (scM0_0.view.loc (c : Thread nD τ) ↦{fullShare} a))
    ∗ (∃ a, ⌜t.val ≠ 0 → a = k0_pay2 (F := Bits) (iblk T0 T1 hT m ρ c (2 : Fin 5) (lastT T0 T1 hT t))⌝ ∗ (scM0_1.view.loc (c : Thread nD τ) ↦{fullShare} a))
    ∗ (∃ a, ⌜t.val ≠ 0 → a = k0_pay3 (F := Bits) (iblk T0 T1 hT m ρ c (3 : Fin 5) (lastT T0 T1 hT t))⌝ ∗ (scM0_2.view.loc (c : Thread nD τ) ↦{fullShare} a))
    ∗ (tbM0_0.view.loc (c : Thread nD τ) ↦{fullShare.right} T0) ∗ (tbM0_1.view.loc (c : Thread nD τ) ↦{fullShare.right} T1))

/-- The proof data of the pipeline. -/
def dats (_ : Fin 1) (c : Dev nD) : Dat τ (Elt Bits) Unit ℕ (UR sig nD τ) ℕ (cfgA T0 T1 hT) c where
  A w := (s₀ m ρ).mem (((cfgA T0 T1 hT).win w).arr.view.loc (c : Thread nD τ))
  after w t := match w with
    | ⟨0, _⟩ => iblk T0 T1 hT m ρ c (0 : Fin 5) t
    | ⟨1, _⟩ => iblk T0 T1 hT m ρ c (1 : Fin 5) t
    | ⟨2, _⟩ => iblk T0 T1 hT m ρ c (2 : Fin 5) t
    | ⟨3, _⟩ => iblk T0 T1 hT m ρ c (3 : Fin 5) t
    | ⟨4, _⟩ => after4 T0 T1 hT m ρ c t
  Φ t := Phi T0 T1 hT m ρ c t
  q _ := fullShare
  owed _ := 0

/-- Window 0 holds its block after a tile. -/
theorem after0_0 (c : Dev nD) (t : Fin (cfgA T0 T1 hT).N) : (dats T0 T1 hT m ρ 0 c).after (0 : Fin 5) t = iblk T0 T1 hT m ρ c (0 : Fin 5) t := rfl
/-- Window 0 holds its block before a tile. -/
theorem before0_0 (c : Dev nD) (t : Fin (cfgA T0 T1 hT).N) (d) : (dats T0 T1 hT m ρ 0 c).before (0 : Fin 5) t d = iblk T0 T1 hT m ρ c (0 : Fin 5) t :=
  ((dats T0 T1 hT m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)
/-- Window 1 holds its block after a tile. -/
theorem after0_1 (c : Dev nD) (t : Fin (cfgA T0 T1 hT).N) : (dats T0 T1 hT m ρ 0 c).after (1 : Fin 5) t = iblk T0 T1 hT m ρ c (1 : Fin 5) t := rfl
/-- Window 1 holds its block before a tile. -/
theorem before0_1 (c : Dev nD) (t : Fin (cfgA T0 T1 hT).N) (d) : (dats T0 T1 hT m ρ 0 c).before (1 : Fin 5) t d = iblk T0 T1 hT m ρ c (1 : Fin 5) t :=
  ((dats T0 T1 hT m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)
/-- Window 2 holds its block after a tile. -/
theorem after0_2 (c : Dev nD) (t : Fin (cfgA T0 T1 hT).N) : (dats T0 T1 hT m ρ 0 c).after (2 : Fin 5) t = iblk T0 T1 hT m ρ c (2 : Fin 5) t := rfl
/-- Window 2 holds its block before a tile. -/
theorem before0_2 (c : Dev nD) (t : Fin (cfgA T0 T1 hT).N) (d) : (dats T0 T1 hT m ρ 0 c).before (2 : Fin 5) t d = iblk T0 T1 hT m ρ c (2 : Fin 5) t :=
  ((dats T0 T1 hT m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)
/-- Window 3 holds its block after a tile. -/
theorem after0_3 (c : Dev nD) (t : Fin (cfgA T0 T1 hT).N) : (dats T0 T1 hT m ρ 0 c).after (3 : Fin 5) t = iblk T0 T1 hT m ρ c (3 : Fin 5) t := rfl
/-- Window 3 holds its block before a tile. -/
theorem before0_3 (c : Dev nD) (t : Fin (cfgA T0 T1 hT).N) (d) : (dats T0 T1 hT m ρ 0 c).before (3 : Fin 5) t d = iblk T0 T1 hT m ρ c (3 : Fin 5) t :=
  ((dats T0 T1 hT m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)
/-- The output window holds the tile's result after the tile. -/
theorem after0_4 (c : Dev nD) (t : Fin (cfgA T0 T1 hT).N) : (dats T0 T1 hT m ρ 0 c).after (4 : Fin 5) t = after4 T0 T1 hT m ρ c t := rfl

/-- One of the two stores of a tile is taken, whatever the number of tiles. -/
theorem stores (i : grid0.Coords) (v : BitVec 32) : (!(k0_cond2 i v == 1#1) && !(k0_cond3 i v == 1#1)) = false := by
  by_cases h : k0_cond3 i v = 1#1
  · rw [h]; simp
  · rw [(cond_iff _ _).2 h]; simp

/-- Every tile stores its output. -/
theorem idle_4 (t : Fin (cfgA T0 T1 hT).N) : (cfgA T0 T1 hT).idle (4 : Fin 5) ((cfgA T0 T1 hT).grid.coords t) = false := by
  exact stores _ _

/-- The body at a tile, as the pipeline calls it. -/
abbrev bodyAt0 (t : Fin (cfgA T0 T1 hT).N) : Prog (TpuEff nD τ sig (Elt Bits) Λ₀ .tc) PUnit :=
  cc0__moe_group_kernel (crd T0 T1 hT t) (Memref.whole main_arg0) (Memref.isWhole_whole _) (Memref.whole main_arg1) (Memref.isWhole_whole _) (ms0_0 T0 T1 hT t) (hs0_0 T0 T1 hT t) (ms0_1 T0 T1 hT t) (hs0_1 T0 T1 hT t) (ms0_2 T0 T1 hT t) (hs0_2 T0 T1 hT t) (ms0_3 T0 T1 hT t) (hs0_3 T0 T1 hT t) (ms0_4 T0 T1 hT t) (hs0_4 T0 T1 hT t) (Memref.whole cc0_scratch0) (Memref.isWhole_whole _) (Memref.whole cc0_scratch1) (Memref.isWhole_whole _) (Memref.whole cc0_scratch2) (Memref.isWhole_whole _)

set_option maxHeartbeats 4000000 in
/-- The body's obligation at a tile, by the four cases. -/
theorem sound_body (c : Dev nD) (t : Fin (cfgA T0 T1 hT).N) :
    iprop((dats T0 T1 hT m ρ 0 c).Φ t.castSucc ∗ (dats T0 T1 hT m ρ 0 c).owesAt () t.castSucc
        ∗ (∃ d, owns (c : Thread nD τ) (ms0_0 T0 T1 hT t) fullShare ((dats T0 T1 hT m ρ 0 c).before (0 : Fin 5) t d))
        ∗ (∃ d, owns (c : Thread nD τ) (ms0_1 T0 T1 hT t) fullShare ((dats T0 T1 hT m ρ 0 c).before (1 : Fin 5) t d))
        ∗ (∃ d, owns (c : Thread nD τ) (ms0_2 T0 T1 hT t) fullShare ((dats T0 T1 hT m ρ 0 c).before (2 : Fin 5) t d))
        ∗ (∃ d, owns (c : Thread nD τ) (ms0_3 T0 T1 hT t) fullShare ((dats T0 T1 hT m ρ 0 c).before (3 : Fin 5) t d))
        ∗ (∃ d, owns (c : Thread nD τ) (ms0_4 T0 T1 hT t) fullShare ((dats T0 T1 hT m ρ 0 c).before (4 : Fin 5) t d)))
      ⊢ wp frame (wpE (defs₀ (F := Bits)) Variants.none c none) Set.univ (bodyAt0 T0 T1 hT t) fun _ =>
          iprop((dats T0 T1 hT m ρ 0 c).Φ t.succ ∗ (dats T0 T1 hT m ρ 0 c).owesAt () t.succ
            ∗ bigSep Finset.univ fun w : Fin (cfgA T0 T1 hT).W =>
                match (cfgA T0 T1 hT).idle w ((cfgA T0 T1 hT).grid.coords t) with
                | true =>
                  match ((cfgA T0 T1 hT).win w).flush t with
                  | false => iprop(∃ d, owns (c : Thread nD τ) (((cfgA T0 T1 hT).win w).stage ((cfgA T0 T1 hT).slots t w)) fullShare ((dats T0 T1 hT m ρ 0 c).before w t d))
                  | true => owns (c : Thread nD τ) (((cfgA T0 T1 hT).win w).stage ((cfgA T0 T1 hT).slots t w)) fullShare ((dats T0 T1 hT m ρ 0 c).after w t)
                | false => owns (c : Thread nD τ) (((cfgA T0 T1 hT).win w).stage ((cfgA T0 T1 hT).slots t w)) fullShare ((dats T0 T1 hT m ρ 0 c).after w t)) := by
  rw [bigSep_W0]
  rewrite [idle_4]
  simp only [before0_0, before0_1, before0_2, before0_3, after0_0, after0_1, after0_2, after0_3, after0_4]
  rewrite [show (dats T0 T1 hT m ρ 0 c).Φ t.succ = Phi T0 T1 hT m ρ c t.succ from rfl, show (dats T0 T1 hT m ρ 0 c).Φ t.castSucc = Phi T0 T1 hT m ρ c t.castSucc from rfl,
    show (dats T0 T1 hT m ρ 0 c).owesAt () t.succ = (dats T0 T1 hT m ρ 0 c).owesAt () t.castSucc from rfl]
  unfold Phi
  rewrite [lastT_succ, lastT_castSucc]
  iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
  by_cases hc0 : Refresh (crd T0 T1 hT t) T0
  · by_cases h3 : k0_cond3 (crd T0 T1 hT t) (act T1) = 1#1
    · have h2 : ¬(k0_cond2 (crd T0 T1 hT t) (act T1) = 1#1) := fun h => (cond_iff _ _).1 h h3
      iapply ((runRA c (crd T0 T1 hT t) (ms0_0 T0 T1 hT t) (hs0_0 T0 T1 hT t) (ms0_1 T0 T1 hT t) (hs0_1 T0 T1 hT t) (ms0_2 T0 T1 hT t) (hs0_2 T0 T1 hT t) (ms0_3 T0 T1 hT t) (hs0_3 T0 T1 hT t) (ms0_4 T0 T1 hT t) (hs0_4 T0 T1 hT t) T0 T1 (iblk T0 T1 hT m ρ c (0 : Fin 5) t) (iblk T0 T1 hT m ρ c (1 : Fin 5) t) (iblk T0 T1 hT m ρ c (2 : Fin 5) t) (iblk T0 T1 hT m ρ c (3 : Fin 5) t) hc0 h2 h3).2.2.2.2 a0 a1 a2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0]
        · iexists _; isplitr; swap
          · iexact HS0
          · ipureintro; exact fun _ => sc0RA c (crd T0 T1 hT t) (ms0_0 T0 T1 hT t) (hs0_0 T0 T1 hT t) (ms0_1 T0 T1 hT t) (hs0_1 T0 T1 hT t) (ms0_2 T0 T1 hT t) (hs0_2 T0 T1 hT t) (ms0_3 T0 T1 hT t) (hs0_3 T0 T1 hT t) (ms0_4 T0 T1 hT t) (hs0_4 T0 T1 hT t) T0 T1 (iblk T0 T1 hT m ρ c (0 : Fin 5) t) (iblk T0 T1 hT m ρ c (1 : Fin 5) t) (iblk T0 T1 hT m ρ c (2 : Fin 5) t) (iblk T0 T1 hT m ρ c (3 : Fin 5) t) hc0 h2 h3
        isplitl [HS1]
        · iexists _; isplitr; swap
          · iexact HS1
          · ipureintro; exact fun _ => sc1RA c (crd T0 T1 hT t) (ms0_0 T0 T1 hT t) (hs0_0 T0 T1 hT t) (ms0_1 T0 T1 hT t) (hs0_1 T0 T1 hT t) (ms0_2 T0 T1 hT t) (hs0_2 T0 T1 hT t) (ms0_3 T0 T1 hT t) (hs0_3 T0 T1 hT t) (ms0_4 T0 T1 hT t) (hs0_4 T0 T1 hT t) T0 T1 (iblk T0 T1 hT m ρ c (0 : Fin 5) t) (iblk T0 T1 hT m ρ c (1 : Fin 5) t) (iblk T0 T1 hT m ρ c (2 : Fin 5) t) (iblk T0 T1 hT m ρ c (3 : Fin 5) t) hc0 h2 h3
        isplitl [HS2]
        · iexists _; isplitr; swap
          · iexact HS2
          · ipureintro; exact fun _ => sc2RA c (crd T0 T1 hT t) (ms0_0 T0 T1 hT t) (hs0_0 T0 T1 hT t) (ms0_1 T0 T1 hT t) (hs0_1 T0 T1 hT t) (ms0_2 T0 T1 hT t) (hs0_2 T0 T1 hT t) (ms0_3 T0 T1 hT t) (hs0_3 T0 T1 hT t) (ms0_4 T0 T1 hT t) (hs0_4 T0 T1 hT t) T0 T1 (iblk T0 T1 hT m ρ c (0 : Fin 5) t) (iblk T0 T1 hT m ρ c (1 : Fin 5) t) (iblk T0 T1 hT m ρ c (2 : Fin 5) t) (iblk T0 T1 hT m ρ c (3 : Fin 5) t) hc0 h2 h3
        isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro; exact (View.read_writes_of_cover _ _ _ _ _ (coverRA c (crd T0 T1 hT t) (ms0_0 T0 T1 hT t) (hs0_0 T0 T1 hT t) (ms0_1 T0 T1 hT t) (hs0_1 T0 T1 hT t) (ms0_2 T0 T1 hT t) (hs0_2 T0 T1 hT t) (ms0_3 T0 T1 hT t) (hs0_3 T0 T1 hT t) (ms0_4 T0 T1 hT t) (hs0_4 T0 T1 hT t) T0 T1 (iblk T0 T1 hT m ρ c (0 : Fin 5) t) (iblk T0 T1 hT m ρ c (1 : Fin 5) t) (iblk T0 T1 hT m ρ c (2 : Fin 5) t) (iblk T0 T1 hT m ρ c (3 : Fin 5) t) hc0 h2 h3)).trans ((outRA_eq c (crd T0 T1 hT t) (ms0_0 T0 T1 hT t) (hs0_0 T0 T1 hT t) (ms0_1 T0 T1 hT t) (hs0_1 T0 T1 hT t) (ms0_2 T0 T1 hT t) (hs0_2 T0 T1 hT t) (ms0_3 T0 T1 hT t) (hs0_3 T0 T1 hT t) (ms0_4 T0 T1 hT t) (hs0_4 T0 T1 hT t) T0 T1 (iblk T0 T1 hT m ρ c (0 : Fin 5) t) (iblk T0 T1 hT m ρ c (1 : Fin 5) t) (iblk T0 T1 hT m ρ c (2 : Fin 5) t) (iblk T0 T1 hT m ρ c (3 : Fin 5) t) hc0 h2 h3).trans (if_pos h3).symm)
    · have h2 : k0_cond2 (crd T0 T1 hT t) (act T1) = 1#1 := (cond_iff _ _).2 h3
      iapply ((runRZ c (crd T0 T1 hT t) (ms0_0 T0 T1 hT t) (hs0_0 T0 T1 hT t) (ms0_1 T0 T1 hT t) (hs0_1 T0 T1 hT t) (ms0_2 T0 T1 hT t) (hs0_2 T0 T1 hT t) (ms0_3 T0 T1 hT t) (hs0_3 T0 T1 hT t) (ms0_4 T0 T1 hT t) (hs0_4 T0 T1 hT t) T0 T1 (iblk T0 T1 hT m ρ c (0 : Fin 5) t) (iblk T0 T1 hT m ρ c (1 : Fin 5) t) (iblk T0 T1 hT m ρ c (2 : Fin 5) t) (iblk T0 T1 hT m ρ c (3 : Fin 5) t) hc0 h2 h3).2.2.2.2 a0 a1 a2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0]
        · iexists _; isplitr; swap
          · iexact HS0
          · ipureintro; exact fun _ => sc0RZ c (crd T0 T1 hT t) (ms0_0 T0 T1 hT t) (hs0_0 T0 T1 hT t) (ms0_1 T0 T1 hT t) (hs0_1 T0 T1 hT t) (ms0_2 T0 T1 hT t) (hs0_2 T0 T1 hT t) (ms0_3 T0 T1 hT t) (hs0_3 T0 T1 hT t) (ms0_4 T0 T1 hT t) (hs0_4 T0 T1 hT t) T0 T1 (iblk T0 T1 hT m ρ c (0 : Fin 5) t) (iblk T0 T1 hT m ρ c (1 : Fin 5) t) (iblk T0 T1 hT m ρ c (2 : Fin 5) t) (iblk T0 T1 hT m ρ c (3 : Fin 5) t) hc0 h2 h3
        isplitl [HS1]
        · iexists _; isplitr; swap
          · iexact HS1
          · ipureintro; exact fun _ => sc1RZ c (crd T0 T1 hT t) (ms0_0 T0 T1 hT t) (hs0_0 T0 T1 hT t) (ms0_1 T0 T1 hT t) (hs0_1 T0 T1 hT t) (ms0_2 T0 T1 hT t) (hs0_2 T0 T1 hT t) (ms0_3 T0 T1 hT t) (hs0_3 T0 T1 hT t) (ms0_4 T0 T1 hT t) (hs0_4 T0 T1 hT t) T0 T1 (iblk T0 T1 hT m ρ c (0 : Fin 5) t) (iblk T0 T1 hT m ρ c (1 : Fin 5) t) (iblk T0 T1 hT m ρ c (2 : Fin 5) t) (iblk T0 T1 hT m ρ c (3 : Fin 5) t) hc0 h2 h3
        isplitl [HS2]
        · iexists _; isplitr; swap
          · iexact HS2
          · ipureintro; exact fun _ => sc2RZ c (crd T0 T1 hT t) (ms0_0 T0 T1 hT t) (hs0_0 T0 T1 hT t) (ms0_1 T0 T1 hT t) (hs0_1 T0 T1 hT t) (ms0_2 T0 T1 hT t) (hs0_2 T0 T1 hT t) (ms0_3 T0 T1 hT t) (hs0_3 T0 T1 hT t) (ms0_4 T0 T1 hT t) (hs0_4 T0 T1 hT t) T0 T1 (iblk T0 T1 hT m ρ c (0 : Fin 5) t) (iblk T0 T1 hT m ρ c (1 : Fin 5) t) (iblk T0 T1 hT m ρ c (2 : Fin 5) t) (iblk T0 T1 hT m ρ c (3 : Fin 5) t) hc0 h2 h3
        isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro; exact (View.read_writes_of_cover _ _ _ _ _ (coverRZ c (crd T0 T1 hT t) (ms0_0 T0 T1 hT t) (hs0_0 T0 T1 hT t) (ms0_1 T0 T1 hT t) (hs0_1 T0 T1 hT t) (ms0_2 T0 T1 hT t) (hs0_2 T0 T1 hT t) (ms0_3 T0 T1 hT t) (hs0_3 T0 T1 hT t) (ms0_4 T0 T1 hT t) (hs0_4 T0 T1 hT t) T0 T1 (iblk T0 T1 hT m ρ c (0 : Fin 5) t) (iblk T0 T1 hT m ρ c (1 : Fin 5) t) (iblk T0 T1 hT m ρ c (2 : Fin 5) t) (iblk T0 T1 hT m ρ c (3 : Fin 5) t) hc0 h2 h3)).trans ((outRZ_eq c (crd T0 T1 hT t) (ms0_0 T0 T1 hT t) (hs0_0 T0 T1 hT t) (ms0_1 T0 T1 hT t) (hs0_1 T0 T1 hT t) (ms0_2 T0 T1 hT t) (hs0_2 T0 T1 hT t) (ms0_3 T0 T1 hT t) (hs0_3 T0 T1 hT t) (ms0_4 T0 T1 hT t) (hs0_4 T0 T1 hT t) T0 T1 (iblk T0 T1 hT m ρ c (0 : Fin 5) t) (iblk T0 T1 hT m ρ c (1 : Fin 5) t) (iblk T0 T1 hT m ρ c (2 : Fin 5) t) (iblk T0 T1 hT m ρ c (3 : Fin 5) t) hc0 h2 h3).trans (if_neg h3).symm)
  · obtain ⟨hz, hw⟩ := of_not_refresh T0 T1 hT t hc0
    have e0 := (ha0 hz).trans (congrArg (k0_pay1 (F := Bits)) (same1 T0 T1 hT m ρ c t (before T0 T1 hT t) hw).symm)
    have e1 := (ha1 hz).trans (congrArg (k0_pay2 (F := Bits)) (same2 T0 T1 hT m ρ c t (before T0 T1 hT t) hw).symm)
    have e2 := (ha2 hz).trans (congrArg (k0_pay3 (F := Bits)) (same3 T0 T1 hT m ρ c t (before T0 T1 hT t) hw).symm)
    by_cases h3 : k0_cond3 (crd T0 T1 hT t) (act T1) = 1#1
    · have h2 : ¬(k0_cond2 (crd T0 T1 hT t) (act T1) = 1#1) := fun h => (cond_iff _ _).1 h h3
      iapply ((runNA c (crd T0 T1 hT t) (ms0_0 T0 T1 hT t) (hs0_0 T0 T1 hT t) (ms0_1 T0 T1 hT t) (hs0_1 T0 T1 hT t) (ms0_2 T0 T1 hT t) (hs0_2 T0 T1 hT t) (ms0_3 T0 T1 hT t) (hs0_3 T0 T1 hT t) (ms0_4 T0 T1 hT t) (hs0_4 T0 T1 hT t) T0 T1 (iblk T0 T1 hT m ρ c (0 : Fin 5) t) (iblk T0 T1 hT m ρ c (1 : Fin 5) t) (iblk T0 T1 hT m ρ c (2 : Fin 5) t) (iblk T0 T1 hT m ρ c (3 : Fin 5) t) a0 a1 a2 hc0 h2 h3).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0]
        · iexists _; isplitr; swap
          · iexact HS0
          · ipureintro; exact fun _ => e0
        isplitl [HS1]
        · iexists _; isplitr; swap
          · iexact HS1
          · ipureintro; exact fun _ => e1
        isplitl [HS2]
        · iexists _; isplitr; swap
          · iexact HS2
          · ipureintro; exact fun _ => e2
        isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro; exact (View.read_writes_of_cover _ _ _ _ _ (coverNA c (crd T0 T1 hT t) (ms0_0 T0 T1 hT t) (hs0_0 T0 T1 hT t) (ms0_1 T0 T1 hT t) (hs0_1 T0 T1 hT t) (ms0_2 T0 T1 hT t) (hs0_2 T0 T1 hT t) (ms0_3 T0 T1 hT t) (hs0_3 T0 T1 hT t) (ms0_4 T0 T1 hT t) (hs0_4 T0 T1 hT t) T0 T1 (iblk T0 T1 hT m ρ c (0 : Fin 5) t) (iblk T0 T1 hT m ρ c (1 : Fin 5) t) (iblk T0 T1 hT m ρ c (2 : Fin 5) t) (iblk T0 T1 hT m ρ c (3 : Fin 5) t) a0 a1 a2 hc0 h2 h3)).trans (((outNA_eq c (crd T0 T1 hT t) (ms0_0 T0 T1 hT t) (hs0_0 T0 T1 hT t) (ms0_1 T0 T1 hT t) (hs0_1 T0 T1 hT t) (ms0_2 T0 T1 hT t) (hs0_2 T0 T1 hT t) (ms0_3 T0 T1 hT t) (hs0_3 T0 T1 hT t) (ms0_4 T0 T1 hT t) (hs0_4 T0 T1 hT t) T0 T1 (iblk T0 T1 hT m ρ c (0 : Fin 5) t) (iblk T0 T1 hT m ρ c (1 : Fin 5) t) (iblk T0 T1 hT m ρ c (2 : Fin 5) t) (iblk T0 T1 hT m ρ c (3 : Fin 5) t) a0 a1 a2 hc0 h2 h3).trans (by rw [e0, e1, e2])).trans (if_pos h3).symm)
    · have h2 : k0_cond2 (crd T0 T1 hT t) (act T1) = 1#1 := (cond_iff _ _).2 h3
      iapply ((runNZ c (crd T0 T1 hT t) (ms0_0 T0 T1 hT t) (hs0_0 T0 T1 hT t) (ms0_1 T0 T1 hT t) (hs0_1 T0 T1 hT t) (ms0_2 T0 T1 hT t) (hs0_2 T0 T1 hT t) (ms0_3 T0 T1 hT t) (hs0_3 T0 T1 hT t) (ms0_4 T0 T1 hT t) (hs0_4 T0 T1 hT t) T0 T1 (iblk T0 T1 hT m ρ c (0 : Fin 5) t) (iblk T0 T1 hT m ρ c (1 : Fin 5) t) (iblk T0 T1 hT m ρ c (2 : Fin 5) t) (iblk T0 T1 hT m ρ c (3 : Fin 5) t) a0 a1 a2 hc0 h2 h3).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0]
        · iexists _; isplitr; swap
          · iexact HS0
          · ipureintro; exact fun _ => e0
        isplitl [HS1]
        · iexists _; isplitr; swap
          · iexact HS1
          · ipureintro; exact fun _ => e1
        isplitl [HS2]
        · iexists _; isplitr; swap
          · iexact HS2
          · ipureintro; exact fun _ => e2
        isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro; exact (View.read_writes_of_cover _ _ _ _ _ (coverNZ c (crd T0 T1 hT t) (ms0_0 T0 T1 hT t) (hs0_0 T0 T1 hT t) (ms0_1 T0 T1 hT t) (hs0_1 T0 T1 hT t) (ms0_2 T0 T1 hT t) (hs0_2 T0 T1 hT t) (ms0_3 T0 T1 hT t) (hs0_3 T0 T1 hT t) (ms0_4 T0 T1 hT t) (hs0_4 T0 T1 hT t) T0 T1 (iblk T0 T1 hT m ρ c (0 : Fin 5) t) (iblk T0 T1 hT m ρ c (1 : Fin 5) t) (iblk T0 T1 hT m ρ c (2 : Fin 5) t) (iblk T0 T1 hT m ρ c (3 : Fin 5) t) a0 a1 a2 hc0 h2 h3)).trans (((outNZ_eq c (crd T0 T1 hT t) (ms0_0 T0 T1 hT t) (hs0_0 T0 T1 hT t) (ms0_1 T0 T1 hT t) (hs0_1 T0 T1 hT t) (ms0_2 T0 T1 hT t) (hs0_2 T0 T1 hT t) (ms0_3 T0 T1 hT t) (hs0_3 T0 T1 hT t) (ms0_4 T0 T1 hT t) (hs0_4 T0 T1 hT t) T0 T1 (iblk T0 T1 hT m ρ c (0 : Fin 5) t) (iblk T0 T1 hT m ρ c (1 : Fin 5) t) (iblk T0 T1 hT m ρ c (2 : Fin 5) t) (iblk T0 T1 hT m ρ c (3 : Fin 5) t) a0 a1 a2 hc0 h2 h3)).trans (if_neg h3).symm)

/-- The algebra of the staging cells, in the program logic's. -/
abbrev EP : Emb (UR sig nD τ) 𝕄 := emb₁

/-- The body's obligation at every tile. -/
theorem body_obligation (hp : Pinned T0 T1 m) (c : Dev nD) : BodyObligation (dats T0 T1 hT m ρ 0 c) (defs₀ (F := Bits)) Variants.none () Set.univ := fun t => by
  rw [bigSep_W0]
  exact sound_body T0 T1 hT m ρ c t

/-! ## The launch -/

/-- The launch element of the pipeline's cells. -/
def u₀ : UR sig nD τ :=
  initOf (Pipeline.cells (pcs T0 T1 hT) ((launch0 (F := Bits)).cellOf_inj fun _ => adm T0 T1 hT))
    (Pipeline.launchToks (pcs T0 T1 hT) ((launch0 (F := Bits)).cellOf_inj fun _ => adm T0 T1 hT))

/-- Every window holds its array in full. -/
theorem share_eq (c : Dev nD) (w : Fin (cfgA T0 T1 hT).W) : (dats T0 T1 hT m ρ 0 c).share w = fullShare := by unfold Dat.share; split <;> rfl

/-- The tables as the launch hands them to the region, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The first invariant, from the tables and the scratch buffers. -/
theorem phi0_intro (c : Dev nD) :
    iprop(BI.emp ∗ Pipeline.prefHeld pre0 c (fun _ => fullShare.right) (adm T0 T1 hT).1 ∗ Pipeline.scopedRest spec0 c) ⊢ (dats T0 T1 hT m ρ 0 c).Φ 0 := by
  rw [prefHeld_eq, scopedRest0_eq, show (dats T0 T1 hT m ρ 0 c).Φ 0 = Phi T0 T1 hT m ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; exact fun h => absurd rfl h
  isplitl [HS1]
  · iexists a1; isplitr; swap
    · iexact HS1
    · ipureintro; exact fun h => absurd rfl h
  isplitl [HS2]
  · iexists a2; isplitr; swap
    · iexact HS2
    · ipureintro; exact fun h => absurd rfl h
  isplitl [HT0]
  · iexact HT0
  iexact HT1

/-- The last invariant gives the scratch buffers back. -/
theorem phiN_exit (c : Dev nD) : (dats T0 T1 hT m ρ 0 c).Φ (Fin.last (cfgA T0 T1 hT).N) ⊢ iprop(BI.emp ∗ Pipeline.scopedRest spec0 c) := by
  rw [scopedRest0_eq, show (dats T0 T1 hT m ρ 0 c).Φ (Fin.last (cfgA T0 T1 hT).N) = Phi T0 T1 hT m ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- What the final memory is: every array at what the tiles left, every table unchanged. -/
def QC : PUnit × MemSt nD τ sig (Elt Bits) → Prop := fun r =>
  ∀ c : Dev nD, (∀ w : Fin (cfgA T0 T1 hT).W, r.2.mem (((cfgA T0 T1 hT).win w).arr.view.loc (c : Thread nD τ)) = (dats T0 T1 hT m ρ 0 c).arrAt w (cfgA T0 T1 hT).N)
    ∧ ∀ j, r.2.mem ((c : Thread nD τ).loc (pre0.ref j)) = (adm T0 T1 hT).1 j

/-- The memory's tables are the ones the run is stated at. -/
theorem V_pre (hp : Pinned T0 T1 m) (c : Dev nD) (j : Fin 2) : m ((c : Thread nD τ).loc (pre0.ref j)) = (adm T0 T1 hT).1 j := by
  fin_cases j
  · exact hp.1 c
  · exact hp.2 c

set_option backward.isDefEq.respectTransparency.types false in
set_option maxHeartbeats 4000000 in
/-- The run of the program from a memory with these tables. -/
theorem run_main_quiescent (hp : Pinned T0 T1 m) : θ_run (defs (F := Bits)) (onTc (τ := τ) (main (F := Bits))) (s₀ m ρ) (fun r => QC T0 T1 hT m ρ r ∧ r.2.sem = fun _ => 0) :=
  Pipeline.θ_run_region_noSem_pf_quiescent pcfgs (fun _ => adm T0 T1 hT) (dats T0 T1 hT m ρ) () ((launch0 (F := Bits)).cellOf_inj fun _ => adm T0 T1 hT) (0 : Fin 1)
    (launch0 (F := Bits)).win.to₀ (launch0 (F := Bits)).pre EP defs₀ Variants.none m ρ main
    (hbody := fun c => (body_obligation T0 T1 hT m ρ hp c).loose) (hne := (launch0 (F := Bits)).block_pos)
    (harr := (launch0 (F := Bits)).arr_whole) (hstage := (launch0 (F := Bits)).stage_whole) (howed := fun _ _ => rfl)
    (u₀ := u₀ T0 T1 hT) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T0 T1 hT) (dats T0 T1 hT m ρ) 0 (launch0 (F := Bits)).win.arr_inj c (launch0 (F := Bits)).arr_whole
      (share_eq T0 T1 hT m ρ c) _ _ fun _ => rfl)
    (hpf := V_pre T0 T1 hT m hp)
    (X := fun _ => iprop(emp)) (Y := fun _ => iprop(emp)) (Z := fun _ => iprop(emp))
    (hX := fun c => by rw [unscopedRestP0_eq]; iintro -; isplitr <;> iempintro)
    (hin := phi0_intro T0 T1 hT m ρ)
    (hout := phiN_exit T0 T1 hT m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The same, without the counters. -/
theorem run_main (hp : Pinned T0 T1 m) : θ_run (defs (F := Bits)) (onTc (τ := τ) (main (F := Bits))) (s₀ m ρ) (QC T0 T1 hT m ρ) :=
  (θ_run defs _ _).mono (fun _ h => h.1) (run_main_quiescent T0 T1 hT m ρ hp)

include hT in
/-- The arguments end unchanged. -/
theorem unchanged (hp : Pinned T0 T1 m) :
    θ_run (defs (F := Bits)) (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans ((dats T0 T1 hT m ρ 0 c).arrAt_in (0 : Fin 5) rfl _), ((h c).1 (1 : Fin 5)).trans ((dats T0 T1 hT m ρ 0 c).arrAt_in (1 : Fin 5) rfl _), ((h c).1 (2 : Fin 5)).trans ((dats T0 T1 hT m ρ 0 c).arrAt_in (2 : Fin 5) rfl _), ((h c).1 (3 : Fin 5)).trans ((dats T0 T1 hT m ρ 0 c).arrAt_in (3 : Fin 5) rfl _)⟩) (run_main T0 T1 hT m ρ hp)

include hT in
/-- From any memory with these tables the kernel runs, its arguments end unchanged, and every semaphore counter ends at zero. -/
theorem frame (hp : Pinned T0 T1 m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged T0 T1 hT m ρ hp) ((θ_run defs _ _).mono (fun _ h => h.2) (run_main_quiescent T0 T1 hT m ρ hp))

end Cert.Kernel2.Moe

end
-- ==== Proof.MoeBodyIdeal.lean ====
module

public import proofs.«01_k».proof.Proof.Gen.Kernel2Ideal
public import proofs.«01_k».proof.Proof.Gen.Kernel2Ideal.Skeleton
public import proofs.«01_k».proof.Proof.Gen.Kernel2Ideal.Launch
public import Idealize.ShloMosaic.Lib.Claim
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Lib.Pipeline.Kit
public import Idealize.ShloMosaic.Lib.Pipeline.FrameBody
public import Idealize.ShloMosaic.PureOps.Ideal
public import Idealize.ShloMosaic.Adequacy
public import Idealize.ShloMosaic.Init

/-!
  The body of the grouped expert kernel at one tile, for any words in its two tables: what it leaves in the output tile
  and in the three scratch buffers. Two decisions make four cases: whether the tile's group differs from the one before
  it (the scratch buffers are filled again), and whether the tile is one of the active ones (else it is filled with zeros).
-/

@[expose] public section

set_option maxRecDepth 16384
set_option Elab.async false

noncomputable section

namespace Cert.Kernel2Ideal.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource algebra of the program logic. -/
abbrev 𝕄 := MT nD τ sig Unit (Elt Ideal) ℕ (UR sig nD τ) ℕ

/-- The two tables, whole. -/
abbrev tbM0_0 : Memref sig .tc .smem S43 .i32 := Memref.whole main_arg0
/-- The second table, whole. -/
abbrev tbM0_1 : Memref sig .tc .smem S1 .i32 := Memref.whole main_arg1
/-- The three scratch buffers, whole. -/
abbrev scM0_0 : Memref sig .tc .vmem S4x1024x256 .bf16 := Memref.whole cc0_scratch0
/-- The second scratch buffer, whole. -/
abbrev scM0_1 : Memref sig .tc .vmem S4x1024x256 .bf16 := Memref.whole cc0_scratch1
/-- The third scratch buffer, whole. -/
abbrev scM0_2 : Memref sig .tc .vmem S4x256x1024 .bf16 := Memref.whole cc0_scratch2

/-- The number of active tiles, as the body reads it. -/
abbrev act (T1 : S1.Idx → Elt Ideal .i32) : BitVec 32 :=
  View.readAt (Elt Ideal) (tbM0_1).view (Rect.unit (s := S1) ![0] S1.size inb_S1_S1_0).toLoadRect T1 (Shape.Idx.first (numel1_S1.symm ▸ Nat.one_pos))

/-- The decision to fill the scratch buffers: the first tile, or one whose group is not the group of the tile before. -/
abbrev Refresh (i : grid0.Coords) (T0 : S43.Idx → Elt Ideal .i32) : Prop :=
  (Scalar.cmpi .ne (Scalar.extui (Scalar.ori (Scalar.cmpi .eq (BitVec.ofNat 32 (i 0).val) 0#32) (Scalar.cmpi .ne (View.readAt (Elt Ideal) (tbM0_0).view (Rect.unit (s := S43) (k0_off1 i) S1.size (k0_off1_inb i)).toLoadRect T0 (Shape.Idx.first (numel1_S1.symm ▸ Nat.one_pos))) (View.readAt (Elt Ideal) (tbM0_0).view (Rect.unit (s := S43) (k0_off2 i) S1.size (k0_off2_inb i)).toLoadRect T0 (Shape.Idx.first (numel1_S1.symm ▸ Nat.one_pos)))))) 0#32) = 1#1

/-- One buffer of the output tile, through which its contents are stated. -/
abbrev VO : View sig .tc .vmem S512x1024 .f32 := (Memref.whole cc0_stg4_0 : Memref sig .tc .vmem S512x1024 .f32).view

set_option backward.proofsInPublic true in
set_option maxHeartbeats 8000000 in
/-- The tile is active and its group is new. The stores into the output tile and the scratch buffers' contents, with the run that leaves them. -/
noncomputable def runRA (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Ideal .i32) (T1 : S1.Idx → Elt Ideal .i32)
    (x0 : S512x1280.Idx → Elt Ideal .bf16) (x1 : S1x4x1024x256.Idx → Elt Ideal .f32) (x2 : S1x4x1024x256.Idx → Elt Ideal .f32) (x3 : S1x4x256x1024.Idx → Elt Ideal .f32)
     (hc0 : Refresh i T0) (h2 : ¬(k0_cond2 i (act T1) = 1#1)) (h3 : (k0_cond3 i (act T1) = 1#1)) :
    Σ' (out0 : List (View.Piece (Elt Ideal) S512x1024 .f32)) (out1 : Buf (Elt Ideal) ((c : Thread nD τ).loc cc0_scratch0)) (out2 : Buf (Elt Ideal) ((c : Thread nD τ).loc cc0_scratch1)), { out3 : Buf (Elt Ideal) ((c : Thread nD τ).loc cc0_scratch2) //
      ∀ (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0_0.view.loc (c : Thread nD τ) ↦{fullShare.right} T0)
              ∗ (tbM0_1.view.loc (c : Thread nD τ) ↦{fullShare.right} T1)
              ∗ (∃ f, arg7.view.loc (c : Thread nD τ) ↦[arg7.view.set]{fullShare} arg7.view.writes (Elt Ideal) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Ideal)) Variants.none c none) Set.univ (cc0__moe_group_kernel i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _)) K } :=
  ⟨_, _, _, _, fun (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) K => by
    unfold owns
    rw [cc0__moe_group_kernel_eq_skeleton]; unfold cc0__moe_group_kernel_skel
    iintro ⟨H0, H1, H2, H3, HT0, HT1, ⟨%d4, %f4, -, HO4⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = ¬(k0_cond2 _ _ = _); exact h2) | (guard_target = k0_cond3 _ _ = _; exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    iexact HS2⟩

/-- The stores of `runRA` cover the output tile. -/
theorem coverRA (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Ideal .i32) (T1 : S1.Idx → Elt Ideal .i32)
    (x0 : S512x1280.Idx → Elt Ideal .bf16) (x1 : S1x4x1024x256.Idx → Elt Ideal .f32) (x2 : S1x4x1024x256.Idx → Elt Ideal .f32) (x3 : S1x4x256x1024.Idx → Elt Ideal .f32)
     (hc0 : Refresh i T0) (h2 : ¬(k0_cond2 i (act T1) = 1#1)) (h3 : (k0_cond3 i (act T1) = 1#1)) (y : S512x1024.Idx) :
    ∃ pc ∈ (runRA c i arg3 harg3 arg4 harg4 arg5 harg5 arg6 harg6 arg7 harg7 T0 T1 x0 x1 x2 x3 hc0 h2 h3).1, y ∈ pc.1.set :=
  View.cover_of_tiledL (runRA c i arg3 harg3 arg4 harg4 arg5 harg5 arg6 harg6 arg7 harg7 T0 T1 x0 x1 x2 x3 hc0 h2 h3).1 S512x1024.size (by sl_kernel_rfl) y

/-- What `runRA` leaves in the output tile. -/
def outRA (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Ideal .i32) (T1 : S1.Idx → Elt Ideal .i32)
    (x0 : S512x1280.Idx → Elt Ideal .bf16) (x1 : S1x4x1024x256.Idx → Elt Ideal .f32) (x2 : S1x4x1024x256.Idx → Elt Ideal .f32) (x3 : S1x4x256x1024.Idx → Elt Ideal .f32)
     (hc0 : Refresh i T0) (h2 : ¬(k0_cond2 i (act T1) = 1#1)) (h3 : (k0_cond3 i (act T1) = 1#1)) : S512x1024.Idx → Elt Ideal .f32 :=
  VO.read (Elt Ideal) (VO.writes (Elt Ideal) VO.junk (runRA c i arg3 harg3 arg4 harg4 arg5 harg5 arg6 harg6 arg7 harg7 T0 T1 x0 x1 x2 x3 hc0 h2 h3).1)

set_option backward.proofsInPublic true in
set_option maxHeartbeats 8000000 in
/-- The tile is not active and its group is new. The stores into the output tile and the scratch buffers' contents, with the run that leaves them. -/
noncomputable def runRZ (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Ideal .i32) (T1 : S1.Idx → Elt Ideal .i32)
    (x0 : S512x1280.Idx → Elt Ideal .bf16) (x1 : S1x4x1024x256.Idx → Elt Ideal .f32) (x2 : S1x4x1024x256.Idx → Elt Ideal .f32) (x3 : S1x4x256x1024.Idx → Elt Ideal .f32)
     (hc0 : Refresh i T0) (h2 : (k0_cond2 i (act T1) = 1#1)) (h3 : ¬(k0_cond3 i (act T1) = 1#1)) :
    Σ' (out0 : List (View.Piece (Elt Ideal) S512x1024 .f32)) (out1 : Buf (Elt Ideal) ((c : Thread nD τ).loc cc0_scratch0)) (out2 : Buf (Elt Ideal) ((c : Thread nD τ).loc cc0_scratch1)), { out3 : Buf (Elt Ideal) ((c : Thread nD τ).loc cc0_scratch2) //
      ∀ (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0_0.view.loc (c : Thread nD τ) ↦{fullShare.right} T0)
              ∗ (tbM0_1.view.loc (c : Thread nD τ) ↦{fullShare.right} T1)
              ∗ (∃ f, arg7.view.loc (c : Thread nD τ) ↦[arg7.view.set]{fullShare} arg7.view.writes (Elt Ideal) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Ideal)) Variants.none c none) Set.univ (cc0__moe_group_kernel i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _)) K } :=
  ⟨_, _, _, _, fun (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) K => by
    unfold owns
    rw [cc0__moe_group_kernel_eq_skeleton]; unfold cc0__moe_group_kernel_skel
    iintro ⟨H0, H1, H2, H3, HT0, HT1, ⟨%d4, %f4, -, HO4⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = Scalar.cmpi = _; exact hc0) | (guard_target = k0_cond2 _ _ = _; exact h2) | (guard_target = ¬(k0_cond3 _ _ = _); exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    iexact HS2⟩

/-- The stores of `runRZ` cover the output tile. -/
theorem coverRZ (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Ideal .i32) (T1 : S1.Idx → Elt Ideal .i32)
    (x0 : S512x1280.Idx → Elt Ideal .bf16) (x1 : S1x4x1024x256.Idx → Elt Ideal .f32) (x2 : S1x4x1024x256.Idx → Elt Ideal .f32) (x3 : S1x4x256x1024.Idx → Elt Ideal .f32)
     (hc0 : Refresh i T0) (h2 : (k0_cond2 i (act T1) = 1#1)) (h3 : ¬(k0_cond3 i (act T1) = 1#1)) (y : S512x1024.Idx) :
    ∃ pc ∈ (runRZ c i arg3 harg3 arg4 harg4 arg5 harg5 arg6 harg6 arg7 harg7 T0 T1 x0 x1 x2 x3 hc0 h2 h3).1, y ∈ pc.1.set :=
  View.cover_of_tiledL (runRZ c i arg3 harg3 arg4 harg4 arg5 harg5 arg6 harg6 arg7 harg7 T0 T1 x0 x1 x2 x3 hc0 h2 h3).1 S512x1024.size (by sl_kernel_rfl) y

/-- What `runRZ` leaves in the output tile. -/
def outRZ (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Ideal .i32) (T1 : S1.Idx → Elt Ideal .i32)
    (x0 : S512x1280.Idx → Elt Ideal .bf16) (x1 : S1x4x1024x256.Idx → Elt Ideal .f32) (x2 : S1x4x1024x256.Idx → Elt Ideal .f32) (x3 : S1x4x256x1024.Idx → Elt Ideal .f32)
     (hc0 : Refresh i T0) (h2 : (k0_cond2 i (act T1) = 1#1)) (h3 : ¬(k0_cond3 i (act T1) = 1#1)) : S512x1024.Idx → Elt Ideal .f32 :=
  VO.read (Elt Ideal) (VO.writes (Elt Ideal) VO.junk (runRZ c i arg3 harg3 arg4 harg4 arg5 harg5 arg6 harg6 arg7 harg7 T0 T1 x0 x1 x2 x3 hc0 h2 h3).1)

set_option backward.proofsInPublic true in
set_option maxHeartbeats 8000000 in
/-- The tile is active and of the same group as the one before. The stores into the output tile and the scratch buffers' contents, with the run that leaves them. -/
noncomputable def runNA (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Ideal .i32) (T1 : S1.Idx → Elt Ideal .i32)
    (x0 : S512x1280.Idx → Elt Ideal .bf16) (x1 : S1x4x1024x256.Idx → Elt Ideal .f32) (x2 : S1x4x1024x256.Idx → Elt Ideal .f32) (x3 : S1x4x256x1024.Idx → Elt Ideal .f32)
    (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬Refresh i T0) (h2 : ¬(k0_cond2 i (act T1) = 1#1)) (h3 : (k0_cond3 i (act T1) = 1#1)) :
    Σ' (out0 : List (View.Piece (Elt Ideal) S512x1024 .f32)) (out1 : Buf (Elt Ideal) ((c : Thread nD τ).loc cc0_scratch0)) (out2 : Buf (Elt Ideal) ((c : Thread nD τ).loc cc0_scratch1)), { out3 : Buf (Elt Ideal) ((c : Thread nD τ).loc cc0_scratch2) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0_0.view.loc (c : Thread nD τ) ↦{fullShare.right} T0)
              ∗ (tbM0_1.view.loc (c : Thread nD τ) ↦{fullShare.right} T1)
              ∗ (∃ f, arg7.view.loc (c : Thread nD τ) ↦[arg7.view.set]{fullShare} arg7.view.writes (Elt Ideal) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Ideal)) Variants.none c none) Set.univ (cc0__moe_group_kernel i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _)) K } :=
  ⟨_, _, _, _, fun K => by
    unfold owns
    rw [cc0__moe_group_kernel_eq_skeleton]; unfold cc0__moe_group_kernel_skel
    iintro ⟨H0, H1, H2, H3, HT0, HT1, ⟨%d4, %f4, -, HO4⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = ¬(k0_cond2 _ _ = _); exact h2) | (guard_target = k0_cond3 _ _ = _; exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    iexact HS2⟩

/-- The stores of `runNA` cover the output tile. -/
theorem coverNA (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Ideal .i32) (T1 : S1.Idx → Elt Ideal .i32)
    (x0 : S512x1280.Idx → Elt Ideal .bf16) (x1 : S1x4x1024x256.Idx → Elt Ideal .f32) (x2 : S1x4x1024x256.Idx → Elt Ideal .f32) (x3 : S1x4x256x1024.Idx → Elt Ideal .f32)
    (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬Refresh i T0) (h2 : ¬(k0_cond2 i (act T1) = 1#1)) (h3 : (k0_cond3 i (act T1) = 1#1)) (y : S512x1024.Idx) :
    ∃ pc ∈ (runNA c i arg3 harg3 arg4 harg4 arg5 harg5 arg6 harg6 arg7 harg7 T0 T1 x0 x1 x2 x3 xa0 xa1 xa2 hc0 h2 h3).1, y ∈ pc.1.set :=
  View.cover_of_tiledL (runNA c i arg3 harg3 arg4 harg4 arg5 harg5 arg6 harg6 arg7 harg7 T0 T1 x0 x1 x2 x3 xa0 xa1 xa2 hc0 h2 h3).1 S512x1024.size (by sl_kernel_rfl) y

/-- What `runNA` leaves in the output tile. -/
def outNA (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Ideal .i32) (T1 : S1.Idx → Elt Ideal .i32)
    (x0 : S512x1280.Idx → Elt Ideal .bf16) (x1 : S1x4x1024x256.Idx → Elt Ideal .f32) (x2 : S1x4x1024x256.Idx → Elt Ideal .f32) (x3 : S1x4x256x1024.Idx → Elt Ideal .f32)
    (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬Refresh i T0) (h2 : ¬(k0_cond2 i (act T1) = 1#1)) (h3 : (k0_cond3 i (act T1) = 1#1)) : S512x1024.Idx → Elt Ideal .f32 :=
  VO.read (Elt Ideal) (VO.writes (Elt Ideal) VO.junk (runNA c i arg3 harg3 arg4 harg4 arg5 harg5 arg6 harg6 arg7 harg7 T0 T1 x0 x1 x2 x3 xa0 xa1 xa2 hc0 h2 h3).1)

set_option backward.proofsInPublic true in
set_option maxHeartbeats 8000000 in
/-- The tile is not active and of the same group as the one before. The stores into the output tile and the scratch buffers' contents, with the run that leaves them. -/
noncomputable def runNZ (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Ideal .i32) (T1 : S1.Idx → Elt Ideal .i32)
    (x0 : S512x1280.Idx → Elt Ideal .bf16) (x1 : S1x4x1024x256.Idx → Elt Ideal .f32) (x2 : S1x4x1024x256.Idx → Elt Ideal .f32) (x3 : S1x4x256x1024.Idx → Elt Ideal .f32)
    (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬Refresh i T0) (h2 : (k0_cond2 i (act T1) = 1#1)) (h3 : ¬(k0_cond3 i (act T1) = 1#1)) :
    Σ' (out0 : List (View.Piece (Elt Ideal) S512x1024 .f32)) (out1 : Buf (Elt Ideal) ((c : Thread nD τ).loc cc0_scratch0)) (out2 : Buf (Elt Ideal) ((c : Thread nD τ).loc cc0_scratch1)), { out3 : Buf (Elt Ideal) ((c : Thread nD τ).loc cc0_scratch2) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbM0_0.view.loc (c : Thread nD τ) ↦{fullShare.right} T0)
          ∗ (tbM0_1.view.loc (c : Thread nD τ) ↦{fullShare.right} T1)
          ∗ (∃ d, owns (c : Thread nD τ) arg7 fullShare d)
          ∗ (scM0_0.view.loc (c : Thread nD τ) ↦{fullShare} xa0)
          ∗ (scM0_1.view.loc (c : Thread nD τ) ↦{fullShare} xa1)
          ∗ (scM0_2.view.loc (c : Thread nD τ) ↦{fullShare} xa2)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbM0_0.view.loc (c : Thread nD τ) ↦{fullShare.right} T0)
              ∗ (tbM0_1.view.loc (c : Thread nD τ) ↦{fullShare.right} T1)
              ∗ (∃ f, arg7.view.loc (c : Thread nD τ) ↦[arg7.view.set]{fullShare} arg7.view.writes (Elt Ideal) f out0)
              ∗ (scM0_0.view.loc (c : Thread nD τ) ↦{fullShare} out1)
              ∗ (scM0_1.view.loc (c : Thread nD τ) ↦{fullShare} out2)
              ∗ (scM0_2.view.loc (c : Thread nD τ) ↦{fullShare} out3)) -∗ K ⟨⟩))
          ⊢ wp frame (wpE (defs₀ (F := Ideal)) Variants.none c none) Set.univ (cc0__moe_group_kernel i tbM0_0 (Memref.isWhole_whole _) tbM0_1 (Memref.isWhole_whole _) arg3 harg3 arg4 harg4 arg5 harg5 arg6 harg6 arg7 harg7 scM0_0 (Memref.isWhole_whole _) scM0_1 (Memref.isWhole_whole _) scM0_2 (Memref.isWhole_whole _)) K } :=
  ⟨_, _, _, _, fun K => by
    unfold owns
    rw [cc0__moe_group_kernel_eq_skeleton]; unfold cc0__moe_group_kernel_skel
    iintro ⟨H0, H1, H2, H3, HT0, HT1, ⟨%d4, %f4, -, HO4⟩, HS0, HS1, HS2, Hk⟩
    have hS0 : scM0_0.IsWhole := Memref.isWhole_whole _
    have hS1 : scM0_1.IsWhole := Memref.isWhole_whole _
    have hS2 : scM0_2.IsWhole := Memref.isWhole_whole _
    have hT0 : tbM0_0.IsWhole := Memref.isWhole_whole _
    have hT1 : tbM0_1.IsWhole := Memref.isWhole_whole _
    sl_exec! (disch := first | (guard_target = ¬(Scalar.cmpi = _); exact hc0) | (guard_target = k0_cond2 _ _ = _; exact h2) | (guard_target = ¬(k0_cond3 _ _ = _); exact h3))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    isplitl [HS1]; · iexact HS1
    iexact HS2⟩

/-- The stores of `runNZ` cover the output tile. -/
theorem coverNZ (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Ideal .i32) (T1 : S1.Idx → Elt Ideal .i32)
    (x0 : S512x1280.Idx → Elt Ideal .bf16) (x1 : S1x4x1024x256.Idx → Elt Ideal .f32) (x2 : S1x4x1024x256.Idx → Elt Ideal .f32) (x3 : S1x4x256x1024.Idx → Elt Ideal .f32)
    (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬Refresh i T0) (h2 : (k0_cond2 i (act T1) = 1#1)) (h3 : ¬(k0_cond3 i (act T1) = 1#1)) (y : S512x1024.Idx) :
    ∃ pc ∈ (runNZ c i arg3 harg3 arg4 harg4 arg5 harg5 arg6 harg6 arg7 harg7 T0 T1 x0 x1 x2 x3 xa0 xa1 xa2 hc0 h2 h3).1, y ∈ pc.1.set :=
  View.cover_of_tiledL (runNZ c i arg3 harg3 arg4 harg4 arg5 harg5 arg6 harg6 arg7 harg7 T0 T1 x0 x1 x2 x3 xa0 xa1 xa2 hc0 h2 h3).1 S512x1024.size (by sl_kernel_rfl) y

/-- What `runNZ` leaves in the output tile. -/
def outNZ (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Ideal .i32) (T1 : S1.Idx → Elt Ideal .i32)
    (x0 : S512x1280.Idx → Elt Ideal .bf16) (x1 : S1x4x1024x256.Idx → Elt Ideal .f32) (x2 : S1x4x1024x256.Idx → Elt Ideal .f32) (x3 : S1x4x256x1024.Idx → Elt Ideal .f32)
    (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬Refresh i T0) (h2 : (k0_cond2 i (act T1) = 1#1)) (h3 : ¬(k0_cond3 i (act T1) = 1#1)) : S512x1024.Idx → Elt Ideal .f32 :=
  VO.read (Elt Ideal) (VO.writes (Elt Ideal) VO.junk (runNZ c i arg3 harg3 arg4 harg4 arg5 harg5 arg6 harg6 arg7 harg7 T0 T1 x0 x1 x2 x3 xa0 xa1 xa2 hc0 h2 h3).1)

end Cert.Kernel2Ideal.Moe

end
-- ==== Proof.MoeTileIdeal.lean ====
module

public import proofs.«01_k».proof.Proof.MoeBodyIdeal
public import Idealize.ShloMosaic.Lib.VecWindow

/-!
  What the body of the grouped expert kernel leaves, as functions of its blocks: the four experts' part of a tile (`tile`),
  and, in the scratch buffers, the group's weights.
-/

@[expose] public section

set_option maxRecDepth 16384
set_option Elab.async false

noncomputable section

namespace Cert.Kernel2Ideal.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- Expert `e`'s slice of the two up projections and of the down projection. -/
def up0 (a : Vec Ideal S4x1024x256 .bf16) : Vec Ideal S1x1024x256 .bf16 := fun y => a ((Rect.unit (s := S4x1024x256) ![0, 0, 0] S1x1024x256.size inb_S4x1024x256_S1x1024x256_0_0_0).toLoadRect.idx y)
/-- Expert 1's first-layer weights, cut out of the four. -/
def up1 (a : Vec Ideal S4x1024x256 .bf16) : Vec Ideal S1x1024x256 .bf16 := fun y => a ((Rect.unit (s := S4x1024x256) ![1, 0, 0] S1x1024x256.size inb_S4x1024x256_S1x1024x256_1_0_0).toLoadRect.idx y)
/-- Expert 2's first-layer weights, cut out of the four. -/
def up2 (a : Vec Ideal S4x1024x256 .bf16) : Vec Ideal S1x1024x256 .bf16 := fun y => a ((Rect.unit (s := S4x1024x256) ![2, 0, 0] S1x1024x256.size inb_S4x1024x256_S1x1024x256_2_0_0).toLoadRect.idx y)
/-- Expert 3's first-layer weights, cut out of the four. -/
def up3 (a : Vec Ideal S4x1024x256 .bf16) : Vec Ideal S1x1024x256 .bf16 := fun y => a ((Rect.unit (s := S4x1024x256) ![3, 0, 0] S1x1024x256.size inb_S4x1024x256_S1x1024x256_3_0_0).toLoadRect.idx y)
/-- Expert 0's second-layer weights, cut out of the four. -/
def dn0 (a : Vec Ideal S4x256x1024 .bf16) : Vec Ideal S1x256x1024 .bf16 := fun y => a ((Rect.unit (s := S4x256x1024) ![0, 0, 0] S1x256x1024.size inb_S4x256x1024_S1x256x1024_0_0_0).toLoadRect.idx y)
/-- Expert 1's second-layer weights, cut out of the four. -/
def dn1 (a : Vec Ideal S4x256x1024 .bf16) : Vec Ideal S1x256x1024 .bf16 := fun y => a ((Rect.unit (s := S4x256x1024) ![1, 0, 0] S1x256x1024.size inb_S4x256x1024_S1x256x1024_1_0_0).toLoadRect.idx y)
/-- Expert 2's second-layer weights, cut out of the four. -/
def dn2 (a : Vec Ideal S4x256x1024 .bf16) : Vec Ideal S1x256x1024 .bf16 := fun y => a ((Rect.unit (s := S4x256x1024) ![2, 0, 0] S1x256x1024.size inb_S4x256x1024_S1x256x1024_2_0_0).toLoadRect.idx y)
/-- Expert 3's second-layer weights, cut out of the four. -/
def dn3 (a : Vec Ideal S4x256x1024 .bf16) : Vec Ideal S1x256x1024 .bf16 := fun y => a ((Rect.unit (s := S4x256x1024) ![3, 0, 0] S1x256x1024.size inb_S4x256x1024_S1x256x1024_3_0_0).toLoadRect.idx y)
/-- The token columns of a row block, and its two groups of gate lanes. -/
def tok (x : Vec Ideal S512x1280 .bf16) : Vec Ideal S512x1024 .bf16 := fun y => x ((Rect.unit (s := S512x1280) ![0, 0] S512x1024.size inb_S512x1280_S512x1024_0_0).toLoadRect.idx y)
/-- The high half of the gates. -/
def lanA (x : Vec Ideal S512x1280 .bf16) : Vec Ideal S512x128 .bf16 := fun y => x ((Rect.unit (s := S512x1280) ![0, 1024] S512x128.size inb_S512x1280_S512x128_0_1024).toLoadRect.idx y)
/-- The low half of the gates. -/
def lanB (x : Vec Ideal S512x1280 .bf16) : Vec Ideal S512x128 .bf16 := fun y => x ((Rect.unit (s := S512x1280) ![0, 1152] S512x128.size inb_S512x1280_S512x128_0_1152).toLoadRect.idx y)

/-- The lane numbers. -/
abbrev lanes : IVec S512x128 32 := iota Kind.tc S512x128 32 [1] iota_S512x128_d1_w32

/-- The four experts' part of a tile of rows `x`, of group `w`, from the group's weights. -/
def tile (w : BitVec 32) (x : Vec Ideal S512x1280 .bf16) (a0 a1 : Vec Ideal S4x1024x256 .bf16) (a2 : Vec Ideal S4x256x1024 .bf16) : Vec Ideal S512x1024 .f32 :=
  k0_pay5 (tok x) (k0_pay6 (lanA x) (lanB x)) lanes (Scalar.muli w 4#32)
    (k0_pay10 (tok x) (k0_pay6 (lanA x) (lanB x)) (k0_pay7 (tok x) (lanA x) (lanB x) w (up0 a0) (up0 a1) (dn0 a2)) (k0_pay8 (F := Ideal) w) k0_pay9 (up1 a0) (up1 a1) (dn1 a2))
    (k0_pay11 (tok x) (up2 a0) (up2 a1)) (k0_pay12 (k0_pay6 (lanA x) (lanB x)) lanes (Scalar.muli w 4#32)) (dn2 a2) (up3 a0) (up3 a1) (dn3 a2)

/-- The tile's group, as the body reads it. -/
abbrev word (i : grid0.Coords) (T0 : S43.Idx → Elt Ideal .i32) : BitVec 32 :=
  View.readAt (Elt Ideal) (tbM0_0).view (Rect.unit (s := S43) (k0_off3 i) S1.size (k0_off3_inb i)).toLoadRect T0 (Shape.Idx.first (numel1_S1.symm ▸ Nat.one_pos))

/-- A buffer stored whole holds what was stored. -/
theorem filled {Val : EltTy → Type} (b : Ref sig .tc) (f : b.ty.Contents Val) {off : Fin b.ty.shape.rank → ℕ} (inb : ∀ a, off a + b.ty.shape.size a ≤ b.ty.shape.size a)
    (w : (Rect.unit off b.ty.shape.size inb).shape.Idx → Val b.ty.elt) :
    (View.whole b).writes Val f [⟨Rect.unit off b.ty.shape.size inb, w⟩] = w :=
  (View.read_whole (Val := Val) b _).symm.trans (View.read_writes_full (Val := Val) (View.whole b) f inb w [])
/-- A scratch buffer filled whole holds what was stored. -/
theorem filled0 (f : scM0_0.view.ty.Contents (Elt Ideal)) (p : Vec Ideal S4x1024x256 .bf16) :
    scM0_0.view.writes (Elt Ideal) f [⟨Rect.unit (s := S4x1024x256) ![0, 0, 0] S4x1024x256.size inb_S4x1024x256_S4x1024x256_0_0_0, p⟩] = p :=
  filled (Val := Elt Ideal) cc0_scratch0 f inb_S4x1024x256_S4x1024x256_0_0_0 p
/-- Scratch buffer 1, written in full, holds what was written. -/
theorem filled1 (f : scM0_1.view.ty.Contents (Elt Ideal)) (p : Vec Ideal S4x1024x256 .bf16) :
    scM0_1.view.writes (Elt Ideal) f [⟨Rect.unit (s := S4x1024x256) ![0, 0, 0] S4x1024x256.size inb_S4x1024x256_S4x1024x256_0_0_0, p⟩] = p :=
  filled (Val := Elt Ideal) cc0_scratch1 f inb_S4x1024x256_S4x1024x256_0_0_0 p
/-- Scratch buffer 2, written in full, holds what was written. -/
theorem filled2 (f : scM0_2.view.ty.Contents (Elt Ideal)) (p : Vec Ideal S4x256x1024 .bf16) :
    scM0_2.view.writes (Elt Ideal) f [⟨Rect.unit (s := S4x256x1024) ![0, 0, 0] S4x256x1024.size inb_S4x256x1024_S4x256x1024_0_0_0, p⟩] = p :=
  filled (Val := Elt Ideal) cc0_scratch2 f inb_S4x256x1024_S4x256x1024_0_0_0 p

/-- Scratch 0 after a tile of a new group: the group's weights. -/
theorem sc0RA (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Ideal .i32) (T1 : S1.Idx → Elt Ideal .i32)
    (x0 : S512x1280.Idx → Elt Ideal .bf16) (x1 : S1x4x1024x256.Idx → Elt Ideal .f32) (x2 : S1x4x1024x256.Idx → Elt Ideal .f32) (x3 : S1x4x256x1024.Idx → Elt Ideal .f32) (hc0 : Refresh i T0) (h2 : ¬(k0_cond2 i (act T1) = 1#1)) (h3 : (k0_cond3 i (act T1) = 1#1)) :
    (runRA c i arg3 harg3 arg4 harg4 arg5 harg5 arg6 harg6 arg7 harg7 T0 T1 x0 x1 x2 x3 hc0 h2 h3).2.1 = k0_pay1 x1 := by
  unfold runRA
  dsimp only [runRA.sl.HS0_1]
  rw [View.readAt_rep_full (Val := Elt Ideal) arg4.view x1 inb_S1x4x1024x256_S1x4x1024x256_0_0_0_0]
  exact filled0 _ _
/-- Scratch 1 after a tile of a new group: the group's weights. -/
theorem sc1RA (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Ideal .i32) (T1 : S1.Idx → Elt Ideal .i32)
    (x0 : S512x1280.Idx → Elt Ideal .bf16) (x1 : S1x4x1024x256.Idx → Elt Ideal .f32) (x2 : S1x4x1024x256.Idx → Elt Ideal .f32) (x3 : S1x4x256x1024.Idx → Elt Ideal .f32) (hc0 : Refresh i T0) (h2 : ¬(k0_cond2 i (act T1) = 1#1)) (h3 : (k0_cond3 i (act T1) = 1#1)) :
    (runRA c i arg3 harg3 arg4 harg4 arg5 harg5 arg6 harg6 arg7 harg7 T0 T1 x0 x1 x2 x3 hc0 h2 h3).2.2.1 = k0_pay2 x2 := by
  unfold runRA
  dsimp only [runRA.sl.HS1_1]
  rw [View.readAt_rep_full (Val := Elt Ideal) arg5.view x2 inb_S1x4x1024x256_S1x4x1024x256_0_0_0_0]
  exact filled1 _ _
/-- Scratch 2 after a tile of a new group: the group's weights. -/
theorem sc2RA (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Ideal .i32) (T1 : S1.Idx → Elt Ideal .i32)
    (x0 : S512x1280.Idx → Elt Ideal .bf16) (x1 : S1x4x1024x256.Idx → Elt Ideal .f32) (x2 : S1x4x1024x256.Idx → Elt Ideal .f32) (x3 : S1x4x256x1024.Idx → Elt Ideal .f32) (hc0 : Refresh i T0) (h2 : ¬(k0_cond2 i (act T1) = 1#1)) (h3 : (k0_cond3 i (act T1) = 1#1)) :
    (runRA c i arg3 harg3 arg4 harg4 arg5 harg5 arg6 harg6 arg7 harg7 T0 T1 x0 x1 x2 x3 hc0 h2 h3).2.2.2.1 = k0_pay3 x3 := by
  unfold runRA
  dsimp only [runRA.sl.HS2_1]
  rw [View.readAt_rep_full (Val := Elt Ideal) arg6.view x3 inb_S1x4x256x1024_S1x4x256x1024_0_0_0_0]
  exact filled2 _ _
/-- Scratch 0 after a tile of a new group, not an active one: the group's weights. -/
theorem sc0RZ (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Ideal .i32) (T1 : S1.Idx → Elt Ideal .i32)
    (x0 : S512x1280.Idx → Elt Ideal .bf16) (x1 : S1x4x1024x256.Idx → Elt Ideal .f32) (x2 : S1x4x1024x256.Idx → Elt Ideal .f32) (x3 : S1x4x256x1024.Idx → Elt Ideal .f32) (hc0 : Refresh i T0) (h2 : (k0_cond2 i (act T1) = 1#1)) (h3 : ¬(k0_cond3 i (act T1) = 1#1)) :
    (runRZ c i arg3 harg3 arg4 harg4 arg5 harg5 arg6 harg6 arg7 harg7 T0 T1 x0 x1 x2 x3 hc0 h2 h3).2.1 = k0_pay1 x1 := by
  unfold runRZ
  dsimp only [runRZ.sl.HS0_1]
  rw [View.readAt_rep_full (Val := Elt Ideal) arg4.view x1 inb_S1x4x1024x256_S1x4x1024x256_0_0_0_0]
  exact filled0 _ _
/-- Scratch 1 after a tile of a new group, not an active one: the group's weights. -/
theorem sc1RZ (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Ideal .i32) (T1 : S1.Idx → Elt Ideal .i32)
    (x0 : S512x1280.Idx → Elt Ideal .bf16) (x1 : S1x4x1024x256.Idx → Elt Ideal .f32) (x2 : S1x4x1024x256.Idx → Elt Ideal .f32) (x3 : S1x4x256x1024.Idx → Elt Ideal .f32) (hc0 : Refresh i T0) (h2 : (k0_cond2 i (act T1) = 1#1)) (h3 : ¬(k0_cond3 i (act T1) = 1#1)) :
    (runRZ c i arg3 harg3 arg4 harg4 arg5 harg5 arg6 harg6 arg7 harg7 T0 T1 x0 x1 x2 x3 hc0 h2 h3).2.2.1 = k0_pay2 x2 := by
  unfold runRZ
  dsimp only [runRZ.sl.HS1_1]
  rw [View.readAt_rep_full (Val := Elt Ideal) arg5.view x2 inb_S1x4x1024x256_S1x4x1024x256_0_0_0_0]
  exact filled1 _ _
/-- Scratch 2 after a tile of a new group, not an active one: the group's weights. -/
theorem sc2RZ (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Ideal .i32) (T1 : S1.Idx → Elt Ideal .i32)
    (x0 : S512x1280.Idx → Elt Ideal .bf16) (x1 : S1x4x1024x256.Idx → Elt Ideal .f32) (x2 : S1x4x1024x256.Idx → Elt Ideal .f32) (x3 : S1x4x256x1024.Idx → Elt Ideal .f32) (hc0 : Refresh i T0) (h2 : (k0_cond2 i (act T1) = 1#1)) (h3 : ¬(k0_cond3 i (act T1) = 1#1)) :
    (runRZ c i arg3 harg3 arg4 harg4 arg5 harg5 arg6 harg6 arg7 harg7 T0 T1 x0 x1 x2 x3 hc0 h2 h3).2.2.2.1 = k0_pay3 x3 := by
  unfold runRZ
  dsimp only [runRZ.sl.HS2_1]
  rw [View.readAt_rep_full (Val := Elt Ideal) arg6.view x3 inb_S1x4x256x1024_S1x4x256x1024_0_0_0_0]
  exact filled2 _ _

/-- The output of a tile of a new group, not an active one: zeros. -/
theorem outRZ_eq (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Ideal .i32) (T1 : S1.Idx → Elt Ideal .i32)
    (x0 : S512x1280.Idx → Elt Ideal .bf16) (x1 : S1x4x1024x256.Idx → Elt Ideal .f32) (x2 : S1x4x1024x256.Idx → Elt Ideal .f32) (x3 : S1x4x256x1024.Idx → Elt Ideal .f32) (hc0 : Refresh i T0) (h2 : (k0_cond2 i (act T1) = 1#1)) (h3 : ¬(k0_cond3 i (act T1) = 1#1)) : outRZ c i arg3 harg3 arg4 harg4 arg5 harg5 arg6 harg6 arg7 harg7 T0 T1 x0 x1 x2 x3 hc0 h2 h3 = k0_pay4 (F := Ideal) :=
  View.read_writes_full (Val := Elt Ideal) VO VO.junk inb_S512x1024_S512x1024_0_0 _ []
/-- The output of a tile of the same group, not an active one: zeros. -/
theorem outNZ_eq (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Ideal .i32) (T1 : S1.Idx → Elt Ideal .i32)
    (x0 : S512x1280.Idx → Elt Ideal .bf16) (x1 : S1x4x1024x256.Idx → Elt Ideal .f32) (x2 : S1x4x1024x256.Idx → Elt Ideal .f32) (x3 : S1x4x256x1024.Idx → Elt Ideal .f32)
    (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬Refresh i T0) (h2 : (k0_cond2 i (act T1) = 1#1)) (h3 : ¬(k0_cond3 i (act T1) = 1#1)) : outNZ c i arg3 harg3 arg4 harg4 arg5 harg5 arg6 harg6 arg7 harg7 T0 T1 x0 x1 x2 x3 xa0 xa1 xa2 hc0 h2 h3 = k0_pay4 (F := Ideal) :=
  View.read_writes_full (Val := Elt Ideal) VO VO.junk inb_S512x1024_S512x1024_0_0 _ []
set_option maxHeartbeats 1600000 in
/-- The output of an active tile of the same group: the four experts' part, with the weights already in the scratch buffers. -/
theorem outNA_eq (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Ideal .i32) (T1 : S1.Idx → Elt Ideal .i32)
    (x0 : S512x1280.Idx → Elt Ideal .bf16) (x1 : S1x4x1024x256.Idx → Elt Ideal .f32) (x2 : S1x4x1024x256.Idx → Elt Ideal .f32) (x3 : S1x4x256x1024.Idx → Elt Ideal .f32)
    (xa0 : Buf (Elt Ideal) ((c : Thread nD τ).loc cc0_scratch0)) (xa1 : Buf (Elt Ideal) ((c : Thread nD τ).loc cc0_scratch1)) (xa2 : Buf (Elt Ideal) ((c : Thread nD τ).loc cc0_scratch2)) (hc0 : ¬Refresh i T0) (h2 : ¬(k0_cond2 i (act T1) = 1#1)) (h3 : (k0_cond3 i (act T1) = 1#1)) : outNA c i arg3 harg3 arg4 harg4 arg5 harg5 arg6 harg6 arg7 harg7 T0 T1 x0 x1 x2 x3 xa0 xa1 xa2 hc0 h2 h3 = tile (word i T0) x0 xa0 xa1 xa2 := by
  refine (View.read_writes_full (Val := Elt Ideal) VO VO.junk inb_S512x1024_S512x1024_0_0 _ []).trans ?_
  simp only [runNA.sl.r_4, runNA.sl.r_5, runNA.sl.r_6, runNA.sl.r_7, runNA.sl.r_8, runNA.sl.r_9, runNA.sl.r_10, View.readAt_rep]
  rfl
set_option maxHeartbeats 1600000 in
/-- The output of an active tile of a new group: the four experts' part, with the group's weights just rounded. -/
theorem outRA_eq (c : Dev nD) (i : grid0.Coords) (arg3 : Memref sig .tc .vmem S512x1280 .bf16) (harg3 : arg3.IsWhole) (arg4 : Memref sig .tc .vmem S1x4x1024x256 .f32) (harg4 : arg4.IsWhole) (arg5 : Memref sig .tc .vmem S1x4x1024x256 .f32) (harg5 : arg5.IsWhole) (arg6 : Memref sig .tc .vmem S1x4x256x1024 .f32) (harg6 : arg6.IsWhole) (arg7 : Memref sig .tc .vmem S512x1024 .f32) (harg7 : arg7.IsWhole) (T0 : S43.Idx → Elt Ideal .i32) (T1 : S1.Idx → Elt Ideal .i32)
    (x0 : S512x1280.Idx → Elt Ideal .bf16) (x1 : S1x4x1024x256.Idx → Elt Ideal .f32) (x2 : S1x4x1024x256.Idx → Elt Ideal .f32) (x3 : S1x4x256x1024.Idx → Elt Ideal .f32) (hc0 : Refresh i T0) (h2 : ¬(k0_cond2 i (act T1) = 1#1)) (h3 : (k0_cond3 i (act T1) = 1#1)) : outRA c i arg3 harg3 arg4 harg4 arg5 harg5 arg6 harg6 arg7 harg7 T0 T1 x0 x1 x2 x3 hc0 h2 h3 = tile (word i T0) x0 (k0_pay1 x1) (k0_pay2 x2) (k0_pay3 x3) := by
  refine (View.read_writes_full (Val := Elt Ideal) VO VO.junk inb_S512x1024_S512x1024_0_0 _ []).trans ?_
  have e0 := (filled0 scM0_0.view.junk _).trans (congrArg k0_pay1 (View.readAt_rep_full (Val := Elt Ideal) arg4.view x1 inb_S1x4x1024x256_S1x4x1024x256_0_0_0_0))
  have e1 := (filled1 scM0_1.view.junk _).trans (congrArg k0_pay2 (View.readAt_rep_full (Val := Elt Ideal) arg5.view x2 inb_S1x4x1024x256_S1x4x1024x256_0_0_0_0))
  have e2 := (filled2 scM0_2.view.junk _).trans (congrArg k0_pay3 (View.readAt_rep_full (Val := Elt Ideal) arg6.view x3 inb_S1x4x256x1024_S1x4x256x1024_0_0_0_0))
  simp only [runRA.sl.r_6, runRA.sl.r_8, runRA.sl.r_9, runRA.sl.v36, runRA.sl.v41, runRA.sl.v48, runRA.sl.v58, runRA.sl.v63, runRA.sl.v70, runRA.sl.v81, runRA.sl.v86, runRA.sl.v93, runRA.sl.v104, runRA.sl.v109, runRA.sl.v116, runRA.sl.HS0_1, runRA.sl.HS1_1, runRA.sl.HS2_1, View.readCov, e0, e1, e2]
  simp only [runRA.sl.r_4, runRA.sl.r_5, runRA.sl.r_7, runRA.sl.r_10, View.readAt_rep]
  rfl

end Cert.Kernel2Ideal.Moe

end
-- ==== Proof.MoeRunIdeal.lean ====
module

public import proofs.«01_k».proof.Proof.MoeTileIdeal
public import Idealize.ShloMosaic.Lib.Pipeline.Quiescent
public import Idealize.ShloMosaic.Lib.Pipeline.TableIdle
public import Idealize.ShloMosaic.Lib.Pipeline.ValueKit

/-!
  The run of the grouped expert kernel from any tables whose groups are below four: every tile ends at the four experts'
  part of its rows (or at zero), the scratch buffers always hold the weights of the tile's group, and the arguments end unchanged.
-/

@[expose] public section

set_option maxRecDepth 16384
set_option Elab.async false

noncomputable section

namespace Cert.Kernel2Ideal.Moe

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The tables' contents, as the pipeline takes them. -/
def pfN (T0 : S43.Idx → BitVec 32) (T1 : S1.Idx → BitVec 32) : pre0.Contents (Elt Ideal) := fun | ⟨0, _⟩ => T0 | ⟨1, _⟩ => T1 | ⟨_ + 2, h⟩ => absurd h (by simp)

/-- A block inside its array, axis by axis. -/
theorem okcons {n x lo hi : ℕ} {f g h : Fin n → ℕ} (h0 : (x + 1) * lo ≤ hi) (hr : ∀ a, (f a + 1) * g a ≤ h a) :
    ∀ a : Fin (n + 1), (Matrix.vecCons x f a + 1) * Matrix.vecCons lo g a ≤ Matrix.vecCons hi h a := by
  refine Fin.cases ?_ ?_
  · simpa only [Matrix.cons_val_zero] using h0
  · intro a; simpa only [Matrix.cons_val_succ] using hr a

/-- Every word read from the first table is below four. -/
theorem at_lt (T0 : S43.Idx → BitVec 32) (T1 : S1.Idx → BitVec 32) (hT : ∀ x, (T0 x).toNat < 4) (r : Rect S43) (h : r.shape.numel = 1) :
    ((pfN T0 T1).at 0 r h : BitVec 32).toNat < 4 := hT _

/-- Window 1's block, chosen by the table, is inside its array. -/
theorem ok1 (T0 : S43.Idx → BitVec 32) (T1 : S1.Idx → BitVec 32) (hT : ∀ x, (T0 x).toNat < 4) (i : grid0.Coords) :
    ∀ a, (cc0_transform_1 (F := Ideal) k0_off1_inb numel1_S1 (pfN T0 T1) i a + 1) * S1x4x1024x256.size a ≤ S2x16x1024x256.size a :=
  okcons (by decide) (okcons (by have := at_lt T0 T1 hT (Rect.unit (s := S43) ![(Scalar.indexCast (BitVec.ofNat 32 (i 0).val)).toNat] S1.size (k0_off1_inb i)) numel1_S1; omega) (okcons (by decide) (okcons (by decide) fun a => a.elim0)))
/-- Window 2's block, chosen by the table, is inside its array. -/
theorem ok2 (T0 : S43.Idx → BitVec 32) (T1 : S1.Idx → BitVec 32) (hT : ∀ x, (T0 x).toNat < 4) (i : grid0.Coords) :
    ∀ a, (cc0_transform_2 (F := Ideal) k0_off1_inb numel1_S1 (pfN T0 T1) i a + 1) * S1x4x1024x256.size a ≤ S2x16x1024x256.size a :=
  okcons (by decide) (okcons (by have := at_lt T0 T1 hT (Rect.unit (s := S43) ![(Scalar.indexCast (BitVec.ofNat 32 (i 0).val)).toNat] S1.size (k0_off1_inb i)) numel1_S1; omega) (okcons (by decide) (okcons (by decide) fun a => a.elim0)))
/-- Window 3's block, chosen by the table, is inside its array. -/
theorem ok3 (T0 : S43.Idx → BitVec 32) (T1 : S1.Idx → BitVec 32) (hT : ∀ x, (T0 x).toNat < 4) (i : grid0.Coords) :
    ∀ a, (cc0_transform_3 (F := Ideal) k0_off1_inb numel1_S1 (pfN T0 T1) i a + 1) * S1x4x256x1024.size a ≤ S2x16x256x1024.size a :=
  okcons (by decide) (okcons (by have := at_lt T0 T1 hT (Rect.unit (s := S43) ![(Scalar.indexCast (BitVec.ofNat 32 (i 0).val)).toNat] S1.size (k0_off1_inb i)) numel1_S1; omega) (okcons (by decide) (okcons (by decide) fun a => a.elim0)))

/-- Every block the tables choose is inside its array. -/
theorem ok_pfN (T0 : S43.Idx → BitVec 32) (T1 : S1.Idx → BitVec 32) (hT : ∀ x, (T0 x).toNat < 4) : ok0 (F := Ideal) (pfN T0 T1) :=
  ⟨fun i => ⟨ok1 T0 T1 hT i, .inl rfl⟩, fun i => ⟨ok2 T0 T1 hT i, .inl rfl⟩, fun i => ⟨ok3 T0 T1 hT i, .inl rfl⟩⟩

variable (T0 : S43.Idx → BitVec 32) (T1 : S1.Idx → BitVec 32) (hT : ∀ x, (T0 x).toNat < 4)

/-- The pipeline at the tables. -/
def adm : (pcfg0 (F := Ideal)).Adm := ⟨pfN T0 T1, ok_pfN T0 T1 hT⟩
/-- The pipeline at these tables. -/
abbrev cfgA : Pipeline.Cfg sig Λ₀ := cfg0 (F := Ideal) (adm T0 T1 hT)
/-- The program's one pipeline, at these tables. -/
abbrev pcs : Fin 1 → Pipeline.Cfg sig Λ₀ := Pipeline.pin (pcfgs (F := Ideal)) fun _ => adm T0 T1 hT

variable (m : (ℓ : Loc nD τ sig) → Buf (Elt Ideal) ℓ) (ρ : Dev nD → PrngReg)

/-- The memory's tables are these. -/
def Pinned : Prop := (∀ c : Dev nD, m ((c : Thread nD τ).loc main_arg0) = T0) ∧ (∀ c : Dev nD, m ((c : Thread nD τ).loc main_arg1) = T1)

/-- A tile's coordinates, and the buffers its blocks are in. -/
abbrev crd (t : Fin (cfgA T0 T1 hT).N) : (cfgA T0 T1 hT).grid.Coords := (cfgA T0 T1 hT).grid.coords t
/-- Window 0's staging buffer at a tile. -/
abbrev ms0_0 (t : Fin (cfgA T0 T1 hT).N) : Memref sig .tc .vmem S512x1280 .bf16 := spec0_0.stage ((cfgA T0 T1 hT).slots t (0 : Fin 5))
/-- Window 0's staging buffer is a whole buffer. -/
abbrev hs0_0 (t : Fin (cfgA T0 T1 hT).N) : (ms0_0 T0 T1 hT t).IsWhole := hstage0_0 (((cfgA T0 T1 hT).slots t (0 : Fin 5)).cast nbuf0_0)
/-- Window 1's staging buffer at a tile. -/
abbrev ms0_1 (t : Fin (cfgA T0 T1 hT).N) : Memref sig .tc .vmem S1x4x1024x256 .f32 := spec0_1.stage ((cfgA T0 T1 hT).slots t (1 : Fin 5))
/-- Window 1's staging buffer is a whole buffer. -/
abbrev hs0_1 (t : Fin (cfgA T0 T1 hT).N) : (ms0_1 T0 T1 hT t).IsWhole := hstage0_1 (((cfgA T0 T1 hT).slots t (1 : Fin 5)).cast nbuf0_1)
/-- Window 2's staging buffer at a tile. -/
abbrev ms0_2 (t : Fin (cfgA T0 T1 hT).N) : Memref sig .tc .vmem S1x4x1024x256 .f32 := spec0_2.stage ((cfgA T0 T1 hT).slots t (2 : Fin 5))
/-- Window 2's staging buffer is a whole buffer. -/
abbrev hs0_2 (t : Fin (cfgA T0 T1 hT).N) : (ms0_2 T0 T1 hT t).IsWhole := hstage0_2 (((cfgA T0 T1 hT).slots t (2 : Fin 5)).cast nbuf0_2)
/-- Window 3's staging buffer at a tile. -/
abbrev ms0_3 (t : Fin (cfgA T0 T1 hT).N) : Memref sig .tc .vmem S1x4x256x1024 .f32 := spec0_3.stage ((cfgA T0 T1 hT).slots t (3 : Fin 5))
/-- Window 3's staging buffer is a whole buffer. -/
abbrev hs0_3 (t : Fin (cfgA T0 T1 hT).N) : (ms0_3 T0 T1 hT t).IsWhole := hstage0_3 (((cfgA T0 T1 hT).slots t (3 : Fin 5)).cast nbuf0_3)
/-- Window 4's staging buffer at a tile. -/
abbrev ms0_4 (t : Fin (cfgA T0 T1 hT).N) : Memref sig .tc .vmem S512x1024 .f32 := spec0_4.stage ((cfgA T0 T1 hT).slots t (4 : Fin 5))
/-- Window 4's staging buffer is a whole buffer. -/
abbrev hs0_4 (t : Fin (cfgA T0 T1 hT).N) : (ms0_4 T0 T1 hT t).IsWhole := hstage0_4 (((cfgA T0 T1 hT).slots t (4 : Fin 5)).cast nbuf0_4)

/-- A window's block at a tile, read off its array at launch. -/
def iblk (c : Dev nD) (w : Fin (cfgA T0 T1 hT).W) (t : Fin (cfgA T0 T1 hT).N) : (((cfgA T0 T1 hT).win w).xblock (crd T0 T1 hT t)).Idx → Elt Ideal ((cfgA T0 T1 hT).win w).elt :=
  (((cfgA T0 T1 hT).win w).blk t).view.read (Elt Ideal) ((s₀ m ρ).mem (((cfgA T0 T1 hT).win w).arr.view.loc (c : Thread nD τ)))

/-! ## The words the tables hold at a tile -/

/-- A tile's place in the first table. -/
def tix (t : Fin (cfgA T0 T1 hT).N) : S43.Idx := ix1 (⟨t.val, by have h := t.isLt; have e : (cfgA T0 T1 hT).N = 43 := N_0; omega⟩ : Fin 43)
/-- The tile before. -/
def before (t : Fin (cfgA T0 T1 hT).N) : Fin (cfgA T0 T1 hT).N := ⟨t.val - 1, by have := t.isLt; omega⟩

/-- The table word read for a tile is the tile's own. -/
theorem off1_val : ∀ t : Fin grid0.N, k0_off1 (grid0.coords t) 0 = t.val := by decide +kernel
/-- The table word read for a tile is the tile's own. -/
theorem off3_val : ∀ t : Fin grid0.N, k0_off3 (grid0.coords t) 0 = t.val := by decide +kernel
/-- The table word read for the tile before is the one before, or the first. -/
theorem off2_val : ∀ t : Fin grid0.N, k0_off2 (grid0.coords t) 0 = t.val - 1 := by decide +kernel
/-- A tile's number is zero at the first tile only. -/
theorem crd_zero : ∀ t : Fin grid0.N, Scalar.cmpi .eq (BitVec.ofNat 32 (grid0.coords t 0).val) 0#32 = 1#1 ↔ t.val = 0 := by decide +kernel

/-- A word read from the first table through a unit window is the word at the window's offset. -/
theorem tab_at (off : Fin 1 → ℕ) (inb : ∀ a, off a + S1.size a ≤ S43.size a) (x : S43.Idx) (h : off 0 = (x 0).val) :
    (View.readAt (Elt Ideal) (tbM0_0).view (Rect.unit (s := S43) off S1.size inb).toLoadRect T0 (Shape.Idx.first (numel1_S1.symm ▸ Nat.one_pos)) : BitVec 32) = T0 x := by
  refine congrArg T0 (funext fun a => ?_)
  obtain rfl : a = 0 := Subsingleton.elim (α := Fin 1) _ _
  exact Fin.ext ((show _ = off 0 + 1 * 0 from rfl).trans (by omega))

/-- The group of a tile, as the body reads it. -/
theorem word_eq (t : Fin (cfgA T0 T1 hT).N) : word (crd T0 T1 hT t) T0 = T0 (tix T0 T1 hT t) := tab_at T0 _ _ _ (off3_val t)

/-- A bit widened to a word differs from zero when the bit is one. -/
theorem ext_ne (b : BitVec 1) : Scalar.cmpi .ne (Scalar.extui b) 0#32 = 1#1 ↔ b = 1#1 := by revert b; decide

/-- A tile is active or not. -/
theorem cond_iff (i : grid0.Coords) (v : BitVec 32) : k0_cond2 i v = 1#1 ↔ ¬(k0_cond3 i v = 1#1) := by
  unfold k0_cond2 k0_cond3
  dsimp only
  rw [ext_ne, ext_ne]
  show IntOp.cmpi .sge _ _ = 1#1 ↔ ¬(IntOp.cmpi .slt _ _ = 1#1)
  rw [IntOp.cmpi_sge, IntOp.cmpi_slt, not_lt]

/-- A tile that does not fill the scratch buffers is not the first, and its group is the group of the tile before. -/
theorem of_not_refresh (t : Fin (cfgA T0 T1 hT).N) (h : ¬Refresh (crd T0 T1 hT t) T0) : t.val ≠ 0 ∧ T0 (tix T0 T1 hT t) = T0 (tix T0 T1 hT (before T0 T1 hT t)) := by
  unfold Refresh at h
  rw [ext_ne] at h
  have h' := mt IntOp.ori_eq_one.mpr h
  rw [not_or] at h'
  refine ⟨fun h0 => h'.1 ((crd_zero t).2 h0), ?_⟩
  have h2 := mt IntOp.cmpi_ne.mpr h'.2
  rw [not_not] at h2
  exact ((tab_at T0 _ _ _ (off1_val t)).symm.trans h2).trans (tab_at T0 _ _ _ (off2_val t))

/-! ## The weights' blocks depend on the tile's group only -/

/-- A tile's coordinate is its number. -/
theorem row_val : ∀ t : Fin grid0.N, (grid0.coords t 0).val = t.val := by decide +kernel

/-- Window 1's block at a tile is the tile's group. -/
theorem idx1 (t : Fin (cfgA T0 T1 hT).N) : ((cfgA T0 T1 hT).win (1 : Fin 5)).index t = ![0, (T0 (tix T0 T1 hT t)).toNat, 0, 0] :=
  congrArg (fun w : BitVec 32 => ![0, w.toNat, 0, 0]) (tab_at T0 _ (k0_off1_inb (grid0.coords t)) (tix T0 T1 hT t) (off1_val t))
/-- The weights' block 1 at a tile, from the argument. -/
theorem blk1 (c : Dev nD) (t : Fin (cfgA T0 T1 hT).N) (e : Fin 4) (a : Fin 1024) (b : Fin 256) :
    iblk T0 T1 hT m ρ c (1 : Fin 5) t (ix4 (0 : Fin 1) e a b) = m ((c : Thread nD τ).loc main_arg3) (ix4 (0 : Fin 2) ⟨4 * (T0 (tix T0 T1 hT t)).toNat + e, by have := hT (tix T0 T1 hT t); omega⟩ a b) := by
  blk_simp [iblk]
  refine congrArg _ ?_
  blk_ext [idx1 T0 T1 hT t]
/-- Two tiles of the same group have the same block in window 1. -/
theorem same1 (c : Dev nD) (t t' : Fin (cfgA T0 T1 hT).N) (h : T0 (tix T0 T1 hT t) = T0 (tix T0 T1 hT t')) :
    (iblk T0 T1 hT m ρ c (1 : Fin 5) t : Vec Ideal S1x4x1024x256 .f32) = iblk T0 T1 hT m ρ c (1 : Fin 5) t' := by
  funext y
  have e : y = ix4 (0 : Fin 1) (y 1) (y 2) (y 3) := by
    funext a
    match a with
    | 0 => exact Subsingleton.elim (α := Fin 1) _ _
    | 1 => rfl
    | 2 => rfl
    | 3 => rfl
  rw [e]
  refine (blk1 T0 T1 hT m ρ c t _ _ _).trans (Eq.trans ?_ (blk1 T0 T1 hT m ρ c t' _ _ _).symm)
  refine congrArg (fun z => m ((c : Thread nD τ).loc main_arg3) (ix4 (0 : Fin 2) z (y 2) (y 3))) (Fin.ext ?_)
  show 4 * (T0 _).toNat + _ = 4 * (T0 _).toNat + _
  rw [h]

/-- Window 2's block at a tile is the tile's group. -/
theorem idx2 (t : Fin (cfgA T0 T1 hT).N) : ((cfgA T0 T1 hT).win (2 : Fin 5)).index t = ![0, (T0 (tix T0 T1 hT t)).toNat, 0, 0] :=
  congrArg (fun w : BitVec 32 => ![0, w.toNat, 0, 0]) (tab_at T0 _ (k0_off1_inb (grid0.coords t)) (tix T0 T1 hT t) (off1_val t))
/-- The weights' block 2 at a tile, from the argument. -/
theorem blk2 (c : Dev nD) (t : Fin (cfgA T0 T1 hT).N) (e : Fin 4) (a : Fin 1024) (b : Fin 256) :
    iblk T0 T1 hT m ρ c (2 : Fin 5) t (ix4 (0 : Fin 1) e a b) = m ((c : Thread nD τ).loc main_arg4) (ix4 (0 : Fin 2) ⟨4 * (T0 (tix T0 T1 hT t)).toNat + e, by have := hT (tix T0 T1 hT t); omega⟩ a b) := by
  blk_simp [iblk]
  refine congrArg _ ?_
  blk_ext [idx2 T0 T1 hT t]
/-- Two tiles of the same group have the same block in window 2. -/
theorem same2 (c : Dev nD) (t t' : Fin (cfgA T0 T1 hT).N) (h : T0 (tix T0 T1 hT t) = T0 (tix T0 T1 hT t')) :
    (iblk T0 T1 hT m ρ c (2 : Fin 5) t : Vec Ideal S1x4x1024x256 .f32) = iblk T0 T1 hT m ρ c (2 : Fin 5) t' := by
  funext y
  have e : y = ix4 (0 : Fin 1) (y 1) (y 2) (y 3) := by
    funext a
    match a with
    | 0 => exact Subsingleton.elim (α := Fin 1) _ _
    | 1 => rfl
    | 2 => rfl
    | 3 => rfl
  rw [e]
  refine (blk2 T0 T1 hT m ρ c t _ _ _).trans (Eq.trans ?_ (blk2 T0 T1 hT m ρ c t' _ _ _).symm)
  refine congrArg (fun z => m ((c : Thread nD τ).loc main_arg4) (ix4 (0 : Fin 2) z (y 2) (y 3))) (Fin.ext ?_)
  show 4 * (T0 _).toNat + _ = 4 * (T0 _).toNat + _
  rw [h]

/-- Window 3's block at a tile is the tile's group. -/
theorem idx3 (t : Fin (cfgA T0 T1 hT).N) : ((cfgA T0 T1 hT).win (3 : Fin 5)).index t = ![0, (T0 (tix T0 T1 hT t)).toNat, 0, 0] :=
  congrArg (fun w : BitVec 32 => ![0, w.toNat, 0, 0]) (tab_at T0 _ (k0_off1_inb (grid0.coords t)) (tix T0 T1 hT t) (off1_val t))
/-- The weights' block 3 at a tile, from the argument. -/
theorem blk3 (c : Dev nD) (t : Fin (cfgA T0 T1 hT).N) (e : Fin 4) (a : Fin 256) (b : Fin 1024) :
    iblk T0 T1 hT m ρ c (3 : Fin 5) t (ix4 (0 : Fin 1) e a b) = m ((c : Thread nD τ).loc main_arg5) (ix4 (0 : Fin 2) ⟨4 * (T0 (tix T0 T1 hT t)).toNat + e, by have := hT (tix T0 T1 hT t); omega⟩ a b) := by
  blk_simp [iblk]
  refine congrArg _ ?_
  blk_ext [idx3 T0 T1 hT t]
/-- Two tiles of the same group have the same block in window 3. -/
theorem same3 (c : Dev nD) (t t' : Fin (cfgA T0 T1 hT).N) (h : T0 (tix T0 T1 hT t) = T0 (tix T0 T1 hT t')) :
    (iblk T0 T1 hT m ρ c (3 : Fin 5) t : Vec Ideal S1x4x256x1024 .f32) = iblk T0 T1 hT m ρ c (3 : Fin 5) t' := by
  funext y
  have e : y = ix4 (0 : Fin 1) (y 1) (y 2) (y 3) := by
    funext a
    match a with
    | 0 => exact Subsingleton.elim (α := Fin 1) _ _
    | 1 => rfl
    | 2 => rfl
    | 3 => rfl
  rw [e]
  refine (blk3 T0 T1 hT m ρ c t _ _ _).trans (Eq.trans ?_ (blk3 T0 T1 hT m ρ c t' _ _ _).symm)
  refine congrArg (fun z => m ((c : Thread nD τ).loc main_arg5) (ix4 (0 : Fin 2) z (y 2) (y 3))) (Fin.ext ?_)
  show 4 * (T0 _).toNat + _ = 4 * (T0 _).toNat + _
  rw [h]

/-! ## The proof data -/

/-- What a tile ends at. -/
def after4 (c : Dev nD) (t : Fin (cfgA T0 T1 hT).N) : Vec Ideal S512x1024 .f32 :=
  if k0_cond3 (crd T0 T1 hT t) (act T1) = 1#1 then
    tile (word (crd T0 T1 hT t) T0) (iblk T0 T1 hT m ρ c (0 : Fin 5) t) (k0_pay1 (iblk T0 T1 hT m ρ c (1 : Fin 5) t)) (k0_pay2 (iblk T0 T1 hT m ρ c (2 : Fin 5) t)) (k0_pay3 (iblk T0 T1 hT m ρ c (3 : Fin 5) t))
  else k0_pay4 (F := Ideal)

/-- The tile before a position of the grid. -/
def lastT (t : Fin ((cfgA T0 T1 hT).N + 1)) : Fin (cfgA T0 T1 hT).N := ⟨t.val - 1, by have h := t.isLt; have e : (cfgA T0 T1 hT).N = 43 := N_0; omega⟩

/-- After a tile, the last tile run is that tile. -/
theorem lastT_succ (t : Fin (cfgA T0 T1 hT).N) : lastT T0 T1 hT t.succ = t := Fin.ext (by show t.val + 1 - 1 = t.val; omega)
/-- Before a tile, the last tile run is the one before it. -/
theorem lastT_castSucc (t : Fin (cfgA T0 T1 hT).N) : lastT T0 T1 hT t.castSucc = before T0 T1 hT t := rfl

/-- What holds between tiles: the scratch buffers hold the weights of the group of the tile before (anything before the first tile). -/
def Phi (c : Dev nD) (t : Fin ((cfgA T0 T1 hT).N + 1)) : sProp 𝕄 :=
  iprop((∃ a, ⌜t.val ≠ 0 → a = k0_pay1 (F := Ideal) (iblk T0 T1 hT m ρ c (1 : Fin 5) (lastT T0 T1 hT t))⌝ ∗ (scM0_0.view.loc (c : Thread nD τ) ↦{fullShare} a))
    ∗ (∃ a, ⌜t.val ≠ 0 → a = k0_pay2 (F := Ideal) (iblk T0 T1 hT m ρ c (2 : Fin 5) (lastT T0 T1 hT t))⌝ ∗ (scM0_1.view.loc (c : Thread nD τ) ↦{fullShare} a))
    ∗ (∃ a, ⌜t.val ≠ 0 → a = k0_pay3 (F := Ideal) (iblk T0 T1 hT m ρ c (3 : Fin 5) (lastT T0 T1 hT t))⌝ ∗ (scM0_2.view.loc (c : Thread nD τ) ↦{fullShare} a))
    ∗ (tbM0_0.view.loc (c : Thread nD τ) ↦{fullShare.right} T0) ∗ (tbM0_1.view.loc (c : Thread nD τ) ↦{fullShare.right} T1))

/-- The proof data of the pipeline. -/
def dats (_ : Fin 1) (c : Dev nD) : Dat τ (Elt Ideal) Unit ℕ (UR sig nD τ) ℕ (cfgA T0 T1 hT) c where
  A w := (s₀ m ρ).mem (((cfgA T0 T1 hT).win w).arr.view.loc (c : Thread nD τ))
  after w t := match w with
    | ⟨0, _⟩ => iblk T0 T1 hT m ρ c (0 : Fin 5) t
    | ⟨1, _⟩ => iblk T0 T1 hT m ρ c (1 : Fin 5) t
    | ⟨2, _⟩ => iblk T0 T1 hT m ρ c (2 : Fin 5) t
    | ⟨3, _⟩ => iblk T0 T1 hT m ρ c (3 : Fin 5) t
    | ⟨4, _⟩ => after4 T0 T1 hT m ρ c t
  Φ t := Phi T0 T1 hT m ρ c t
  q _ := fullShare
  owed _ := 0

/-- Window 0 holds its block after a tile. -/
theorem after0_0 (c : Dev nD) (t : Fin (cfgA T0 T1 hT).N) : (dats T0 T1 hT m ρ 0 c).after (0 : Fin 5) t = iblk T0 T1 hT m ρ c (0 : Fin 5) t := rfl
/-- Window 0 holds its block before a tile. -/
theorem before0_0 (c : Dev nD) (t : Fin (cfgA T0 T1 hT).N) (d) : (dats T0 T1 hT m ρ 0 c).before (0 : Fin 5) t d = iblk T0 T1 hT m ρ c (0 : Fin 5) t :=
  ((dats T0 T1 hT m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)
/-- Window 1 holds its block after a tile. -/
theorem after0_1 (c : Dev nD) (t : Fin (cfgA T0 T1 hT).N) : (dats T0 T1 hT m ρ 0 c).after (1 : Fin 5) t = iblk T0 T1 hT m ρ c (1 : Fin 5) t := rfl
/-- Window 1 holds its block before a tile. -/
theorem before0_1 (c : Dev nD) (t : Fin (cfgA T0 T1 hT).N) (d) : (dats T0 T1 hT m ρ 0 c).before (1 : Fin 5) t d = iblk T0 T1 hT m ρ c (1 : Fin 5) t :=
  ((dats T0 T1 hT m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)
/-- Window 2 holds its block after a tile. -/
theorem after0_2 (c : Dev nD) (t : Fin (cfgA T0 T1 hT).N) : (dats T0 T1 hT m ρ 0 c).after (2 : Fin 5) t = iblk T0 T1 hT m ρ c (2 : Fin 5) t := rfl
/-- Window 2 holds its block before a tile. -/
theorem before0_2 (c : Dev nD) (t : Fin (cfgA T0 T1 hT).N) (d) : (dats T0 T1 hT m ρ 0 c).before (2 : Fin 5) t d = iblk T0 T1 hT m ρ c (2 : Fin 5) t :=
  ((dats T0 T1 hT m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)
/-- Window 3 holds its block after a tile. -/
theorem after0_3 (c : Dev nD) (t : Fin (cfgA T0 T1 hT).N) : (dats T0 T1 hT m ρ 0 c).after (3 : Fin 5) t = iblk T0 T1 hT m ρ c (3 : Fin 5) t := rfl
/-- Window 3 holds its block before a tile. -/
theorem before0_3 (c : Dev nD) (t : Fin (cfgA T0 T1 hT).N) (d) : (dats T0 T1 hT m ρ 0 c).before (3 : Fin 5) t d = iblk T0 T1 hT m ρ c (3 : Fin 5) t :=
  ((dats T0 T1 hT m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)
/-- The output window holds the tile's result after the tile. -/
theorem after0_4 (c : Dev nD) (t : Fin (cfgA T0 T1 hT).N) : (dats T0 T1 hT m ρ 0 c).after (4 : Fin 5) t = after4 T0 T1 hT m ρ c t := rfl

/-- One of the two stores of a tile is taken, whatever the number of tiles. -/
theorem stores (i : grid0.Coords) (v : BitVec 32) : (!(k0_cond2 i v == 1#1) && !(k0_cond3 i v == 1#1)) = false := by
  by_cases h : k0_cond3 i v = 1#1
  · rw [h]; simp
  · rw [(cond_iff _ _).2 h]; simp

/-- Every tile stores its output. -/
theorem idle_4 (t : Fin (cfgA T0 T1 hT).N) : (cfgA T0 T1 hT).idle (4 : Fin 5) ((cfgA T0 T1 hT).grid.coords t) = false := by
  exact stores _ _

/-- The body at a tile, as the pipeline calls it. -/
abbrev bodyAt0 (t : Fin (cfgA T0 T1 hT).N) : Prog (TpuEff nD τ sig (Elt Ideal) Λ₀ .tc) PUnit :=
  cc0__moe_group_kernel (crd T0 T1 hT t) (Memref.whole main_arg0) (Memref.isWhole_whole _) (Memref.whole main_arg1) (Memref.isWhole_whole _) (ms0_0 T0 T1 hT t) (hs0_0 T0 T1 hT t) (ms0_1 T0 T1 hT t) (hs0_1 T0 T1 hT t) (ms0_2 T0 T1 hT t) (hs0_2 T0 T1 hT t) (ms0_3 T0 T1 hT t) (hs0_3 T0 T1 hT t) (ms0_4 T0 T1 hT t) (hs0_4 T0 T1 hT t) (Memref.whole cc0_scratch0) (Memref.isWhole_whole _) (Memref.whole cc0_scratch1) (Memref.isWhole_whole _) (Memref.whole cc0_scratch2) (Memref.isWhole_whole _)

set_option maxHeartbeats 4000000 in
/-- The body's obligation at a tile, by the four cases. -/
theorem sound_body (c : Dev nD) (t : Fin (cfgA T0 T1 hT).N) :
    iprop((dats T0 T1 hT m ρ 0 c).Φ t.castSucc ∗ (dats T0 T1 hT m ρ 0 c).owesAt () t.castSucc
        ∗ (∃ d, owns (c : Thread nD τ) (ms0_0 T0 T1 hT t) fullShare ((dats T0 T1 hT m ρ 0 c).before (0 : Fin 5) t d))
        ∗ (∃ d, owns (c : Thread nD τ) (ms0_1 T0 T1 hT t) fullShare ((dats T0 T1 hT m ρ 0 c).before (1 : Fin 5) t d))
        ∗ (∃ d, owns (c : Thread nD τ) (ms0_2 T0 T1 hT t) fullShare ((dats T0 T1 hT m ρ 0 c).before (2 : Fin 5) t d))
        ∗ (∃ d, owns (c : Thread nD τ) (ms0_3 T0 T1 hT t) fullShare ((dats T0 T1 hT m ρ 0 c).before (3 : Fin 5) t d))
        ∗ (∃ d, owns (c : Thread nD τ) (ms0_4 T0 T1 hT t) fullShare ((dats T0 T1 hT m ρ 0 c).before (4 : Fin 5) t d)))
      ⊢ wp frame (wpE (defs₀ (F := Ideal)) Variants.none c none) Set.univ (bodyAt0 T0 T1 hT t) fun _ =>
          iprop((dats T0 T1 hT m ρ 0 c).Φ t.succ ∗ (dats T0 T1 hT m ρ 0 c).owesAt () t.succ
            ∗ bigSep Finset.univ fun w : Fin (cfgA T0 T1 hT).W =>
                match (cfgA T0 T1 hT).idle w ((cfgA T0 T1 hT).grid.coords t) with
                | true =>
                  match ((cfgA T0 T1 hT).win w).flush t with
                  | false => iprop(∃ d, owns (c : Thread nD τ) (((cfgA T0 T1 hT).win w).stage ((cfgA T0 T1 hT).slots t w)) fullShare ((dats T0 T1 hT m ρ 0 c).before w t d))
                  | true => owns (c : Thread nD τ) (((cfgA T0 T1 hT).win w).stage ((cfgA T0 T1 hT).slots t w)) fullShare ((dats T0 T1 hT m ρ 0 c).after w t)
                | false => owns (c : Thread nD τ) (((cfgA T0 T1 hT).win w).stage ((cfgA T0 T1 hT).slots t w)) fullShare ((dats T0 T1 hT m ρ 0 c).after w t)) := by
  rw [bigSep_W0]
  rewrite [idle_4]
  simp only [before0_0, before0_1, before0_2, before0_3, after0_0, after0_1, after0_2, after0_3, after0_4]
  rewrite [show (dats T0 T1 hT m ρ 0 c).Φ t.succ = Phi T0 T1 hT m ρ c t.succ from rfl, show (dats T0 T1 hT m ρ 0 c).Φ t.castSucc = Phi T0 T1 hT m ρ c t.castSucc from rfl,
    show (dats T0 T1 hT m ρ 0 c).owesAt () t.succ = (dats T0 T1 hT m ρ 0 c).owesAt () t.castSucc from rfl]
  unfold Phi
  rewrite [lastT_succ, lastT_castSucc]
  iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
  by_cases hc0 : Refresh (crd T0 T1 hT t) T0
  · by_cases h3 : k0_cond3 (crd T0 T1 hT t) (act T1) = 1#1
    · have h2 : ¬(k0_cond2 (crd T0 T1 hT t) (act T1) = 1#1) := fun h => (cond_iff _ _).1 h h3
      iapply ((runRA c (crd T0 T1 hT t) (ms0_0 T0 T1 hT t) (hs0_0 T0 T1 hT t) (ms0_1 T0 T1 hT t) (hs0_1 T0 T1 hT t) (ms0_2 T0 T1 hT t) (hs0_2 T0 T1 hT t) (ms0_3 T0 T1 hT t) (hs0_3 T0 T1 hT t) (ms0_4 T0 T1 hT t) (hs0_4 T0 T1 hT t) T0 T1 (iblk T0 T1 hT m ρ c (0 : Fin 5) t) (iblk T0 T1 hT m ρ c (1 : Fin 5) t) (iblk T0 T1 hT m ρ c (2 : Fin 5) t) (iblk T0 T1 hT m ρ c (3 : Fin 5) t) hc0 h2 h3).2.2.2.2 a0 a1 a2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0]
        · iexists _; isplitr; swap
          · iexact HS0
          · ipureintro; exact fun _ => sc0RA c (crd T0 T1 hT t) (ms0_0 T0 T1 hT t) (hs0_0 T0 T1 hT t) (ms0_1 T0 T1 hT t) (hs0_1 T0 T1 hT t) (ms0_2 T0 T1 hT t) (hs0_2 T0 T1 hT t) (ms0_3 T0 T1 hT t) (hs0_3 T0 T1 hT t) (ms0_4 T0 T1 hT t) (hs0_4 T0 T1 hT t) T0 T1 (iblk T0 T1 hT m ρ c (0 : Fin 5) t) (iblk T0 T1 hT m ρ c (1 : Fin 5) t) (iblk T0 T1 hT m ρ c (2 : Fin 5) t) (iblk T0 T1 hT m ρ c (3 : Fin 5) t) hc0 h2 h3
        isplitl [HS1]
        · iexists _; isplitr; swap
          · iexact HS1
          · ipureintro; exact fun _ => sc1RA c (crd T0 T1 hT t) (ms0_0 T0 T1 hT t) (hs0_0 T0 T1 hT t) (ms0_1 T0 T1 hT t) (hs0_1 T0 T1 hT t) (ms0_2 T0 T1 hT t) (hs0_2 T0 T1 hT t) (ms0_3 T0 T1 hT t) (hs0_3 T0 T1 hT t) (ms0_4 T0 T1 hT t) (hs0_4 T0 T1 hT t) T0 T1 (iblk T0 T1 hT m ρ c (0 : Fin 5) t) (iblk T0 T1 hT m ρ c (1 : Fin 5) t) (iblk T0 T1 hT m ρ c (2 : Fin 5) t) (iblk T0 T1 hT m ρ c (3 : Fin 5) t) hc0 h2 h3
        isplitl [HS2]
        · iexists _; isplitr; swap
          · iexact HS2
          · ipureintro; exact fun _ => sc2RA c (crd T0 T1 hT t) (ms0_0 T0 T1 hT t) (hs0_0 T0 T1 hT t) (ms0_1 T0 T1 hT t) (hs0_1 T0 T1 hT t) (ms0_2 T0 T1 hT t) (hs0_2 T0 T1 hT t) (ms0_3 T0 T1 hT t) (hs0_3 T0 T1 hT t) (ms0_4 T0 T1 hT t) (hs0_4 T0 T1 hT t) T0 T1 (iblk T0 T1 hT m ρ c (0 : Fin 5) t) (iblk T0 T1 hT m ρ c (1 : Fin 5) t) (iblk T0 T1 hT m ρ c (2 : Fin 5) t) (iblk T0 T1 hT m ρ c (3 : Fin 5) t) hc0 h2 h3
        isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro; exact (View.read_writes_of_cover _ _ _ _ _ (coverRA c (crd T0 T1 hT t) (ms0_0 T0 T1 hT t) (hs0_0 T0 T1 hT t) (ms0_1 T0 T1 hT t) (hs0_1 T0 T1 hT t) (ms0_2 T0 T1 hT t) (hs0_2 T0 T1 hT t) (ms0_3 T0 T1 hT t) (hs0_3 T0 T1 hT t) (ms0_4 T0 T1 hT t) (hs0_4 T0 T1 hT t) T0 T1 (iblk T0 T1 hT m ρ c (0 : Fin 5) t) (iblk T0 T1 hT m ρ c (1 : Fin 5) t) (iblk T0 T1 hT m ρ c (2 : Fin 5) t) (iblk T0 T1 hT m ρ c (3 : Fin 5) t) hc0 h2 h3)).trans ((outRA_eq c (crd T0 T1 hT t) (ms0_0 T0 T1 hT t) (hs0_0 T0 T1 hT t) (ms0_1 T0 T1 hT t) (hs0_1 T0 T1 hT t) (ms0_2 T0 T1 hT t) (hs0_2 T0 T1 hT t) (ms0_3 T0 T1 hT t) (hs0_3 T0 T1 hT t) (ms0_4 T0 T1 hT t) (hs0_4 T0 T1 hT t) T0 T1 (iblk T0 T1 hT m ρ c (0 : Fin 5) t) (iblk T0 T1 hT m ρ c (1 : Fin 5) t) (iblk T0 T1 hT m ρ c (2 : Fin 5) t) (iblk T0 T1 hT m ρ c (3 : Fin 5) t) hc0 h2 h3).trans (if_pos h3).symm)
    · have h2 : k0_cond2 (crd T0 T1 hT t) (act T1) = 1#1 := (cond_iff _ _).2 h3
      iapply ((runRZ c (crd T0 T1 hT t) (ms0_0 T0 T1 hT t) (hs0_0 T0 T1 hT t) (ms0_1 T0 T1 hT t) (hs0_1 T0 T1 hT t) (ms0_2 T0 T1 hT t) (hs0_2 T0 T1 hT t) (ms0_3 T0 T1 hT t) (hs0_3 T0 T1 hT t) (ms0_4 T0 T1 hT t) (hs0_4 T0 T1 hT t) T0 T1 (iblk T0 T1 hT m ρ c (0 : Fin 5) t) (iblk T0 T1 hT m ρ c (1 : Fin 5) t) (iblk T0 T1 hT m ρ c (2 : Fin 5) t) (iblk T0 T1 hT m ρ c (3 : Fin 5) t) hc0 h2 h3).2.2.2.2 a0 a1 a2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0]
        · iexists _; isplitr; swap
          · iexact HS0
          · ipureintro; exact fun _ => sc0RZ c (crd T0 T1 hT t) (ms0_0 T0 T1 hT t) (hs0_0 T0 T1 hT t) (ms0_1 T0 T1 hT t) (hs0_1 T0 T1 hT t) (ms0_2 T0 T1 hT t) (hs0_2 T0 T1 hT t) (ms0_3 T0 T1 hT t) (hs0_3 T0 T1 hT t) (ms0_4 T0 T1 hT t) (hs0_4 T0 T1 hT t) T0 T1 (iblk T0 T1 hT m ρ c (0 : Fin 5) t) (iblk T0 T1 hT m ρ c (1 : Fin 5) t) (iblk T0 T1 hT m ρ c (2 : Fin 5) t) (iblk T0 T1 hT m ρ c (3 : Fin 5) t) hc0 h2 h3
        isplitl [HS1]
        · iexists _; isplitr; swap
          · iexact HS1
          · ipureintro; exact fun _ => sc1RZ c (crd T0 T1 hT t) (ms0_0 T0 T1 hT t) (hs0_0 T0 T1 hT t) (ms0_1 T0 T1 hT t) (hs0_1 T0 T1 hT t) (ms0_2 T0 T1 hT t) (hs0_2 T0 T1 hT t) (ms0_3 T0 T1 hT t) (hs0_3 T0 T1 hT t) (ms0_4 T0 T1 hT t) (hs0_4 T0 T1 hT t) T0 T1 (iblk T0 T1 hT m ρ c (0 : Fin 5) t) (iblk T0 T1 hT m ρ c (1 : Fin 5) t) (iblk T0 T1 hT m ρ c (2 : Fin 5) t) (iblk T0 T1 hT m ρ c (3 : Fin 5) t) hc0 h2 h3
        isplitl [HS2]
        · iexists _; isplitr; swap
          · iexact HS2
          · ipureintro; exact fun _ => sc2RZ c (crd T0 T1 hT t) (ms0_0 T0 T1 hT t) (hs0_0 T0 T1 hT t) (ms0_1 T0 T1 hT t) (hs0_1 T0 T1 hT t) (ms0_2 T0 T1 hT t) (hs0_2 T0 T1 hT t) (ms0_3 T0 T1 hT t) (hs0_3 T0 T1 hT t) (ms0_4 T0 T1 hT t) (hs0_4 T0 T1 hT t) T0 T1 (iblk T0 T1 hT m ρ c (0 : Fin 5) t) (iblk T0 T1 hT m ρ c (1 : Fin 5) t) (iblk T0 T1 hT m ρ c (2 : Fin 5) t) (iblk T0 T1 hT m ρ c (3 : Fin 5) t) hc0 h2 h3
        isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro; exact (View.read_writes_of_cover _ _ _ _ _ (coverRZ c (crd T0 T1 hT t) (ms0_0 T0 T1 hT t) (hs0_0 T0 T1 hT t) (ms0_1 T0 T1 hT t) (hs0_1 T0 T1 hT t) (ms0_2 T0 T1 hT t) (hs0_2 T0 T1 hT t) (ms0_3 T0 T1 hT t) (hs0_3 T0 T1 hT t) (ms0_4 T0 T1 hT t) (hs0_4 T0 T1 hT t) T0 T1 (iblk T0 T1 hT m ρ c (0 : Fin 5) t) (iblk T0 T1 hT m ρ c (1 : Fin 5) t) (iblk T0 T1 hT m ρ c (2 : Fin 5) t) (iblk T0 T1 hT m ρ c (3 : Fin 5) t) hc0 h2 h3)).trans ((outRZ_eq c (crd T0 T1 hT t) (ms0_0 T0 T1 hT t) (hs0_0 T0 T1 hT t) (ms0_1 T0 T1 hT t) (hs0_1 T0 T1 hT t) (ms0_2 T0 T1 hT t) (hs0_2 T0 T1 hT t) (ms0_3 T0 T1 hT t) (hs0_3 T0 T1 hT t) (ms0_4 T0 T1 hT t) (hs0_4 T0 T1 hT t) T0 T1 (iblk T0 T1 hT m ρ c (0 : Fin 5) t) (iblk T0 T1 hT m ρ c (1 : Fin 5) t) (iblk T0 T1 hT m ρ c (2 : Fin 5) t) (iblk T0 T1 hT m ρ c (3 : Fin 5) t) hc0 h2 h3).trans (if_neg h3).symm)
  · obtain ⟨hz, hw⟩ := of_not_refresh T0 T1 hT t hc0
    have e0 := (ha0 hz).trans (congrArg (k0_pay1 (F := Ideal)) (same1 T0 T1 hT m ρ c t (before T0 T1 hT t) hw).symm)
    have e1 := (ha1 hz).trans (congrArg (k0_pay2 (F := Ideal)) (same2 T0 T1 hT m ρ c t (before T0 T1 hT t) hw).symm)
    have e2 := (ha2 hz).trans (congrArg (k0_pay3 (F := Ideal)) (same3 T0 T1 hT m ρ c t (before T0 T1 hT t) hw).symm)
    by_cases h3 : k0_cond3 (crd T0 T1 hT t) (act T1) = 1#1
    · have h2 : ¬(k0_cond2 (crd T0 T1 hT t) (act T1) = 1#1) := fun h => (cond_iff _ _).1 h h3
      iapply ((runNA c (crd T0 T1 hT t) (ms0_0 T0 T1 hT t) (hs0_0 T0 T1 hT t) (ms0_1 T0 T1 hT t) (hs0_1 T0 T1 hT t) (ms0_2 T0 T1 hT t) (hs0_2 T0 T1 hT t) (ms0_3 T0 T1 hT t) (hs0_3 T0 T1 hT t) (ms0_4 T0 T1 hT t) (hs0_4 T0 T1 hT t) T0 T1 (iblk T0 T1 hT m ρ c (0 : Fin 5) t) (iblk T0 T1 hT m ρ c (1 : Fin 5) t) (iblk T0 T1 hT m ρ c (2 : Fin 5) t) (iblk T0 T1 hT m ρ c (3 : Fin 5) t) a0 a1 a2 hc0 h2 h3).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0]
        · iexists _; isplitr; swap
          · iexact HS0
          · ipureintro; exact fun _ => e0
        isplitl [HS1]
        · iexists _; isplitr; swap
          · iexact HS1
          · ipureintro; exact fun _ => e1
        isplitl [HS2]
        · iexists _; isplitr; swap
          · iexact HS2
          · ipureintro; exact fun _ => e2
        isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro; exact (View.read_writes_of_cover _ _ _ _ _ (coverNA c (crd T0 T1 hT t) (ms0_0 T0 T1 hT t) (hs0_0 T0 T1 hT t) (ms0_1 T0 T1 hT t) (hs0_1 T0 T1 hT t) (ms0_2 T0 T1 hT t) (hs0_2 T0 T1 hT t) (ms0_3 T0 T1 hT t) (hs0_3 T0 T1 hT t) (ms0_4 T0 T1 hT t) (hs0_4 T0 T1 hT t) T0 T1 (iblk T0 T1 hT m ρ c (0 : Fin 5) t) (iblk T0 T1 hT m ρ c (1 : Fin 5) t) (iblk T0 T1 hT m ρ c (2 : Fin 5) t) (iblk T0 T1 hT m ρ c (3 : Fin 5) t) a0 a1 a2 hc0 h2 h3)).trans (((outNA_eq c (crd T0 T1 hT t) (ms0_0 T0 T1 hT t) (hs0_0 T0 T1 hT t) (ms0_1 T0 T1 hT t) (hs0_1 T0 T1 hT t) (ms0_2 T0 T1 hT t) (hs0_2 T0 T1 hT t) (ms0_3 T0 T1 hT t) (hs0_3 T0 T1 hT t) (ms0_4 T0 T1 hT t) (hs0_4 T0 T1 hT t) T0 T1 (iblk T0 T1 hT m ρ c (0 : Fin 5) t) (iblk T0 T1 hT m ρ c (1 : Fin 5) t) (iblk T0 T1 hT m ρ c (2 : Fin 5) t) (iblk T0 T1 hT m ρ c (3 : Fin 5) t) a0 a1 a2 hc0 h2 h3).trans (by rw [e0, e1, e2])).trans (if_pos h3).symm)
    · have h2 : k0_cond2 (crd T0 T1 hT t) (act T1) = 1#1 := (cond_iff _ _).2 h3
      iapply ((runNZ c (crd T0 T1 hT t) (ms0_0 T0 T1 hT t) (hs0_0 T0 T1 hT t) (ms0_1 T0 T1 hT t) (hs0_1 T0 T1 hT t) (ms0_2 T0 T1 hT t) (hs0_2 T0 T1 hT t) (ms0_3 T0 T1 hT t) (hs0_3 T0 T1 hT t) (ms0_4 T0 T1 hT t) (hs0_4 T0 T1 hT t) T0 T1 (iblk T0 T1 hT m ρ c (0 : Fin 5) t) (iblk T0 T1 hT m ρ c (1 : Fin 5) t) (iblk T0 T1 hT m ρ c (2 : Fin 5) t) (iblk T0 T1 hT m ρ c (3 : Fin 5) t) a0 a1 a2 hc0 h2 h3).2.2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      isplitl [HS2]; · iexact HS2
      iintro ⟨H0, H1, H2, H3, HT0, HT1, ⟨%e4, H4⟩, HS0, HS1, HS2⟩
      isplitl [HS0 HS1 HS2 HT0 HT1]
      · isplitl [HS0]
        · iexists _; isplitr; swap
          · iexact HS0
          · ipureintro; exact fun _ => e0
        isplitl [HS1]
        · iexists _; isplitr; swap
          · iexact HS1
          · ipureintro; exact fun _ => e1
        isplitl [HS2]
        · iexists _; isplitr; swap
          · iexact HS2
          · ipureintro; exact fun _ => e2
        isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro; exact (View.read_writes_of_cover _ _ _ _ _ (coverNZ c (crd T0 T1 hT t) (ms0_0 T0 T1 hT t) (hs0_0 T0 T1 hT t) (ms0_1 T0 T1 hT t) (hs0_1 T0 T1 hT t) (ms0_2 T0 T1 hT t) (hs0_2 T0 T1 hT t) (ms0_3 T0 T1 hT t) (hs0_3 T0 T1 hT t) (ms0_4 T0 T1 hT t) (hs0_4 T0 T1 hT t) T0 T1 (iblk T0 T1 hT m ρ c (0 : Fin 5) t) (iblk T0 T1 hT m ρ c (1 : Fin 5) t) (iblk T0 T1 hT m ρ c (2 : Fin 5) t) (iblk T0 T1 hT m ρ c (3 : Fin 5) t) a0 a1 a2 hc0 h2 h3)).trans (((outNZ_eq c (crd T0 T1 hT t) (ms0_0 T0 T1 hT t) (hs0_0 T0 T1 hT t) (ms0_1 T0 T1 hT t) (hs0_1 T0 T1 hT t) (ms0_2 T0 T1 hT t) (hs0_2 T0 T1 hT t) (ms0_3 T0 T1 hT t) (hs0_3 T0 T1 hT t) (ms0_4 T0 T1 hT t) (hs0_4 T0 T1 hT t) T0 T1 (iblk T0 T1 hT m ρ c (0 : Fin 5) t) (iblk T0 T1 hT m ρ c (1 : Fin 5) t) (iblk T0 T1 hT m ρ c (2 : Fin 5) t) (iblk T0 T1 hT m ρ c (3 : Fin 5) t) a0 a1 a2 hc0 h2 h3)).trans (if_neg h3).symm)

/-- The algebra of the staging cells, in the program logic's. -/
abbrev EP : Emb (UR sig nD τ) 𝕄 := emb₁

/-- The body's obligation at every tile. -/
theorem body_obligation (hp : Pinned T0 T1 m) (c : Dev nD) : BodyObligation (dats T0 T1 hT m ρ 0 c) (defs₀ (F := Ideal)) Variants.none () Set.univ := fun t => by
  rw [bigSep_W0]
  exact sound_body T0 T1 hT m ρ c t

/-! ## The launch -/

/-- The launch element of the pipeline's cells. -/
def u₀ : UR sig nD τ :=
  initOf (Pipeline.cells (pcs T0 T1 hT) ((launch0 (F := Ideal)).cellOf_inj fun _ => adm T0 T1 hT))
    (Pipeline.launchToks (pcs T0 T1 hT) ((launch0 (F := Ideal)).cellOf_inj fun _ => adm T0 T1 hT))

/-- Every window holds its array in full. -/
theorem share_eq (c : Dev nD) (w : Fin (cfgA T0 T1 hT).W) : (dats T0 T1 hT m ρ 0 c).share w = fullShare := by unfold Dat.share; split <;> rfl

/-- The tables as the launch hands them to the region, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The first invariant, from the tables and the scratch buffers. -/
theorem phi0_intro (c : Dev nD) :
    iprop(BI.emp ∗ Pipeline.prefHeld pre0 c (fun _ => fullShare.right) (adm T0 T1 hT).1 ∗ Pipeline.scopedRest spec0 c) ⊢ (dats T0 T1 hT m ρ 0 c).Φ 0 := by
  rw [prefHeld_eq, scopedRest0_eq, show (dats T0 T1 hT m ρ 0 c).Φ 0 = Phi T0 T1 hT m ρ c 0 from rfl]
  unfold Phi
  iintro ⟨-, ⟨HT0, HT1⟩, ⟨%a0, HS0⟩, ⟨%a1, HS1⟩, ⟨%a2, HS2⟩⟩
  isplitl [HS0]
  · iexists a0; isplitr; swap
    · iexact HS0
    · ipureintro; exact fun h => absurd rfl h
  isplitl [HS1]
  · iexists a1; isplitr; swap
    · iexact HS1
    · ipureintro; exact fun h => absurd rfl h
  isplitl [HS2]
  · iexists a2; isplitr; swap
    · iexact HS2
    · ipureintro; exact fun h => absurd rfl h
  isplitl [HT0]
  · iexact HT0
  iexact HT1

/-- The last invariant gives the scratch buffers back. -/
theorem phiN_exit (c : Dev nD) : (dats T0 T1 hT m ρ 0 c).Φ (Fin.last (cfgA T0 T1 hT).N) ⊢ iprop(BI.emp ∗ Pipeline.scopedRest spec0 c) := by
  rw [scopedRest0_eq, show (dats T0 T1 hT m ρ 0 c).Φ (Fin.last (cfgA T0 T1 hT).N) = Phi T0 T1 hT m ρ c (Fin.last _) from rfl]
  unfold Phi
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- What the final memory is: every array at what the tiles left, every table unchanged. -/
def QC : PUnit × MemSt nD τ sig (Elt Ideal) → Prop := fun r =>
  ∀ c : Dev nD, (∀ w : Fin (cfgA T0 T1 hT).W, r.2.mem (((cfgA T0 T1 hT).win w).arr.view.loc (c : Thread nD τ)) = (dats T0 T1 hT m ρ 0 c).arrAt w (cfgA T0 T1 hT).N)
    ∧ ∀ j, r.2.mem ((c : Thread nD τ).loc (pre0.ref j)) = (adm T0 T1 hT).1 j

/-- The memory's tables are the ones the run is stated at. -/
theorem V_pre (hp : Pinned T0 T1 m) (c : Dev nD) (j : Fin 2) : m ((c : Thread nD τ).loc (pre0.ref j)) = (adm T0 T1 hT).1 j := by
  fin_cases j
  · exact hp.1 c
  · exact hp.2 c

set_option backward.isDefEq.respectTransparency.types false in
set_option maxHeartbeats 4000000 in
/-- The run of the program from a memory with these tables. -/
theorem run_main_quiescent (hp : Pinned T0 T1 m) : θ_run (defs (F := Ideal)) (onTc (τ := τ) (main (F := Ideal))) (s₀ m ρ) (fun r => QC T0 T1 hT m ρ r ∧ r.2.sem = fun _ => 0) :=
  Pipeline.θ_run_region_noSem_pf_quiescent pcfgs (fun _ => adm T0 T1 hT) (dats T0 T1 hT m ρ) () ((launch0 (F := Ideal)).cellOf_inj fun _ => adm T0 T1 hT) (0 : Fin 1)
    (launch0 (F := Ideal)).win.to₀ (launch0 (F := Ideal)).pre EP defs₀ Variants.none m ρ main
    (hbody := fun c => (body_obligation T0 T1 hT m ρ hp c).loose) (hne := (launch0 (F := Ideal)).block_pos)
    (harr := (launch0 (F := Ideal)).arr_whole) (hstage := (launch0 (F := Ideal)).stage_whole) (howed := fun _ _ => rfl)
    (u₀ := u₀ T0 T1 hT) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T0 T1 hT) (dats T0 T1 hT m ρ) 0 (launch0 (F := Ideal)).win.arr_inj c (launch0 (F := Ideal)).arr_whole
      (share_eq T0 T1 hT m ρ c) _ _ fun _ => rfl)
    (hpf := V_pre T0 T1 hT m hp)
    (X := fun _ => iprop(emp)) (Y := fun _ => iprop(emp)) (Z := fun _ => iprop(emp))
    (hX := fun c => by rw [unscopedRestP0_eq]; iintro -; isplitr <;> iempintro)
    (hin := phi0_intro T0 T1 hT m ρ)
    (hout := phiN_exit T0 T1 hT m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The same, without the counters. -/
theorem run_main (hp : Pinned T0 T1 m) : θ_run (defs (F := Ideal)) (onTc (τ := τ) (main (F := Ideal))) (s₀ m ρ) (QC T0 T1 hT m ρ) :=
  (θ_run defs _ _).mono (fun _ h => h.1) (run_main_quiescent T0 T1 hT m ρ hp)

include hT in
/-- The arguments end unchanged. -/
theorem unchanged (hp : Pinned T0 T1 m) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp.1 c).symm, ((h c).2 1).trans (hp.2 c).symm, ((h c).1 (0 : Fin 5)).trans ((dats T0 T1 hT m ρ 0 c).arrAt_in (0 : Fin 5) rfl _), ((h c).1 (1 : Fin 5)).trans ((dats T0 T1 hT m ρ 0 c).arrAt_in (1 : Fin 5) rfl _), ((h c).1 (2 : Fin 5)).trans ((dats T0 T1 hT m ρ 0 c).arrAt_in (2 : Fin 5) rfl _), ((h c).1 (3 : Fin 5)).trans ((dats T0 T1 hT m ρ 0 c).arrAt_in (3 : Fin 5) rfl _)⟩) (run_main T0 T1 hT m ρ hp)

include hT in
/-- From any memory with these tables the kernel runs, its arguments end unchanged, and every semaphore counter ends at zero. -/
theorem frame (hp : Pinned T0 T1 m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged T0 T1 hT m ρ hp) ((θ_run defs _ _).mono (fun _ h => h.2) (run_main_quiescent T0 T1 hT m ρ hp))

end Cert.Kernel2Ideal.Moe

end
-- ==== Proof.MoeSum.lean ====
module

public import Idealize.ShloMosaic.Lib.Pointwise

/-!
  One expert's part of an entry, and the two sums the experts need: a gate picked out of its lanes, and the sixteen experts cut down to the four of a group.
-/

@[expose] public section

set_option maxRecDepth 16384

noncomputable section

namespace Cert.Experts

open Idealize.ShloMosaic

/-- One expert's part of an entry: the row `X` through the two first layers `A`, `B`, gated by `g`, then through the column `C` of the second layer. -/
def part (X : Fin 1024 → EReal) (A B : Fin 1024 → Fin 256 → EReal) (g : EReal) (C : Fin 256 → EReal) : EReal :=
  ∑ f : Fin 256, ((∑ k, X k * A k f) * Ideal.div 1 (1 + Ideal.exp (-(∑ k, X k * A k f))) * (∑ k, X k * B k f) * g) * C f

/-- An expert whose gate is zero adds nothing. -/
theorem part_zero (X : Fin 1024 → EReal) (A B : Fin 1024 → Fin 256 → EReal) (C : Fin 256 → EReal) : part X A B 0 C = 0 := by
  unfold part
  simp only [mul_zero, zero_mul, Finset.sum_const_zero]

/-- Parts are equal when what they are made of is. -/
theorem part_congr {X X' : Fin 1024 → EReal} {A A' B B' : Fin 1024 → Fin 256 → EReal} {g g' : EReal} {C C' : Fin 256 → EReal}
    (hX : ∀ k, X k = X' k) (hA : ∀ k f, A k f = A' k f) (hB : ∀ k f, B k f = B' k f) (hg : g = g') (hC : ∀ f, C f = C' f) : part X A B g C = part X' A' B' g' C' := by
  obtain rfl := funext hX
  obtain rfl : A = A' := funext fun k => funext (hA k)
  obtain rfl : B = B' := funext fun k => funext (hB k)
  obtain rfl := funext hC
  rw [hg]

/-- Sixteen experts of which only those of group `w` count: the group's four, in order. -/
theorem sum_group (F : Fin 16 → EReal) (w : Fin 4) (h : ∀ e : Fin 16, (e : ℕ) / 4 ≠ w → F e = 0) :
    ∑ e, F e = F ⟨4 * w + 0, by omega⟩ + F ⟨4 * w + 1, by omega⟩ + F ⟨4 * w + 2, by omega⟩ + F ⟨4 * w + 3, by omega⟩ := by
  rw [← (finProdFinEquiv (m := 4) (n := 4)).sum_comp F, Fintype.sum_prod_type, Finset.sum_eq_single w]
  · rw [Fin.sum_univ_four]
    have e (b : Fin 4) : finProdFinEquiv (w, b) = (⟨4 * w + b, by omega⟩ : Fin 16) := Fin.ext (by show (b : ℕ) + 4 * (w : ℕ) = 4 * (w : ℕ) + b; omega)
    rw [e, e, e, e]
    rfl
  · intro a _ ha
    refine Finset.sum_eq_zero fun b _ => h _ ?_
    have e : ((finProdFinEquiv (a, b) : Fin (4 * 4)) : ℕ) = (b : ℕ) + 4 * (a : ℕ) := rfl
    intro hh
    refine ha (Fin.ext ?_)
    have hh' : ((finProdFinEquiv (a, b) : Fin (4 * 4)) : ℕ) / 4 = w := hh
    omega
  · intro hw
    exact absurd (Finset.mem_univ _) hw

/-- Whether a lane is the lane of expert `b` of group `n`. -/
theorem lane_eq (n b : Fin 4) (k : Fin 128) :
    IntOp.cmpi .eq (BitVec.ofNat 32 k) (Scalar.addi (Scalar.muli (BitVec.ofNat 32 n) 4#32) (BitVec.ofNat 32 b)) = if (k : ℕ) = 4 * n + b then 1#1 else 0#1 := by
  revert n b k
  decide +kernel

/-- The lanes summed with all but one expert's set to zero: that expert's lane. -/
theorem lane_sum (n b : Fin 4) (v : BitVec 32) (hv : v = BitVec.ofNat 32 b) (G : Fin 128 → EReal) :
    ∑ k : Fin 128, Scalar.select (IntOp.cmpi .eq (BitVec.ofNat 32 k) (Scalar.addi (Scalar.muli (BitVec.ofNat 32 n) 4#32) v)) (G k) 0 = G ⟨4 * n + b, by omega⟩ := by
  subst hv
  rw [Finset.sum_eq_single (⟨4 * n + b, by omega⟩ : Fin 128)]
  · rw [lane_eq, if_pos rfl]; rfl
  · intro k _ hk
    rw [lane_eq, if_neg fun h => hk (Fin.ext h)]; rfl
  · intro h
    exact absurd (Finset.mem_univ _) h

end Cert.Experts

end
-- ==== Proof.MoeAt.lean ====
module

public import proofs.«01_k».proof.Proof.MoeTileIdeal
public import proofs.«01_k».proof.Proof.MoeSum
public import Idealize.ShloMosaic.Lib.Pointwise
public import Idealize.ShloMosaic.Lib.Pipeline.ValueKit

/-!
  A tile of the expert kernel at an entry: the sum of its group's four experts.
-/

@[expose] public section

set_option maxRecDepth 16384

noncomputable section

namespace Cert.Kernel2Ideal.Moe

open Idealize.ShloMosaic Idealize.SL.Sem Cert.Kernel2Ideal Cert.Kernel2Ideal.Gen

open Cert.Experts

/-- Expert 0's first-layer weights, cut out of the four, at an entry. -/
theorem up0_at (a : Vec Ideal S4x1024x256 .bf16) (k : Fin 1024) (f : Fin 256) : up0 a (ix3 (0 : Fin 1) k f) = a (ix3 (0 : Fin 4) k f) := by
  refine congrArg a (funext fun c => Fin.ext ?_)
  match c with
  | 0 => rfl
  | 1 => exact (show 0 + 1 * (k : ℕ) = k by omega)
  | 2 => exact (show 0 + 1 * (f : ℕ) = f by omega)
/-- Expert 0's second-layer weights, cut out of the four, at an entry. -/
theorem dn0_at (a : Vec Ideal S4x256x1024 .bf16) (k : Fin 256) (f : Fin 1024) : dn0 a (ix3 (0 : Fin 1) k f) = a (ix3 (0 : Fin 4) k f) := by
  refine congrArg a (funext fun c => Fin.ext ?_)
  match c with
  | 0 => rfl
  | 1 => exact (show 0 + 1 * (k : ℕ) = k by omega)
  | 2 => exact (show 0 + 1 * (f : ℕ) = f by omega)
/-- Expert 1's first-layer weights, cut out of the four, at an entry. -/
theorem up1_at (a : Vec Ideal S4x1024x256 .bf16) (k : Fin 1024) (f : Fin 256) : up1 a (ix3 (0 : Fin 1) k f) = a (ix3 (1 : Fin 4) k f) := by
  refine congrArg a (funext fun c => Fin.ext ?_)
  match c with
  | 0 => rfl
  | 1 => exact (show 0 + 1 * (k : ℕ) = k by omega)
  | 2 => exact (show 0 + 1 * (f : ℕ) = f by omega)
/-- Expert 1's second-layer weights, cut out of the four, at an entry. -/
theorem dn1_at (a : Vec Ideal S4x256x1024 .bf16) (k : Fin 256) (f : Fin 1024) : dn1 a (ix3 (0 : Fin 1) k f) = a (ix3 (1 : Fin 4) k f) := by
  refine congrArg a (funext fun c => Fin.ext ?_)
  match c with
  | 0 => rfl
  | 1 => exact (show 0 + 1 * (k : ℕ) = k by omega)
  | 2 => exact (show 0 + 1 * (f : ℕ) = f by omega)
/-- Expert 2's first-layer weights, cut out of the four, at an entry. -/
theorem up2_at (a : Vec Ideal S4x1024x256 .bf16) (k : Fin 1024) (f : Fin 256) : up2 a (ix3 (0 : Fin 1) k f) = a (ix3 (2 : Fin 4) k f) := by
  refine congrArg a (funext fun c => Fin.ext ?_)
  match c with
  | 0 => rfl
  | 1 => exact (show 0 + 1 * (k : ℕ) = k by omega)
  | 2 => exact (show 0 + 1 * (f : ℕ) = f by omega)
/-- Expert 2's second-layer weights, cut out of the four, at an entry. -/
theorem dn2_at (a : Vec Ideal S4x256x1024 .bf16) (k : Fin 256) (f : Fin 1024) : dn2 a (ix3 (0 : Fin 1) k f) = a (ix3 (2 : Fin 4) k f) := by
  refine congrArg a (funext fun c => Fin.ext ?_)
  match c with
  | 0 => rfl
  | 1 => exact (show 0 + 1 * (k : ℕ) = k by omega)
  | 2 => exact (show 0 + 1 * (f : ℕ) = f by omega)
/-- Expert 3's first-layer weights, cut out of the four, at an entry. -/
theorem up3_at (a : Vec Ideal S4x1024x256 .bf16) (k : Fin 1024) (f : Fin 256) : up3 a (ix3 (0 : Fin 1) k f) = a (ix3 (3 : Fin 4) k f) := by
  refine congrArg a (funext fun c => Fin.ext ?_)
  match c with
  | 0 => rfl
  | 1 => exact (show 0 + 1 * (k : ℕ) = k by omega)
  | 2 => exact (show 0 + 1 * (f : ℕ) = f by omega)
/-- Expert 3's second-layer weights, cut out of the four, at an entry. -/
theorem dn3_at (a : Vec Ideal S4x256x1024 .bf16) (k : Fin 256) (f : Fin 1024) : dn3 a (ix3 (0 : Fin 1) k f) = a (ix3 (3 : Fin 4) k f) := by
  refine congrArg a (funext fun c => Fin.ext ?_)
  match c with
  | 0 => rfl
  | 1 => exact (show 0 + 1 * (k : ℕ) = k by omega)
  | 2 => exact (show 0 + 1 * (f : ℕ) = f by omega)
/-- The token part of a row at an entry. -/
theorem tok_at (x : Vec Ideal S512x1280 .bf16) (r : Fin 512) (k : Fin 1024) : tok x (ix2 r k) = x (ix2 r (⟨k, by omega⟩ : Fin 1280)) := by
  refine congrArg x (funext fun c => Fin.ext ?_)
  match c with
  | 0 => exact (show 0 + 1 * (r : ℕ) = r by omega)
  | 1 => exact (show 0 + 1 * (k : ℕ) = k by omega)
/-- The high half of the gates at an entry. -/
theorem lanA_at (x : Vec Ideal S512x1280 .bf16) (r : Fin 512) (k : Fin 128) : lanA x (ix2 r k) = x (ix2 r (⟨1024 + k, by omega⟩ : Fin 1280)) := by
  refine congrArg x (funext fun c => Fin.ext ?_)
  match c with
  | 0 => exact (show 0 + 1 * (r : ℕ) = r by omega)
  | 1 => exact (show 1024 + 1 * (k : ℕ) = 1024 + k by omega)
/-- The low half of the gates at an entry. -/
theorem lanB_at (x : Vec Ideal S512x1280 .bf16) (r : Fin 512) (k : Fin 128) : lanB x (ix2 r k) = x (ix2 r (⟨1152 + k, by omega⟩ : Fin 1280)) := by
  refine congrArg x (funext fun c => Fin.ext ?_)
  match c with
  | 0 => exact (show 0 + 1 * (r : ℕ) = r by omega)
  | 1 => exact (show 1152 + 1 * (k : ℕ) = 1152 + k by omega)

/-- A tile at an entry: its group's four experts, in order. -/
theorem tile_at (n : Fin 4) (x : Vec Ideal S512x1280 .bf16) (a0 a1 : Vec Ideal S4x1024x256 .bf16) (a2 : Vec Ideal S4x256x1024 .bf16) (r : Fin 512) (d : Fin 1024) :
    tile (BitVec.ofNat 32 n) x a0 a1 a2 (ix2 r d)
      = part (fun k => x (ix2 r ⟨k, by omega⟩)) (fun k f => a0 (ix3 (0 : Fin 4) k f)) (fun k f => a1 (ix3 (0 : Fin 4) k f))
        (x (ix2 r ⟨1024 + (4 * n + 0), by omega⟩) + x (ix2 r ⟨1152 + (4 * n + 0), by omega⟩)) (fun f => a2 (ix3 (0 : Fin 4) f d))
      + part (fun k => x (ix2 r ⟨k, by omega⟩)) (fun k f => a0 (ix3 (1 : Fin 4) k f)) (fun k f => a1 (ix3 (1 : Fin 4) k f))
        (x (ix2 r ⟨1024 + (4 * n + 1), by omega⟩) + x (ix2 r ⟨1152 + (4 * n + 1), by omega⟩)) (fun f => a2 (ix3 (1 : Fin 4) f d))
      + part (fun k => x (ix2 r ⟨k, by omega⟩)) (fun k f => a0 (ix3 (2 : Fin 4) k f)) (fun k f => a1 (ix3 (2 : Fin 4) k f))
        (x (ix2 r ⟨1024 + (4 * n + 2), by omega⟩) + x (ix2 r ⟨1152 + (4 * n + 2), by omega⟩)) (fun f => a2 (ix3 (2 : Fin 4) f d))
      + part (fun k => x (ix2 r ⟨k, by omega⟩)) (fun k f => a0 (ix3 (3 : Fin 4) k f)) (fun k f => a1 (ix3 (3 : Fin 4) k f))
        (x (ix2 r ⟨1024 + (4 * n + 3), by omega⟩) + x (ix2 r ⟨1152 + (4 * n + 3), by omega⟩)) (fun f => a2 (ix3 (3 : Fin 4) f d)) := by
  unfold tile
  unfold_payloads
  pointwise
  simp only [lane_sum n 0 0#32 rfl, lane_sum n 1 1#32 rfl, lane_sum n 2 2#32 rfl, lane_sum n 3 3#32 rfl, tok_at, lanA_at, lanB_at, up0_at, dn0_at, up1_at, dn1_at, up2_at, dn2_at, up3_at, dn3_at]
  rfl

/-- The group's weights as the scratch buffer holds them. -/
theorem pay1_at (x : Vec Ideal S1x4x1024x256 .f32) (e : Fin 4) (k : Fin 1024) (f : Fin 256) : k0_pay1 x (ix3 e k f) = x (ix4 (0 : Fin 1) e k f) := by
  unfold_payloads
  pointwise

/-- The group's weights as the scratch buffer holds them. -/
theorem pay2_at (x : Vec Ideal S1x4x1024x256 .f32) (e : Fin 4) (k : Fin 1024) (f : Fin 256) : k0_pay2 x (ix3 e k f) = x (ix4 (0 : Fin 1) e k f) := by
  unfold_payloads
  pointwise

/-- The group's weights as the scratch buffer holds them. -/
theorem pay3_at (x : Vec Ideal S1x4x256x1024 .f32) (e : Fin 4) (k : Fin 256) (f : Fin 1024) : k0_pay3 x (ix3 e k f) = x (ix4 (0 : Fin 1) e k f) := by
  unfold_payloads
  pointwise

/-- An idle tile is zero. -/
theorem pay4_at (r : Fin 512) (d : Fin 1024) : k0_pay4 (F := Ideal) (ix2 r d) = 0 := by
  unfold_payloads
  pointwise

end Cert.Kernel2Ideal.Moe

end
-- ==== Proof.MoeValue.lean ====
module

public import proofs.«01_k».proof.Proof.MoeRunIdeal
public import proofs.«01_k».proof.Proof.MoeAt
public import Idealize.ShloMosaic.Lib.Pipeline.Covers

/-!
  The array the expert kernel leaves, at an entry of each tile, from its arguments.
-/

@[expose] public section

set_option maxRecDepth 16384

noncomputable section

namespace Cert.Kernel2Ideal.Moe

open Idealize.ShloMosaic Idealize.ShloMosaic.TcCoe Idealize.SL.Sem Cert.Kernel2Ideal Cert.Kernel2Ideal.Gen Cert.Experts
open Idealize.ShloMosaic.Pipeline (Dat Cfg Window)

variable (T0 : S43.Idx → BitVec 32) (T1 : S1.Idx → BitVec 32) (hT : ∀ x, (T0 x).toNat < 4)
variable (m : (ℓ : Loc nD τ sig) → Buf (Elt Ideal) ℓ) (ρ : Dev nD → PrngReg) (c : Dev nD)

/-- Window 0's block at a tile. -/
theorem idx0 (t : Fin (cfgA T0 T1 hT).N) : ((cfgA T0 T1 hT).win (0 : Fin 5)).index t = ![(t : ℕ), 0] :=
  (by decide +kernel : ∀ t : Fin grid0.N, cc0_transform_0 (grid0.coords t) = ![(t : ℕ), 0]) t
/-- Window 4's block at a tile. -/
theorem idx4 (t : Fin (cfgA T0 T1 hT).N) : ((cfgA T0 T1 hT).win (4 : Fin 5)).index t = ![(t : ℕ), 0] :=
  (by decide +kernel : ∀ t : Fin grid0.N, cc0_transform_4 (grid0.coords t) = ![(t : ℕ), 0]) t

/-- There are 43 tiles. -/
theorem lt43 (t : Fin (cfgA T0 T1 hT).N) : (t : ℕ) < 43 := by
  have h := t.isLt
  have e : (cfgA T0 T1 hT).N = 43 := N_0
  omega

/-- The rows' block at a tile. -/
theorem blk0 (t : Fin (cfgA T0 T1 hT).N) (s : Fin 512) (k : Fin 1280) :
    iblk T0 T1 hT m ρ c (0 : Fin 5) t (ix2 s k) = m ((c : Thread nD τ).loc main_arg2) (ix2 (⟨512 * t + s, by have := lt43 T0 T1 hT t; omega⟩ : Fin 22016) k) := by
  blk_simp [iblk]
  refine congrArg _ ?_
  blk_ext [idx0 T0 T1 hT t]

/-- A tile is active when its number is below the number of active tiles. -/
theorem active_iff (t : Fin (cfgA T0 T1 hT).N) : k0_cond3 (crd T0 T1 hT t) (act T1) = 1#1 ↔ IntOp.cmpi .slt (BitVec.ofNat 32 t) (T1 (ix1 (0 : Fin 1))) = 1#1 := by
  have e : act T1 = T1 (ix1 (0 : Fin 1)) := congrArg T1 (funext fun a => by
    obtain rfl : a = 0 := Subsingleton.elim (α := Fin 1) _ _
    exact Subsingleton.elim (α := Fin 1) _ _)
  rw [e]
  unfold k0_cond3
  dsimp only
  rw [ext_ne]
  have hr : ((crd T0 T1 hT t 0 : ℕ)) = t := row_val t
  rw [← hr]
  rfl

/-- What a tile ends at, at an entry. -/
theorem after4_at (t : Fin (cfgA T0 T1 hT).N) (s : Fin 512) (d : Fin 1024) (n : Fin 4) (hn : T0 (ix1 (⟨t, lt43 T0 T1 hT t⟩ : Fin 43)) = BitVec.ofNat 32 n)
    (a2 : Vec Ideal S22016x1280 .bf16) (a3 a4 : Vec Ideal S2x16x1024x256 .f32) (a5 : Vec Ideal S2x16x256x1024 .f32)
    (h2 : m ((c : Thread nD τ).loc main_arg2) = a2) (h3 : m ((c : Thread nD τ).loc main_arg3) = a3) (h4 : m ((c : Thread nD τ).loc main_arg4) = a4) (h5 : m ((c : Thread nD τ).loc main_arg5) = a5) :
    after4 T0 T1 hT m ρ c t (ix2 s d) =
      if IntOp.cmpi .slt (BitVec.ofNat 32 t) (T1 (ix1 (0 : Fin 1))) = 1#1 then
        part (fun k => a2 (ix2 (⟨512 * t + s, by have := lt43 T0 T1 hT t; omega⟩ : Fin 22016) (⟨k, by omega⟩ : Fin 1280))) (fun k f => a3 (ix4 (0 : Fin 2) (⟨4 * n + 0, by omega⟩ : Fin 16) k f)) (fun k f => a4 (ix4 (0 : Fin 2) (⟨4 * n + 0, by omega⟩ : Fin 16) k f))
          (a2 (ix2 (⟨512 * t + s, by have := lt43 T0 T1 hT t; omega⟩ : Fin 22016) (⟨1024 + (4 * n + 0), by omega⟩ : Fin 1280)) + a2 (ix2 (⟨512 * t + s, by have := lt43 T0 T1 hT t; omega⟩ : Fin 22016) (⟨1152 + (4 * n + 0), by omega⟩ : Fin 1280)))
          (fun f => a5 (ix4 (0 : Fin 2) (⟨4 * n + 0, by omega⟩ : Fin 16) f d))
        + part (fun k => a2 (ix2 (⟨512 * t + s, by have := lt43 T0 T1 hT t; omega⟩ : Fin 22016) (⟨k, by omega⟩ : Fin 1280))) (fun k f => a3 (ix4 (0 : Fin 2) (⟨4 * n + 1, by omega⟩ : Fin 16) k f)) (fun k f => a4 (ix4 (0 : Fin 2) (⟨4 * n + 1, by omega⟩ : Fin 16) k f))
          (a2 (ix2 (⟨512 * t + s, by have := lt43 T0 T1 hT t; omega⟩ : Fin 22016) (⟨1024 + (4 * n + 1), by omega⟩ : Fin 1280)) + a2 (ix2 (⟨512 * t + s, by have := lt43 T0 T1 hT t; omega⟩ : Fin 22016) (⟨1152 + (4 * n + 1), by omega⟩ : Fin 1280)))
          (fun f => a5 (ix4 (0 : Fin 2) (⟨4 * n + 1, by omega⟩ : Fin 16) f d))
        + part (fun k => a2 (ix2 (⟨512 * t + s, by have := lt43 T0 T1 hT t; omega⟩ : Fin 22016) (⟨k, by omega⟩ : Fin 1280))) (fun k f => a3 (ix4 (0 : Fin 2) (⟨4 * n + 2, by omega⟩ : Fin 16) k f)) (fun k f => a4 (ix4 (0 : Fin 2) (⟨4 * n + 2, by omega⟩ : Fin 16) k f))
          (a2 (ix2 (⟨512 * t + s, by have := lt43 T0 T1 hT t; omega⟩ : Fin 22016) (⟨1024 + (4 * n + 2), by omega⟩ : Fin 1280)) + a2 (ix2 (⟨512 * t + s, by have := lt43 T0 T1 hT t; omega⟩ : Fin 22016) (⟨1152 + (4 * n + 2), by omega⟩ : Fin 1280)))
          (fun f => a5 (ix4 (0 : Fin 2) (⟨4 * n + 2, by omega⟩ : Fin 16) f d))
        + part (fun k => a2 (ix2 (⟨512 * t + s, by have := lt43 T0 T1 hT t; omega⟩ : Fin 22016) (⟨k, by omega⟩ : Fin 1280))) (fun k f => a3 (ix4 (0 : Fin 2) (⟨4 * n + 3, by omega⟩ : Fin 16) k f)) (fun k f => a4 (ix4 (0 : Fin 2) (⟨4 * n + 3, by omega⟩ : Fin 16) k f))
          (a2 (ix2 (⟨512 * t + s, by have := lt43 T0 T1 hT t; omega⟩ : Fin 22016) (⟨1024 + (4 * n + 3), by omega⟩ : Fin 1280)) + a2 (ix2 (⟨512 * t + s, by have := lt43 T0 T1 hT t; omega⟩ : Fin 22016) (⟨1152 + (4 * n + 3), by omega⟩ : Fin 1280)))
          (fun f => a5 (ix4 (0 : Fin 2) (⟨4 * n + 3, by omega⟩ : Fin 16) f d))
      else 0 := by
  have hv : (T0 (tix T0 T1 hT t)).toNat = n := by
    rw [show T0 (tix T0 T1 hT t) = BitVec.ofNat 32 n from hn]
    show (n : ℕ) % 2 ^ 32 = n
    omega
  unfold after4
  by_cases ha : k0_cond3 (crd T0 T1 hT t) (act T1) = 1#1
  · rw [if_pos ha, if_pos ((active_iff T0 T1 hT t).1 ha), word_eq, show T0 (tix T0 T1 hT t) = BitVec.ofNat 32 n from hn, tile_at]
    subst h2 h3 h4 h5
    have e1 (e : Fin 4) : (⟨4 * (T0 (tix T0 T1 hT t)).toNat + e, by rw [hv]; omega⟩ : Fin 16) = ⟨4 * n + e, by omega⟩ := Fin.ext (by show 4 * (T0 _).toNat + (e : ℕ) = _; rw [hv])
    refine congr (congrArg HAdd.hAdd (congr (congrArg HAdd.hAdd (congr (congrArg HAdd.hAdd ?_) ?_)) ?_)) ?_
    · refine part_congr (fun k => blk0 T0 T1 hT m ρ c t s _) (fun k f => ?_) (fun k f => ?_) ?_ (fun f => ?_)
      · rw [pay1_at, blk1, e1 0]; rfl
      · rw [pay2_at, blk2, e1 0]; rfl
      · rw [blk0, blk0]
      · rw [pay3_at, blk3, e1 0]; rfl
    · refine part_congr (fun k => blk0 T0 T1 hT m ρ c t s _) (fun k f => ?_) (fun k f => ?_) ?_ (fun f => ?_)
      · rw [pay1_at, blk1, e1 1]; rfl
      · rw [pay2_at, blk2, e1 1]; rfl
      · rw [blk0, blk0]
      · rw [pay3_at, blk3, e1 1]; rfl
    · refine part_congr (fun k => blk0 T0 T1 hT m ρ c t s _) (fun k f => ?_) (fun k f => ?_) ?_ (fun f => ?_)
      · rw [pay1_at, blk1, e1 2]; rfl
      · rw [pay2_at, blk2, e1 2]; rfl
      · rw [blk0, blk0]
      · rw [pay3_at, blk3, e1 2]; rfl
    · refine part_congr (fun k => blk0 T0 T1 hT m ρ c t s _) (fun k f => ?_) (fun k f => ?_) ?_ (fun f => ?_)
      · rw [pay1_at, blk1, e1 3]; rfl
      · rw [pay2_at, blk2, e1 3]; rfl
      · rw [blk0, blk0]
      · rw [pay3_at, blk3, e1 3]; rfl
  · rw [if_neg ha, if_neg (mt (active_iff T0 T1 hT t).2 ha)]
    exact pay4_at s d

/-- The tiles' blocks cover the array. -/
theorem covers : ((cfgA T0 T1 hT).win (4 : Fin 5)).Covers := by
  refine Window.covers_of_index_surj _ rfl (fun a => ?_) fun β => ?_
  · match a with
    | 0 => exact (by omega : 0 < 512)
    | 1 => exact (by omega : 0 < 1024)
  have h0 : (β (0 : Fin 2) : ℕ) < (22016 + 512 - 1) / 512 := (β (0 : Fin 2)).isLt
  have h1 : (β (1 : Fin 2) : ℕ) < (1024 + 1024 - 1) / 1024 := (β (1 : Fin 2)).isLt
  have e : (cfgA T0 T1 hT).N = 43 := N_0
  refine ⟨⟨(β (0 : Fin 2) : ℕ), lt_of_lt_of_eq h0 e.symm⟩, ?_⟩
  intro a
  refine (congrFun (idx4 T0 T1 hT _) a).trans ?_
  match a with
  | 0 => rfl
  | 1 => exact (by omega : 0 = (β (1 : Fin 2) : ℕ))

/-- The array the tiles leave is `G`, when every tile ends at `G`'s part. -/
theorem final (G : Vec Ideal S22016x1024 .f32)
    (hG : ∀ (t : Fin (cfgA T0 T1 hT).N) (s : Fin 512) (d : Fin 1024), after4 T0 T1 hT m ρ c t (ix2 s d) = G (ix2 (⟨512 * t + s, by have := lt43 T0 T1 hT t; omega⟩ : Fin 22016) d)) :
    (dats T0 T1 hT m ρ 0 c).arrAt (4 : Fin 5) (cfgA T0 T1 hT).N = G := by
  refine (dats T0 T1 hT m ρ 0 c).arrAt_eq_of_covers (4 : Fin 5) G (covers T0 T1 hT) fun t hf y => ?_
  have e : (((cfgA T0 T1 hT).win (4 : Fin 5)).blk t).view.emb y = ix2 (⟨512 * t + (y 0 : ℕ), by have := lt43 T0 T1 hT t; have : (y 0 : ℕ) < 512 := (y 0).isLt; omega⟩ : Fin 22016) (y 1 : Fin 1024) := by
    blk_ext [idx4 T0 T1 hT t]
  rw [e]
  blk_simp
  rw [after0_4]
  refine Eq.trans (congrArg _ ?_) (hG t (y 0) (y 1))
  funext a
  match a with
  | 0 => rfl
  | 1 => rfl

end Cert.Kernel2Ideal.Moe

end
-- ==== Proof.MoeRows.lean ====
module

public import Idealize.ShloMosaic.Lib.Pointwise

/-!
  The rows' floor division by the tile's height.
-/

@[expose] public section

set_option maxRecDepth 16384

noncomputable section

namespace Cert.Rows

open Idealize.ShloMosaic

/-- Row 512·t + s over 512, rounded down as the reference writes it, is t. -/
theorem floor_div : ∀ (t : Fin 43) (s : Fin 512),
    Scalar.select
      (IntOp.andi
        (IntOp.cmpi CmpIPredicate.ne (if BitVec.ofNat 32 (512 * (t : ℕ) + s) = 0 then 0 else if (BitVec.ofNat 32 (512 * (t : ℕ) + s)).msb = true then -1 else 1 : BitVec 32)
          (if 512#32 = 0 then 0 else if (512#32).msb = true then -1 else 1 : BitVec 32))
        (IntOp.cmpi CmpIPredicate.ne (IntOp.remsi ArithUnit.host (BitVec.ofNat 32 (512 * (t : ℕ) + s)) 512#32) 0#32))
      (IntOp.subi (IntOp.divsi ArithUnit.host (BitVec.ofNat 32 (512 * (t : ℕ) + s)) 512#32) 1#32)
      (IntOp.divsi ArithUnit.host (BitVec.ofNat 32 (512 * (t : ℕ) + s)) 512#32) = BitVec.ofNat 32 t := by
  decide +kernel

end Cert.Rows

end
-- ==== Proof.MoeRef.lean ====
module

public import proofs.«01_k».proof.Proof.Gen.Reference2Ideal.Run
public import proofs.«01_k».proof.Proof.MoeSum
public import proofs.«01_k».proof.Proof.MoeRows
public import Idealize.ShloMosaic.Lib.Pointwise
public import Idealize.ShloMosaic.Lib.Pipeline.ValueKit
public import Idealize.ShloMosaic.Lib.Tactic.CleanTypes

/-!
  The experts' reference at an entry of its result: each row's sixteen experts, weighted by gates that are zero outside the row's group.
-/

@[expose] public section

set_option maxRecDepth 16384

noncomputable section

namespace Cert.Reference2Ideal.Experts

open Idealize.ShloMosaic Idealize.ShloMosaic.TcCoe Idealize.SL.Sem Cert.Reference2Ideal Cert.Reference2Ideal.Gen Cert.Reference2Ideal.Value

/-- Each row's tile. -/
def tileNo : IVec S22016 32 :=
  select (andi (cmpi .ne (signi (iotaInDim S22016 32 0)) (broadcastInDim S22016 ![] bcast_S_S22016 (signi (id (constantI S_ 32 512#32))))) (cmpi .ne (Host.remsi (iotaInDim S22016 32 0) (broadcastInDim S22016 ![] bcast_S_S22016 (id (constantI S_ 32 512#32)))) (broadcastInDim S22016 ![] bcast_S_S22016 (constantI S_ 32 0#32)))) (subi (Host.divsi (iotaInDim S22016 32 0) (broadcastInDim S22016 ![] bcast_S_S22016 (id (constantI S_ 32 512#32)))) (broadcastInDim S22016 ![] bcast_S_S22016 (constantI S_ 32 1#32))) (Host.divsi (iotaInDim S22016 32 0) (broadcastInDim S22016 ![] bcast_S_S22016 (id (constantI S_ 32 512#32))))

/-- Each expert's group. -/
def groupNo : IVec S1x16 32 :=
  select (andi (cmpi .ne (signi (broadcastInDim S1x16 ![1] bcast_S16_S1x16_1 (iotaInDim S16 32 0))) (broadcastInDim S1x16 ![] bcast_S_S1x16 (signi (id (constantI S_ 32 4#32))))) (cmpi .ne (Host.remsi (broadcastInDim S1x16 ![1] bcast_S16_S1x16_1 (iotaInDim S16 32 0)) (broadcastInDim S1x16 ![] bcast_S_S1x16 (id (constantI S_ 32 4#32)))) (broadcastInDim S1x16 ![] bcast_S_S1x16 (constantI S_ 32 0#32)))) (subi (Host.divsi (broadcastInDim S1x16 ![1] bcast_S16_S1x16_1 (iotaInDim S16 32 0)) (broadcastInDim S1x16 ![] bcast_S_S1x16 (id (constantI S_ 32 4#32)))) (broadcastInDim S1x16 ![] bcast_S_S1x16 (constantI S_ 32 1#32))) (Host.divsi (broadcastInDim S1x16 ![1] bcast_S16_S1x16_1 (iotaInDim S16 32 0)) (broadcastInDim S1x16 ![] bcast_S_S1x16 (id (constantI S_ 32 4#32))))

/-- Each row's tile, as the table's index. -/
def tileIx : IVec S22016x1 32 :=
  broadcastInDim S22016x1 ![0] bcast_S22016_S22016x1_0 (select (cmpi .slt tileNo (broadcastInDim S22016 ![] bcast_S_S22016 (constantI S_ 32 0#32))) (addi tileNo (broadcastInDim S22016 ![] bcast_S_S22016 (constantI S_ 32 43#32))) tileNo)

/-- Whether an expert is of a row's group and the row's tile is active. -/
def mine (a0 : IVec S43 32) (a1 : IVec S1 32) : IVec S22016x16 1 :=
  andi (cmpi .eq (broadcastInDim S22016x16 ![0, 1] bcast_S22016x1_S22016x16_0_1 (broadcastInDim S22016x1 ![0] bcast_S22016_S22016x1_0 (Host.gather gather_S43_S22016x1_S22016_n_0_n_n_0_1_1 a0 tileIx))) (broadcastInDim S22016x16 ![0, 1] bcast_S1x16_S22016x16_0_1 groupNo)) (broadcastInDim S22016x16 ![0, 1] bcast_S22016x1_S22016x16_0_1 (cmpi .slt (broadcastInDim S22016x1 ![0] bcast_S22016_S22016x1_0 tileNo) (broadcastInDim S22016x1 ![] bcast_S_S22016x1 (shapeCast _ a1 shapeCasts_S1_S_))))

/-- A row's gate for an expert, from whether the expert is the row's. -/
def gates (b : IVec S22016x16 1) (a2 : Vec Ideal S22016x1280 .bf16) : Vec Ideal S22016x16 .f32 :=
  select b (extractStridedSlice S22016x16 ![0, 0] (addf (F := Ideal) (φ := .f32) (extf (F := Ideal) .f32 (extractStridedSlice S22016x128 ![0, 1024] a2 slices_S22016x1280_S22016x128_0_1024) bitsLt_bf16_f32) (extf (F := Ideal) .f32 (extractStridedSlice S22016x128 ![0, 1152] a2 slices_S22016x1280_S22016x128_0_1152) bitsLt_bf16_f32)) slices_S22016x128_S22016x16_0_0) (broadcastInDim S22016x16 ![] bcast_S_S22016x16 (id (constant S_ .f32 0x00000000#32 : FVec Ideal S_ .f32)))

/-- Each row through each expert's first layer. -/
def up (a2 : Vec Ideal S22016x1280 .bf16) (a3 : Vec Ideal S2x16x1024x256 .f32) : Vec Ideal S22016x16x256 .f32 :=
  Host.dotGeneral (F := Ideal) (φ₁ := .f32) (φ₂ := .f32) dot_S22016x1024_S16x1024x256_S22016x16x256_1_1_0_02_n_n none (extf (F := Ideal) .f32 (extractStridedSlice S22016x1024 ![0, 0] a2 slices_S22016x1280_S22016x1024_0_0) bitsLt_bf16_f32) (shapeCast _ (extractStridedSlice S1x16x1024x256 ![0, 0, 0, 0] a3 slices_S2x16x1024x256_S1x16x1024x256_0_0_0_0) shapeCasts_S1x16x1024x256_S16x1024x256)

/-- The gated activations. -/
def act (u v : Vec Ideal S22016x16x256 .f32) (g : Vec Ideal S22016x16 .f32) : Vec Ideal S22016x16x256 .f32 :=
  mulf (F := Ideal) (φ := .f32) (mulf (F := Ideal) (φ := .f32) (mulf (F := Ideal) (φ := .f32) u (Host.divf (F := Ideal) (φ := .f32) (broadcastInDim S22016x16x256 ![] bcast_S_S22016x16x256 (constant S_ .f32 0x3F800000#32 : FVec Ideal S_ .f32)) (addf (F := Ideal) (φ := .f32) (broadcastInDim S22016x16x256 ![] bcast_S_S22016x16x256 (constant S_ .f32 0x3F800000#32 : FVec Ideal S_ .f32)) (Host.exp (F := Ideal) (φ := .f32) (Host.negf (F := Ideal) (φ := .f32) u))))) v) (broadcastInDim S22016x16x256 ![0, 1, 2] bcast_S22016x16x1_S22016x16x256_0_1_2 (broadcastInDim S22016x16x1 ![0, 1] bcast_S22016x16_S22016x16x1_0_1 g))

/-- The experts' second layers, summed. -/
def down (y : Vec Ideal S22016x16x256 .f32) (a5 : Vec Ideal S2x16x256x1024 .f32) : Vec Ideal S22016x1024 .f32 :=
  Host.dotGeneral (F := Ideal) (φ₁ := .f32) (φ₂ := .f32) dot_S22016x16x256_S16x256x1024_S22016x1024_12_01_0_2_n_n none y (shapeCast _ (extractStridedSlice S1x16x256x1024 ![0, 0, 0, 0] a5 slices_S2x16x256x1024_S1x16x256x1024_0_0_0_0) shapeCasts_S1x16x256x1024_S16x256x1024)

/-- The reference's result, by its stages. -/
theorem res_eq (m : (ℓ : Loc nD τ sig) → Buf (Elt Ideal) ℓ) (c : Dev nD) :
    res_main_v44 (F := Ideal) m c = down (act (up (m ((c.tc : Thread nD τ).loc main_arg2)) (m ((c.tc : Thread nD τ).loc main_arg3))) (up (m ((c.tc : Thread nD τ).loc main_arg2)) (m ((c.tc : Thread nD τ).loc main_arg4))) (gates (mine (m ((c.tc : Thread nD τ).loc main_arg0)) (m ((c.tc : Thread nD τ).loc main_arg1))) (m ((c.tc : Thread nD τ).loc main_arg2)))) (m ((c.tc : Thread nD τ).loc main_arg5)) := rfl

/-- The first layers at an entry. -/
theorem up_at (a2 : Vec Ideal S22016x1280 .bf16) (a3 : Vec Ideal S2x16x1024x256 .f32) (r : Fin 22016) (e : Fin 16) (f : Fin 256) :
    up a2 a3 (ix3 r e f) = ∑ k : Fin 1024, a2 (ix2 r (⟨k, by omega⟩ : Fin 1280)) * a3 (ix4 (0 : Fin 2) e k f) := by
  pointwise [up]

/-- The second layers at an entry. -/
theorem down_at (y : Vec Ideal S22016x16x256 .f32) (a5 : Vec Ideal S2x16x256x1024 .f32) (r : Fin 22016) (d : Fin 1024) :
    down y a5 (ix2 r d) = ∑ e : Fin 16, ∑ f : Fin 256, y (ix3 r e f) * a5 (ix4 (0 : Fin 2) e f d) := by
  pointwise [down]

/-- The gated activations at an entry. -/
theorem act_at (u v : Vec Ideal S22016x16x256 .f32) (g : Vec Ideal S22016x16 .f32) (r : Fin 22016) (e : Fin 16) (f : Fin 256) :
    act u v g (ix3 r e f) = u (ix3 r e f) * Ideal.div 1 (1 + Ideal.exp (-u (ix3 r e f))) * v (ix3 r e f) * g (ix2 r e) := by
  pointwise [act]

/-- The gates at an entry. -/
theorem gates_at (b : IVec S22016x16 1) (a2 : Vec Ideal S22016x1280 .bf16) (r : Fin 22016) (e : Fin 16) :
    gates b a2 (ix2 r e) = Scalar.select (b (ix2 r e)) (a2 (ix2 r (⟨1024 + e, by omega⟩ : Fin 1280)) + a2 (ix2 r (⟨1152 + e, by omega⟩ : Fin 1280))) 0 := by
  pointwise [gates]
  rw [show (id (constant (F := Ideal) S_ FTy.f32 0#32) ix0 : EReal) = 0 from by simp [constant, Ideal.ofBits, Ideal.ieee, pointwise]]

/-- Rows 512·t to 512·t + 511 are tile t. -/
theorem tileNo_at (t : Fin 43) (s : Fin 512) : tileNo (ix1 (⟨512 * t + s, by omega⟩ : Fin 22016)) = BitVec.ofNat 32 t := by
  pointwise [tileNo]
  exact Rows.floor_div t s

/-- Experts 4·g to 4·g + 3 are group g's. -/
theorem groupNo_at (e : Fin 16) : groupNo (ix2 (0 : Fin 1) e) = BitVec.ofNat 32 (e / 4) := by
  pointwise [groupNo]
  revert e
  decide +kernel

/-- The table's index at a row. -/
theorem tileIx_at (t : Fin 43) (s : Fin 512) : tileIx (ix2 (⟨512 * t + s, by omega⟩ : Fin 22016) (0 : Fin 1)) = BitVec.ofNat 32 t := by
  have h := tileNo_at t s
  unfold tileIx
  generalize tileNo = tn at h ⊢
  pointwise
  rw [h]
  have key : ∀ t : Fin 43, Scalar.select (IntOp.cmpi .slt (BitVec.ofNat 32 t) 0#32) (IntOp.addi (BitVec.ofNat 32 t) 43#32) (BitVec.ofNat 32 t) = BitVec.ofNat 32 t := by decide +kernel
  exact key t

/-- The table read at each row's index. -/
theorem gather_at (t : IVec S43 32) (x : IVec S22016x1 32) (r : Fin 22016) (j : Fin 43) (hj : min (x (ix2 r (0 : Fin 1))).toInt.toNat 42 = j) :
    Host.gather gather_S43_S22016x1_S22016_n_0_n_n_0_1_1 t x (ix1 r) = t (ix1 j) := by
  generalize hd : gather_S43_S22016x1_S22016_n_0_n_n_0_1_1 = d
  unfold Host.gather
  refine congrArg t (funext fun a => Fin.ext ?_)
  show d.start (ix1 r) x a + d.batchCoord (ix1 r) a + d.offCoord (ix1 r) a = _
  subst hd
  match a with
  | ⟨0, _⟩ =>
    rw [GatherDims.batchCoord_eq_zero _ _ _ (by show (0 : Fin 1) ∉ ([] : List (Fin 1)); simp),
      GatherDims.offCoord_eq_zero _ _ _ (fun hm => ((GatherDims.mem_sKept _ _).mp hm).1 (by show (0 : Fin 1) ∈ ([0] : List (Fin 1)); simp))]
    unfold GatherDims.start
    rw [dif_pos (by show (0 : Fin 1) ∈ ([0] : List (Fin 1)); simp)]
    refine Eq.trans ?_ hj
    show min (x _).toInt.toNat _ = min (x _).toInt.toNat 42
    congr 4
    funext b
    refine Fin.ext ?_
    match b with
    | ⟨0, _⟩ => rfl
    | ⟨1, _⟩ => rfl

/-- Whether an expert counts at a row: its group is the tile's, and the tile is active. -/
theorem mine_at (a0 : IVec S43 32) (a1 : IVec S1 32) (t : Fin 43) (s : Fin 512) (e : Fin 16) :
    mine a0 a1 (ix2 (⟨512 * t + s, by omega⟩ : Fin 22016) e)
      = IntOp.andi (IntOp.cmpi .eq (a0 (ix1 t)) (BitVec.ofNat 32 (e / 4))) (IntOp.cmpi .slt (BitVec.ofNat 32 t) (a1 (ix1 (0 : Fin 1)))) := by
  have h1 := tileNo_at t s
  have h2 := tileIx_at t s
  have h3 := groupNo_at e
  unfold mine
  generalize tileNo = tn, tileIx = ti, groupNo = gn at h1 h2 h3 ⊢
  pointwise
  have e : ∀ t : Fin 43, min (BitVec.ofNat 32 t).toInt.toNat 42 = t := by decide +kernel
  rw [h1, h3, gather_at a0 ti _ t (by rw [h2]; exact e t)]

open Cert.Experts in
/-- The reference at an entry of tile t: the sum of the sixteen experts' parts. -/
theorem stages_at (a0 : IVec S43 32) (a1 : IVec S1 32) (a2 : Vec Ideal S22016x1280 .bf16) (a3 a4 : Vec Ideal S2x16x1024x256 .f32) (a5 : Vec Ideal S2x16x256x1024 .f32)
    (t : Fin 43) (s : Fin 512) (d : Fin 1024) :
    down (act (up a2 a3) (up a2 a4) (gates (mine a0 a1) a2)) a5 (ix2 (⟨512 * t + s, by omega⟩ : Fin 22016) d) = ∑ e : Fin 16,
      part (fun k => a2 (ix2 (⟨512 * t + s, by omega⟩ : Fin 22016) (⟨k, by omega⟩ : Fin 1280)))
        (fun k f => a3 (ix4 (0 : Fin 2) e k f)) (fun k f => a4 (ix4 (0 : Fin 2) e k f))
        (Scalar.select (IntOp.andi (IntOp.cmpi .eq (a0 (ix1 t)) (BitVec.ofNat 32 (e / 4))) (IntOp.cmpi .slt (BitVec.ofNat 32 t) (a1 (ix1 (0 : Fin 1)))))
          (a2 (ix2 (⟨512 * t + s, by omega⟩ : Fin 22016) (⟨1024 + e, by omega⟩ : Fin 1280)) + a2 (ix2 (⟨512 * t + s, by omega⟩ : Fin 22016) (⟨1152 + e, by omega⟩ : Fin 1280))) 0)
        (fun f => a5 (ix4 (0 : Fin 2) e f d)) := by
  rw [down_at]
  refine Finset.sum_congr rfl fun e _ => ?_
  unfold part
  refine Finset.sum_congr rfl fun f _ => ?_
  rw [act_at, up_at, up_at, gates_at, mine_at]

open Cert.Experts in
/-- The same, with the table's word known: the four experts of the tile's group, or nothing when the tile is not active. -/
theorem group_at (a0 : IVec S43 32) (a1 : IVec S1 32) (a2 : Vec Ideal S22016x1280 .bf16) (a3 a4 : Vec Ideal S2x16x1024x256 .f32) (a5 : Vec Ideal S2x16x256x1024 .f32)
    (t : Fin 43) (s : Fin 512) (d : Fin 1024) (n : Fin 4) (hn : a0 (ix1 t) = BitVec.ofNat 32 n) :
    down (act (up a2 a3) (up a2 a4) (gates (mine a0 a1) a2)) a5 (ix2 (⟨512 * t + s, by omega⟩ : Fin 22016) d) =
      if IntOp.cmpi .slt (BitVec.ofNat 32 t) (a1 (ix1 (0 : Fin 1))) = 1#1 then
        part (fun k => a2 (ix2 (⟨512 * t + s, by omega⟩ : Fin 22016) (⟨k, by omega⟩ : Fin 1280))) (fun k f => a3 (ix4 (0 : Fin 2) (⟨4 * n + 0, by omega⟩ : Fin 16) k f)) (fun k f => a4 (ix4 (0 : Fin 2) (⟨4 * n + 0, by omega⟩ : Fin 16) k f))
          (a2 (ix2 (⟨512 * t + s, by omega⟩ : Fin 22016) (⟨1024 + (4 * n + 0), by omega⟩ : Fin 1280)) + a2 (ix2 (⟨512 * t + s, by omega⟩ : Fin 22016) (⟨1152 + (4 * n + 0), by omega⟩ : Fin 1280)))
          (fun f => a5 (ix4 (0 : Fin 2) (⟨4 * n + 0, by omega⟩ : Fin 16) f d))
        + part (fun k => a2 (ix2 (⟨512 * t + s, by omega⟩ : Fin 22016) (⟨k, by omega⟩ : Fin 1280))) (fun k f => a3 (ix4 (0 : Fin 2) (⟨4 * n + 1, by omega⟩ : Fin 16) k f)) (fun k f => a4 (ix4 (0 : Fin 2) (⟨4 * n + 1, by omega⟩ : Fin 16) k f))
          (a2 (ix2 (⟨512 * t + s, by omega⟩ : Fin 22016) (⟨1024 + (4 * n + 1), by omega⟩ : Fin 1280)) + a2 (ix2 (⟨512 * t + s, by omega⟩ : Fin 22016) (⟨1152 + (4 * n + 1), by omega⟩ : Fin 1280)))
          (fun f => a5 (ix4 (0 : Fin 2) (⟨4 * n + 1, by omega⟩ : Fin 16) f d))
        + part (fun k => a2 (ix2 (⟨512 * t + s, by omega⟩ : Fin 22016) (⟨k, by omega⟩ : Fin 1280))) (fun k f => a3 (ix4 (0 : Fin 2) (⟨4 * n + 2, by omega⟩ : Fin 16) k f)) (fun k f => a4 (ix4 (0 : Fin 2) (⟨4 * n + 2, by omega⟩ : Fin 16) k f))
          (a2 (ix2 (⟨512 * t + s, by omega⟩ : Fin 22016) (⟨1024 + (4 * n + 2), by omega⟩ : Fin 1280)) + a2 (ix2 (⟨512 * t + s, by omega⟩ : Fin 22016) (⟨1152 + (4 * n + 2), by omega⟩ : Fin 1280)))
          (fun f => a5 (ix4 (0 : Fin 2) (⟨4 * n + 2, by omega⟩ : Fin 16) f d))
        + part (fun k => a2 (ix2 (⟨512 * t + s, by omega⟩ : Fin 22016) (⟨k, by omega⟩ : Fin 1280))) (fun k f => a3 (ix4 (0 : Fin 2) (⟨4 * n + 3, by omega⟩ : Fin 16) k f)) (fun k f => a4 (ix4 (0 : Fin 2) (⟨4 * n + 3, by omega⟩ : Fin 16) k f))
          (a2 (ix2 (⟨512 * t + s, by omega⟩ : Fin 22016) (⟨1024 + (4 * n + 3), by omega⟩ : Fin 1280)) + a2 (ix2 (⟨512 * t + s, by omega⟩ : Fin 22016) (⟨1152 + (4 * n + 3), by omega⟩ : Fin 1280)))
          (fun f => a5 (ix4 (0 : Fin 2) (⟨4 * n + 3, by omega⟩ : Fin 16) f d))
      else 0 := by
  rw [stages_at, hn]
  have hg : ∀ (n : Fin 4) (e : Fin 16), IntOp.cmpi .eq (BitVec.ofNat 32 n) (BitVec.ofNat 32 (e / 4)) = if (e : ℕ) / 4 = n then 1#1 else 0#1 := by decide +kernel
  simp only [hg]
  split
  · rename_i ha
    rw [ha]
    refine (sum_group _ n fun e he => ?_).trans ?_
    · rw [if_neg he]
      exact part_zero _ _ _ _
    · have e0 : (4 * (n : ℕ) + 0) / 4 = n := by omega
      have e1 : (4 * (n : ℕ) + 1) / 4 = n := by omega
      have e2 : (4 * (n : ℕ) + 2) / 4 = n := by omega
      have e3 : (4 * (n : ℕ) + 3) / 4 = n := by omega
      simp only [e0, e1, e2, e3, if_true]
      rfl
  · rename_i ha
    refine Finset.sum_eq_zero fun e _ => ?_
    have hb : ∀ b : BitVec 1, ¬b = 1#1 → b = 0#1 := by decide
    rw [hb _ ha]
    have h0 : ∀ b : BitVec 1, IntOp.andi b 0#1 = 0#1 := by decide
    rw [h0]
    exact part_zero _ _ _ _

end Cert.Reference2Ideal.Experts

end
-- ==== Proof.MoeClaim.lean ====
module

public import proofs.«01_k».proof.Defs
public import proofs.«01_k».proof.Proof.Gen.Pre_in_range
public import proofs.«01_k».proof.Proof.Gen.Reference2Ideal.Run
public import proofs.«01_k».proof.Proof.MoeRun
public import proofs.«01_k».proof.Proof.MoeValue
public import proofs.«01_k».proof.Proof.MoeRef

/-!
  The experts over the routed rows: what the precondition `in_range` gives, and from it the frames of the kernel and the
  equality of the kernel's array with the reference's.
-/

@[expose] public section

set_option maxRecDepth 16384

noncomputable section

namespace Cert.MoeClaim

open Idealize.ShloMosaic Idealize.ShloMosaic.TcCoe Idealize.SL.Sem
open Cert.Kernel2Ideal (S43 S1 S22016x1280 S22016x1024 S2x16x1024x256 S2x16x256x1024)
open Cert.Reference2Ideal.Experts (down act up gates mine group_at res_eq)

/-- A word between 0 and 4, read with its sign, is below 4 read without. -/
theorem toNat_lt (x : BitVec 32) (h0 : (0#32).toInt ≤ x.toInt) (h4 : x.toInt < (4#32).toInt) : x.toNat < 4 := by
  have e0 : (0#32).toInt = 0 := by decide
  have e4 : (4#32).toInt = 4 := by decide
  rw [e0] at h0
  rw [e4] at h4
  rw [BitVec.toInt_eq_toNat_cond] at h0 h4
  have := x.isLt
  split at h0 <;> omega

/-- The precondition at every tile: its group is one of the four. -/
theorem groups {F : FTy → Type} [FloatOps F] (a0 : IVec S43 32) (a1 : IVec S1 32) (a2 : FVec F S22016x1280 .bf16) (a3 a4 : FVec F S2x16x1024x256 .f32) (a5 : FVec F S2x16x256x1024 .f32)
    (h : Pre_in_range.fn (F := F) a0 a1 a2 a3 a4 a5 = fun _ => 1#1) (x : S43.Idx) : (a0 x).toNat < 4 := by
  have h0 := congrFun h x
  dsimp only [Pre_in_range.fn] at h0
  obtain ⟨hl, hr⟩ := IntOp.andi_eq_one.1 h0
  exact toNat_lt _ (IntOp.cmpi_sge.1 hl) (IntOp.cmpi_slt.1 hr)

/-- The kernel's frame. -/
theorem frame_kernel : quiescent_Kernel2 := fun m ρ hpre =>
  Kernel2.Moe.frame (m ((0 : Dev Kernel2.nD).tc.loc Kernel2.main_arg0)) (m ((0 : Dev Kernel2.nD).tc.loc Kernel2.main_arg1))
    (groups _ _ _ _ _ _ (hpre 0)) m ρ ⟨fun c => by rw [Subsingleton.elim c 0], fun c => by rw [Subsingleton.elim c 0]⟩

/-- The idealized kernel's frame. -/
theorem frame_kernel_ideal : quiescent_Kernel2Ideal := fun m ρ hpre =>
  Kernel2Ideal.Moe.frame (m ((0 : Dev Kernel2Ideal.nD).tc.loc Kernel2Ideal.main_arg0)) (m ((0 : Dev Kernel2Ideal.nD).tc.loc Kernel2Ideal.main_arg1))
    (groups _ _ _ _ _ _ (hpre 0)) m ρ ⟨fun c => by rw [Subsingleton.elim c 0], fun c => by rw [Subsingleton.elim c 0]⟩

/-- The experts' sum over the routed rows, as the reference writes it. -/
def experts (a0 : IVec S43 32) (a1 : IVec S1 32) (a2 : Vec Ideal S22016x1280 .bf16) (a3 a4 : Vec Ideal S2x16x1024x256 .f32) (a5 : Vec Ideal S2x16x256x1024 .f32) : Vec Ideal S22016x1024 .f32 :=
  down (act (up a2 a3) (up a2 a4) (gates (mine a0 a1) a2)) a5

/-- The array the kernel leaves is the experts' sum. -/
theorem kernel_eq (T0 : IVec S43 32) (T1 : IVec S1 32) (hT : ∀ x, (T0 x).toNat < 4) (m : (ℓ : Loc Kernel2Ideal.nD Kernel2Ideal.τ Kernel2Ideal.sig) → Buf (Elt Ideal) ℓ) (ρ : Dev Kernel2Ideal.nD → PrngReg) (c : Dev Kernel2Ideal.nD) :
    (Kernel2Ideal.Moe.dats T0 T1 hT m ρ 0 c).arrAt (4 : Fin 5) (Kernel2Ideal.Moe.cfgA T0 T1 hT).N
      = experts T0 T1 (m (c.tc.loc Kernel2Ideal.main_arg2)) (m (c.tc.loc Kernel2Ideal.main_arg3)) (m (c.tc.loc Kernel2Ideal.main_arg4)) (m (c.tc.loc Kernel2Ideal.main_arg5)) := by
  refine Kernel2Ideal.Moe.final T0 T1 hT m ρ c _ fun t s d => ?_
  have ht := Kernel2Ideal.Moe.lt43 T0 T1 hT t
  have hn : T0 (ix1 (⟨t, ht⟩ : Fin 43)) = BitVec.ofNat 32 (⟨(T0 (ix1 (⟨t, ht⟩ : Fin 43))).toNat, hT _⟩ : Fin 4) := by simp
  rw [Kernel2Ideal.Moe.after4_at T0 T1 hT m ρ c t s d _ hn _ _ _ _ rfl rfl rfl rfl]
  exact (group_at T0 T1 _ _ _ _ (⟨t, ht⟩ : Fin 43) s d _ hn).symm

/-- The value claim. -/
theorem algebraic : algebraic_Kernel2Ideal_Reference2Ideal := fun m ρ m' ρ' hpre hag =>
  have hT := groups _ _ _ _ _ _ (hpre 0)
  have hp : Kernel2Ideal.Moe.Pinned (m ((0 : Dev Kernel2Ideal.nD).tc.loc Kernel2Ideal.main_arg0)) (m ((0 : Dev Kernel2Ideal.nD).tc.loc Kernel2Ideal.main_arg1)) m :=
    ⟨fun c => by rw [Subsingleton.elim c 0], fun c => by rw [Subsingleton.elim c 0]⟩
  ⟨fun c => experts (m ((0 : Dev Kernel2Ideal.nD).tc.loc Kernel2Ideal.main_arg0)) (m ((0 : Dev Kernel2Ideal.nD).tc.loc Kernel2Ideal.main_arg1))
      (m (c.tc.loc Kernel2Ideal.main_arg2)) (m (c.tc.loc Kernel2Ideal.main_arg3)) (m (c.tc.loc Kernel2Ideal.main_arg4)) (m (c.tc.loc Kernel2Ideal.main_arg5)),
    (θ_run _ _ _).mono (fun _ h c => ⟨((h.1 c).1 (4 : Fin 5)).trans (kernel_eq _ _ hT m ρ c), h.2 c⟩)
      (θ_run_and (Kernel2Ideal.Moe.run_main _ _ hT m ρ hp) (Kernel2Ideal.Moe.unchanged _ _ hT m ρ hp)),
    (θ_run _ _ _).mono (fun _ h c => ⟨(h c).1.trans (by
        obtain ⟨h0, h1, h2, h3, h4, h5⟩ := hag c
        rw [res_eq, h0, h1, h2, h3, h4, h5, Subsingleton.elim c 0]
        rfl), (h c).2⟩)
      (Reference2Ideal.Value.run m' ρ')⟩

/-- The reference runs, leaves its arguments as they were, and declares no semaphore. -/
theorem frame_reference : quiescent_Reference2Ideal := fun m ρ _ =>
  (θ_run Reference2Ideal.defs _ _).mono (fun r h => ⟨fun c => (h c).2, sem_eq_zero_of_no_sems (by decide) r.2⟩)
    (Reference2Ideal.Value.run m ρ)

end Cert.MoeClaim

end
-- ==== Proof.OutBody.lean ====
module

public import proofs.«01_k».proof.Proof.Gen.Kernel3
public import proofs.«01_k».proof.Proof.Gen.Kernel3.Skeleton
public import proofs.«01_k».proof.Proof.Gen.Kernel3.Launch
public import Idealize.ShloMosaic.Lib.Claim
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Lib.Pipeline.Kit
public import Idealize.ShloMosaic.Lib.Pipeline.FrameBody
public import Idealize.ShloMosaic.PureOps.BitExact
public import Idealize.ShloMosaic.Adequacy
public import Idealize.ShloMosaic.Init

/-!
  The body of the output projection at one tile: what it leaves in the three output tiles and in the scratch buffer. At the first
  tile the scratch buffer is filled with the rounded weights; at the others it is only read.
-/

@[expose] public section

set_option maxRecDepth 16384
set_option Elab.async false

noncomputable section

namespace Cert.Kernel3.Out

open Cert.Kernel3 Cert.Kernel3.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource algebra of the program logic. -/
abbrev 𝕄 := MT nD τ sig Unit (Elt Bits) ℕ (UR sig nD τ) ℕ

/-- The scratch buffer, whole. -/
abbrev scM : Memref sig .tc .vmem S1024x1024 .bf16 := Memref.whole cc0_scratch0

/-- The decision to fill the scratch buffer: the first tile. -/
abbrev First (i : grid0.Coords) : Prop :=
  Scalar.cmpi .ne (Scalar.extui (Scalar.cmpi .eq (BitVec.ofNat 32 (i 0).val) 0#32) : BitVec 32) 0#32 = 1#1

/-- One buffer of each output tile, through which its contents are stated. -/
abbrev VO9 : View sig .tc .vmem S512x1024 .f32 := (Memref.whole cc0_stg9_0 : Memref sig .tc .vmem S512x1024 .f32).view
/-- One buffer of the second output tile. -/
abbrev VO10 : View sig .tc .vmem S512x1024 .bf16 := (Memref.whole cc0_stg10_0 : Memref sig .tc .vmem S512x1024 .bf16).view
/-- One buffer of the third output tile. -/
abbrev VO11 : View sig .tc .vmem S512x128 .f32 := (Memref.whole cc0_stg11_0 : Memref sig .tc .vmem S512x128 .f32).view

set_option backward.proofsInPublic true in
set_option maxHeartbeats 16000000 in
/-- The first tile: the stores into the output tiles and the scratch buffer's contents, with the run that leaves them. -/
noncomputable def runF (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S1x1024x1024 .f32) (harg5 : arg5.IsWhole) (arg6 : Memref sig .tc .vmem S1x1024 .f32) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1x128 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x128 .f32) (harg12 : arg12.IsWhole)
    (x0 : S512x1024.Idx → Elt Bits .f32) (x1 : S512x512.Idx → Elt Bits .bf16) (x2 : S512x256.Idx → Elt Bits .bf16) (x3 : S512x256.Idx → Elt Bits .bf16) (x4 : S1x1024x1024.Idx → Elt Bits .f32) (x5 : S1x1024.Idx → Elt Bits .f32) (x6 : S1024x128.Idx → Elt Bits .bf16) (x7 : S1024x128.Idx → Elt Bits .bf16) (x8 : S1x128.Idx → Elt Bits .f32) (hc : First i) :
    Σ' (out9 : List (View.Piece (Elt Bits) S512x1024 .f32)) (out10 : List (View.Piece (Elt Bits) S512x1024 .bf16)) (out11 : List (View.Piece (Elt Bits) S512x128 .f32)), { outS : Buf (Elt Bits) ((c : Thread nD τ).loc cc0_scratch0) //
      ∀ (xa : Buf (Elt Bits) ((c : Thread nD τ).loc cc0_scratch0)) (K : PUnit → sProp 𝕄),
        iprop((arg1.view.loc (c : Thread nD τ) ↦[arg1.view.set]{fullShare} arg1.view.rep x0)
          ∗ (arg2.view.loc (c : Thread nD τ) ↦[arg2.view.set]{fullShare} arg2.view.rep x1)
          ∗ (arg3.view.loc (c : Thread nD τ) ↦[arg3.view.set]{fullShare} arg3.view.rep x2)
          ∗ (arg4.view.loc (c : Thread nD τ) ↦[arg4.view.set]{fullShare} arg4.view.rep x3)
          ∗ (arg5.view.loc (c : Thread nD τ) ↦[arg5.view.set]{fullShare} arg5.view.rep x4)
          ∗ (arg6.view.loc (c : Thread nD τ) ↦[arg6.view.set]{fullShare} arg6.view.rep x5)
          ∗ (arg7.view.loc (c : Thread nD τ) ↦[arg7.view.set]{fullShare} arg7.view.rep x6)
          ∗ (arg8.view.loc (c : Thread nD τ) ↦[arg8.view.set]{fullShare} arg8.view.rep x7)
          ∗ (arg9.view.loc (c : Thread nD τ) ↦[arg9.view.set]{fullShare} arg9.view.rep x8)
          ∗ (∃ d, owns (c : Thread nD τ) arg10 fullShare d)
          ∗ (∃ d, owns (c : Thread nD τ) arg11 fullShare d)
          ∗ (∃ d, owns (c : Thread nD τ) arg12 fullShare d)
          ∗ (scM.view.loc (c : Thread nD τ) ↦{fullShare} xa)
          ∗ (iprop((arg1.view.loc (c : Thread nD τ) ↦[arg1.view.set]{fullShare} arg1.view.rep x0)
          ∗ (arg2.view.loc (c : Thread nD τ) ↦[arg2.view.set]{fullShare} arg2.view.rep x1)
          ∗ (arg3.view.loc (c : Thread nD τ) ↦[arg3.view.set]{fullShare} arg3.view.rep x2)
          ∗ (arg4.view.loc (c : Thread nD τ) ↦[arg4.view.set]{fullShare} arg4.view.rep x3)
          ∗ (arg5.view.loc (c : Thread nD τ) ↦[arg5.view.set]{fullShare} arg5.view.rep x4)
          ∗ (arg6.view.loc (c : Thread nD τ) ↦[arg6.view.set]{fullShare} arg6.view.rep x5)
          ∗ (arg7.view.loc (c : Thread nD τ) ↦[arg7.view.set]{fullShare} arg7.view.rep x6)
          ∗ (arg8.view.loc (c : Thread nD τ) ↦[arg8.view.set]{fullShare} arg8.view.rep x7)
          ∗ (arg9.view.loc (c : Thread nD τ) ↦[arg9.view.set]{fullShare} arg9.view.rep x8)
          ∗ (∃ f, arg10.view.loc (c : Thread nD τ) ↦[arg10.view.set]{fullShare} arg10.view.writes (Elt Bits) f out9)
          ∗ (∃ f, arg11.view.loc (c : Thread nD τ) ↦[arg11.view.set]{fullShare} arg11.view.writes (Elt Bits) f out10)
          ∗ (∃ f, arg12.view.loc (c : Thread nD τ) ↦[arg12.view.set]{fullShare} arg12.view.writes (Elt Bits) f out11)
          ∗ (scM.view.loc (c : Thread nD τ) ↦{fullShare} outS)) -∗ K ⟨⟩))
          ⊢ wp frame (wpE (defs₀ (F := Bits)) Variants.none c none) Set.univ (cc0__out_proj_kernel i arg1 harg1 arg2 harg2 arg3 harg3 arg4 harg4 arg5 harg5 arg6 harg6 arg7 harg7 arg8 harg8 arg9 harg9 arg10 harg10 arg11 harg11 arg12 harg12 scM (Memref.isWhole_whole _)) K } :=
  ⟨_, _, _, _, fun (xa : Buf (Elt Bits) ((c : Thread nD τ).loc cc0_scratch0)) (K : PUnit → sProp 𝕄) => by
    unfold owns
    rw [cc0__out_proj_kernel_eq_skeleton]; unfold cc0__out_proj_kernel_skel
    iintro ⟨H0, H1, H2, H3, H4, H5, H6, H7, H8, ⟨%d9, %f9, -, HO9⟩, ⟨%d10, %f10, -, HO10⟩, ⟨%d11, %f11, -, HO11⟩, HS, Hk⟩
    have hS : scM.IsWhole := Memref.isWhole_whole _
    sl_exec! (disch := exact hc)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HO9]; · iexists _; iexact HO9
    isplitl [HO10]; · iexists _; iexact HO10
    isplitl [HO11]; · iexists _; iexact HO11
    iexact HS⟩

set_option backward.proofsInPublic true in
set_option maxHeartbeats 16000000 in
/-- A later tile: the stores into the output tiles and the scratch buffer's contents, with the run that leaves them. -/
noncomputable def runN (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S1x1024x1024 .f32) (harg5 : arg5.IsWhole) (arg6 : Memref sig .tc .vmem S1x1024 .f32) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1x128 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x128 .f32) (harg12 : arg12.IsWhole)
    (x0 : S512x1024.Idx → Elt Bits .f32) (x1 : S512x512.Idx → Elt Bits .bf16) (x2 : S512x256.Idx → Elt Bits .bf16) (x3 : S512x256.Idx → Elt Bits .bf16) (x4 : S1x1024x1024.Idx → Elt Bits .f32) (x5 : S1x1024.Idx → Elt Bits .f32) (x6 : S1024x128.Idx → Elt Bits .bf16) (x7 : S1024x128.Idx → Elt Bits .bf16) (x8 : S1x128.Idx → Elt Bits .f32) (xa : Buf (Elt Bits) ((c : Thread nD τ).loc cc0_scratch0)) (hc : ¬First i) :
    Σ' (out9 : List (View.Piece (Elt Bits) S512x1024 .f32)) (out10 : List (View.Piece (Elt Bits) S512x1024 .bf16)) (out11 : List (View.Piece (Elt Bits) S512x128 .f32)), { outS : Buf (Elt Bits) ((c : Thread nD τ).loc cc0_scratch0) //
      ∀ (K : PUnit → sProp 𝕄),
        iprop((arg1.view.loc (c : Thread nD τ) ↦[arg1.view.set]{fullShare} arg1.view.rep x0)
          ∗ (arg2.view.loc (c : Thread nD τ) ↦[arg2.view.set]{fullShare} arg2.view.rep x1)
          ∗ (arg3.view.loc (c : Thread nD τ) ↦[arg3.view.set]{fullShare} arg3.view.rep x2)
          ∗ (arg4.view.loc (c : Thread nD τ) ↦[arg4.view.set]{fullShare} arg4.view.rep x3)
          ∗ (arg5.view.loc (c : Thread nD τ) ↦[arg5.view.set]{fullShare} arg5.view.rep x4)
          ∗ (arg6.view.loc (c : Thread nD τ) ↦[arg6.view.set]{fullShare} arg6.view.rep x5)
          ∗ (arg7.view.loc (c : Thread nD τ) ↦[arg7.view.set]{fullShare} arg7.view.rep x6)
          ∗ (arg8.view.loc (c : Thread nD τ) ↦[arg8.view.set]{fullShare} arg8.view.rep x7)
          ∗ (arg9.view.loc (c : Thread nD τ) ↦[arg9.view.set]{fullShare} arg9.view.rep x8)
          ∗ (∃ d, owns (c : Thread nD τ) arg10 fullShare d)
          ∗ (∃ d, owns (c : Thread nD τ) arg11 fullShare d)
          ∗ (∃ d, owns (c : Thread nD τ) arg12 fullShare d)
          ∗ (scM.view.loc (c : Thread nD τ) ↦{fullShare} xa)
          ∗ (iprop((arg1.view.loc (c : Thread nD τ) ↦[arg1.view.set]{fullShare} arg1.view.rep x0)
          ∗ (arg2.view.loc (c : Thread nD τ) ↦[arg2.view.set]{fullShare} arg2.view.rep x1)
          ∗ (arg3.view.loc (c : Thread nD τ) ↦[arg3.view.set]{fullShare} arg3.view.rep x2)
          ∗ (arg4.view.loc (c : Thread nD τ) ↦[arg4.view.set]{fullShare} arg4.view.rep x3)
          ∗ (arg5.view.loc (c : Thread nD τ) ↦[arg5.view.set]{fullShare} arg5.view.rep x4)
          ∗ (arg6.view.loc (c : Thread nD τ) ↦[arg6.view.set]{fullShare} arg6.view.rep x5)
          ∗ (arg7.view.loc (c : Thread nD τ) ↦[arg7.view.set]{fullShare} arg7.view.rep x6)
          ∗ (arg8.view.loc (c : Thread nD τ) ↦[arg8.view.set]{fullShare} arg8.view.rep x7)
          ∗ (arg9.view.loc (c : Thread nD τ) ↦[arg9.view.set]{fullShare} arg9.view.rep x8)
          ∗ (∃ f, arg10.view.loc (c : Thread nD τ) ↦[arg10.view.set]{fullShare} arg10.view.writes (Elt Bits) f out9)
          ∗ (∃ f, arg11.view.loc (c : Thread nD τ) ↦[arg11.view.set]{fullShare} arg11.view.writes (Elt Bits) f out10)
          ∗ (∃ f, arg12.view.loc (c : Thread nD τ) ↦[arg12.view.set]{fullShare} arg12.view.writes (Elt Bits) f out11)
          ∗ (scM.view.loc (c : Thread nD τ) ↦{fullShare} outS)) -∗ K ⟨⟩))
          ⊢ wp frame (wpE (defs₀ (F := Bits)) Variants.none c none) Set.univ (cc0__out_proj_kernel i arg1 harg1 arg2 harg2 arg3 harg3 arg4 harg4 arg5 harg5 arg6 harg6 arg7 harg7 arg8 harg8 arg9 harg9 arg10 harg10 arg11 harg11 arg12 harg12 scM (Memref.isWhole_whole _)) K } :=
  ⟨_, _, _, _, fun (K : PUnit → sProp 𝕄) => by
    unfold owns
    rw [cc0__out_proj_kernel_eq_skeleton]; unfold cc0__out_proj_kernel_skel
    iintro ⟨H0, H1, H2, H3, H4, H5, H6, H7, H8, ⟨%d9, %f9, -, HO9⟩, ⟨%d10, %f10, -, HO10⟩, ⟨%d11, %f11, -, HO11⟩, HS, Hk⟩
    have hS : scM.IsWhole := Memref.isWhole_whole _
    sl_exec! (disch := exact hc)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HO9]; · iexists _; iexact HO9
    isplitl [HO10]; · iexists _; iexact HO10
    isplitl [HO11]; · iexists _; iexact HO11
    iexact HS⟩

/-- The stores of `runF` cover output tile 9. -/
theorem coverrunF9 (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S1x1024x1024 .f32) (harg5 : arg5.IsWhole) (arg6 : Memref sig .tc .vmem S1x1024 .f32) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1x128 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x128 .f32) (harg12 : arg12.IsWhole)
    (x0 : S512x1024.Idx → Elt Bits .f32) (x1 : S512x512.Idx → Elt Bits .bf16) (x2 : S512x256.Idx → Elt Bits .bf16) (x3 : S512x256.Idx → Elt Bits .bf16) (x4 : S1x1024x1024.Idx → Elt Bits .f32) (x5 : S1x1024.Idx → Elt Bits .f32) (x6 : S1024x128.Idx → Elt Bits .bf16) (x7 : S1024x128.Idx → Elt Bits .bf16) (x8 : S1x128.Idx → Elt Bits .f32) (hc : First i) (y : S512x1024.Idx) :
    ∃ pc ∈ (runF c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 hc).1, y ∈ pc.1.set :=
  View.cover_of_tiledL (runF c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 hc).1 S256x1024.size (by sl_kernel_rfl) y

/-- The stores of `runF` cover output tile 10. -/
theorem coverrunF10 (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S1x1024x1024 .f32) (harg5 : arg5.IsWhole) (arg6 : Memref sig .tc .vmem S1x1024 .f32) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1x128 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x128 .f32) (harg12 : arg12.IsWhole)
    (x0 : S512x1024.Idx → Elt Bits .f32) (x1 : S512x512.Idx → Elt Bits .bf16) (x2 : S512x256.Idx → Elt Bits .bf16) (x3 : S512x256.Idx → Elt Bits .bf16) (x4 : S1x1024x1024.Idx → Elt Bits .f32) (x5 : S1x1024.Idx → Elt Bits .f32) (x6 : S1024x128.Idx → Elt Bits .bf16) (x7 : S1024x128.Idx → Elt Bits .bf16) (x8 : S1x128.Idx → Elt Bits .f32) (hc : First i) (y : S512x1024.Idx) :
    ∃ pc ∈ (runF c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 hc).2.1, y ∈ pc.1.set :=
  View.cover_of_tiledL (runF c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 hc).2.1 S256x1024.size (by sl_kernel_rfl) y

/-- The stores of `runF` cover output tile 11. -/
theorem coverrunF11 (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S1x1024x1024 .f32) (harg5 : arg5.IsWhole) (arg6 : Memref sig .tc .vmem S1x1024 .f32) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1x128 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x128 .f32) (harg12 : arg12.IsWhole)
    (x0 : S512x1024.Idx → Elt Bits .f32) (x1 : S512x512.Idx → Elt Bits .bf16) (x2 : S512x256.Idx → Elt Bits .bf16) (x3 : S512x256.Idx → Elt Bits .bf16) (x4 : S1x1024x1024.Idx → Elt Bits .f32) (x5 : S1x1024.Idx → Elt Bits .f32) (x6 : S1024x128.Idx → Elt Bits .bf16) (x7 : S1024x128.Idx → Elt Bits .bf16) (x8 : S1x128.Idx → Elt Bits .f32) (hc : First i) (y : S512x128.Idx) :
    ∃ pc ∈ (runF c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 hc).2.2.1, y ∈ pc.1.set :=
  View.cover_of_tiledL (runF c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 hc).2.2.1 S256x128.size (by sl_kernel_rfl) y

/-- The stores of `runN` cover output tile 9. -/
theorem coverrunN9 (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S1x1024x1024 .f32) (harg5 : arg5.IsWhole) (arg6 : Memref sig .tc .vmem S1x1024 .f32) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1x128 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x128 .f32) (harg12 : arg12.IsWhole)
    (x0 : S512x1024.Idx → Elt Bits .f32) (x1 : S512x512.Idx → Elt Bits .bf16) (x2 : S512x256.Idx → Elt Bits .bf16) (x3 : S512x256.Idx → Elt Bits .bf16) (x4 : S1x1024x1024.Idx → Elt Bits .f32) (x5 : S1x1024.Idx → Elt Bits .f32) (x6 : S1024x128.Idx → Elt Bits .bf16) (x7 : S1024x128.Idx → Elt Bits .bf16) (x8 : S1x128.Idx → Elt Bits .f32) (xa : Buf (Elt Bits) ((c : Thread nD τ).loc cc0_scratch0)) (hc : ¬First i) (y : S512x1024.Idx) :
    ∃ pc ∈ (runN c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 xa hc).1, y ∈ pc.1.set :=
  View.cover_of_tiledL (runN c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 xa hc).1 S256x1024.size (by sl_kernel_rfl) y

/-- The stores of `runN` cover output tile 10. -/
theorem coverrunN10 (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S1x1024x1024 .f32) (harg5 : arg5.IsWhole) (arg6 : Memref sig .tc .vmem S1x1024 .f32) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1x128 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x128 .f32) (harg12 : arg12.IsWhole)
    (x0 : S512x1024.Idx → Elt Bits .f32) (x1 : S512x512.Idx → Elt Bits .bf16) (x2 : S512x256.Idx → Elt Bits .bf16) (x3 : S512x256.Idx → Elt Bits .bf16) (x4 : S1x1024x1024.Idx → Elt Bits .f32) (x5 : S1x1024.Idx → Elt Bits .f32) (x6 : S1024x128.Idx → Elt Bits .bf16) (x7 : S1024x128.Idx → Elt Bits .bf16) (x8 : S1x128.Idx → Elt Bits .f32) (xa : Buf (Elt Bits) ((c : Thread nD τ).loc cc0_scratch0)) (hc : ¬First i) (y : S512x1024.Idx) :
    ∃ pc ∈ (runN c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 xa hc).2.1, y ∈ pc.1.set :=
  View.cover_of_tiledL (runN c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 xa hc).2.1 S256x1024.size (by sl_kernel_rfl) y

/-- The stores of `runN` cover output tile 11. -/
theorem coverrunN11 (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S1x1024x1024 .f32) (harg5 : arg5.IsWhole) (arg6 : Memref sig .tc .vmem S1x1024 .f32) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1x128 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x128 .f32) (harg12 : arg12.IsWhole)
    (x0 : S512x1024.Idx → Elt Bits .f32) (x1 : S512x512.Idx → Elt Bits .bf16) (x2 : S512x256.Idx → Elt Bits .bf16) (x3 : S512x256.Idx → Elt Bits .bf16) (x4 : S1x1024x1024.Idx → Elt Bits .f32) (x5 : S1x1024.Idx → Elt Bits .f32) (x6 : S1024x128.Idx → Elt Bits .bf16) (x7 : S1024x128.Idx → Elt Bits .bf16) (x8 : S1x128.Idx → Elt Bits .f32) (xa : Buf (Elt Bits) ((c : Thread nD τ).loc cc0_scratch0)) (hc : ¬First i) (y : S512x128.Idx) :
    ∃ pc ∈ (runN c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 xa hc).2.2.1, y ∈ pc.1.set :=
  View.cover_of_tiledL (runN c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 xa hc).2.2.1 S256x128.size (by sl_kernel_rfl) y

end Cert.Kernel3.Out

end
-- ==== Proof.OutRun.lean ====
module

public import proofs.«01_k».proof.Proof.OutBody
public import Idealize.ShloMosaic.Lib.Pipeline.Frame
public import Idealize.ShloMosaic.Lib.Pipeline.TableIdle
public import Idealize.ShloMosaic.Lib.Pipeline.ValueKit

/-!
  The run of the output projection: every tile of the outputs ends at what the body's stores leave in it, the scratch buffer holds the
  rounded weights from the first tile on, and the arguments end unchanged.
-/

@[expose] public section

set_option maxRecDepth 16384
set_option Elab.async false

noncomputable section

namespace Cert.Kernel3.Out

open Cert.Kernel3 Cert.Kernel3.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Bits) ℓ) (ρ : Dev nD → PrngReg)

/-- The buffers at launch. -/
abbrev V (c : Dev nD) (b : Ref sig .tc) : Buf (Elt Bits) ((c : Thread nD τ).loc b) := m ((c.tc : Thread nD τ).loc b)
/-- A tile's place in the grid. -/
abbrev crd (t : Fin cfg0.N) : grid0.Coords := grid0.coords t
/-- Window 0's staging buffer at a tile. -/
abbrev ms0_0 (t : Fin cfg0.N) : Memref sig .tc .vmem S512x1024 .f32 := win0_0.stage (cfg0.slots t 0)
/-- Window 0's staging buffer is a whole buffer. -/
abbrev hs0_0 (t : Fin cfg0.N) : (ms0_0 t).IsWhole := hstage0_0 ((cfg0.slots t 0).cast nbuf0_0)
/-- Window 1's staging buffer at a tile. -/
abbrev ms0_1 (t : Fin cfg0.N) : Memref sig .tc .vmem S512x512 .bf16 := win0_1.stage (cfg0.slots t 1)
/-- Window 1's staging buffer is a whole buffer. -/
abbrev hs0_1 (t : Fin cfg0.N) : (ms0_1 t).IsWhole := hstage0_1 ((cfg0.slots t 1).cast nbuf0_1)
/-- Window 2's staging buffer at a tile. -/
abbrev ms0_2 (t : Fin cfg0.N) : Memref sig .tc .vmem S512x256 .bf16 := win0_2.stage (cfg0.slots t 2)
/-- Window 2's staging buffer is a whole buffer. -/
abbrev hs0_2 (t : Fin cfg0.N) : (ms0_2 t).IsWhole := hstage0_2 ((cfg0.slots t 2).cast nbuf0_2)
/-- Window 3's staging buffer at a tile. -/
abbrev ms0_3 (t : Fin cfg0.N) : Memref sig .tc .vmem S512x256 .bf16 := win0_3.stage (cfg0.slots t 3)
/-- Window 3's staging buffer is a whole buffer. -/
abbrev hs0_3 (t : Fin cfg0.N) : (ms0_3 t).IsWhole := hstage0_3 ((cfg0.slots t 3).cast nbuf0_3)
/-- Window 4's staging buffer at a tile. -/
abbrev ms0_4 (t : Fin cfg0.N) : Memref sig .tc .vmem S1x1024x1024 .f32 := win0_4.stage (cfg0.slots t 4)
/-- Window 4's staging buffer is a whole buffer. -/
abbrev hs0_4 (t : Fin cfg0.N) : (ms0_4 t).IsWhole := hstage0_4 ((cfg0.slots t 4).cast nbuf0_4)
/-- Window 5's staging buffer at a tile. -/
abbrev ms0_5 (t : Fin cfg0.N) : Memref sig .tc .vmem S1x1024 .f32 := win0_5.stage (cfg0.slots t 5)
/-- Window 5's staging buffer is a whole buffer. -/
abbrev hs0_5 (t : Fin cfg0.N) : (ms0_5 t).IsWhole := hstage0_5 ((cfg0.slots t 5).cast nbuf0_5)
/-- Window 6's staging buffer at a tile. -/
abbrev ms0_6 (t : Fin cfg0.N) : Memref sig .tc .vmem S1024x128 .bf16 := win0_6.stage (cfg0.slots t 6)
/-- Window 6's staging buffer is a whole buffer. -/
abbrev hs0_6 (t : Fin cfg0.N) : (ms0_6 t).IsWhole := hstage0_6 ((cfg0.slots t 6).cast nbuf0_6)
/-- Window 7's staging buffer at a tile. -/
abbrev ms0_7 (t : Fin cfg0.N) : Memref sig .tc .vmem S1024x128 .bf16 := win0_7.stage (cfg0.slots t 7)
/-- Window 7's staging buffer is a whole buffer. -/
abbrev hs0_7 (t : Fin cfg0.N) : (ms0_7 t).IsWhole := hstage0_7 ((cfg0.slots t 7).cast nbuf0_7)
/-- Window 8's staging buffer at a tile. -/
abbrev ms0_8 (t : Fin cfg0.N) : Memref sig .tc .vmem S1x128 .f32 := win0_8.stage (cfg0.slots t 8)
/-- Window 8's staging buffer is a whole buffer. -/
abbrev hs0_8 (t : Fin cfg0.N) : (ms0_8 t).IsWhole := hstage0_8 ((cfg0.slots t 8).cast nbuf0_8)
/-- Window 9's staging buffer at a tile. -/
abbrev ms0_9 (t : Fin cfg0.N) : Memref sig .tc .vmem S512x1024 .f32 := win0_9.stage (cfg0.slots t 9)
/-- Window 9's staging buffer is a whole buffer. -/
abbrev hs0_9 (t : Fin cfg0.N) : (ms0_9 t).IsWhole := hstage0_9 ((cfg0.slots t 9).cast nbuf0_9)
/-- Window 10's staging buffer at a tile. -/
abbrev ms0_10 (t : Fin cfg0.N) : Memref sig .tc .vmem S512x1024 .bf16 := win0_10.stage (cfg0.slots t 10)
/-- Window 10's staging buffer is a whole buffer. -/
abbrev hs0_10 (t : Fin cfg0.N) : (ms0_10 t).IsWhole := hstage0_10 ((cfg0.slots t 10).cast nbuf0_10)
/-- Window 11's staging buffer at a tile. -/
abbrev ms0_11 (t : Fin cfg0.N) : Memref sig .tc .vmem S512x128 .f32 := win0_11.stage (cfg0.slots t 11)
/-- Window 11's staging buffer is a whole buffer. -/
abbrev hs0_11 (t : Fin cfg0.N) : (ms0_11 t).IsWhole := hstage0_11 ((cfg0.slots t 11).cast nbuf0_11)

/-- The body at a tile, as the pipeline calls it. -/
abbrev bodyAt0 (t : Fin cfg0.N) : Prog (TpuEff nD τ sig (Elt Bits) Λ₀ .tc) PUnit :=
  cc0__out_proj_kernel (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM (Memref.isWhole_whole _)

/-- A window's block at a tile, read off its array at launch. -/
def iblk (c : Dev nD) (w : Fin cfg0.W) (t : Fin cfg0.N) : ((cfg0.win w).xblock (cfg0.grid.coords t)).Idx → Elt Bits (cfg0.win w).elt :=
  ((cfg0.win w).blk t).view.read (Elt Bits) (V m c (Pipeline.arrRef spec0 w))

/-- The weights' block is the same at every tile. -/
theorem same4 (c : Dev nD) (t t' : Fin cfg0.N) : (iblk m c 4 t : Vec Bits S1x1024x1024 .f32) = iblk m c 4 t' := rfl

/-- The scratch buffer's contents from the first tile on: the weights rounded. -/
def filled (c : Dev nD) (x4 : Vec Bits S1x1024x1024 .f32) : Buf (Elt Bits) ((c : Thread nD τ).loc cc0_scratch0) :=
  (View.whole cc0_scratch0).writes (Elt Bits) (scM.view.junk (Val := Elt Bits)) (runF.sl.HS_8 (Memref.whole cc0_stg4_0) x4)

/-- The first tile is the one numbered zero. -/
theorem first_iff : ∀ t : Fin grid0.N, First (grid0.coords t) ↔ t.val = 0 := by decide +kernel

/-- The stores that fill the scratch buffer do not depend on the staging buffer the weights are read from. -/
theorem fill_eq (arg5 : Memref sig .tc .vmem S1x1024x1024 .f32) (x4 : S1x1024x1024.Idx → Elt Bits .f32) :
    runF.sl.HS_8 arg5 x4 = runF.sl.HS_8 (Memref.whole cc0_stg4_0) x4 := by
  delta runF.sl.HS_8
  simp only [View.readAt_rep]

/-- The first tile leaves the scratch buffer filled. -/
theorem scF (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S1x1024x1024 .f32) (harg5 : arg5.IsWhole) (arg6 : Memref sig .tc .vmem S1x1024 .f32) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1x128 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x128 .f32) (harg12 : arg12.IsWhole)
    (x0 : S512x1024.Idx → Elt Bits .f32) (x1 : S512x512.Idx → Elt Bits .bf16) (x2 : S512x256.Idx → Elt Bits .bf16) (x3 : S512x256.Idx → Elt Bits .bf16) (x4 : S1x1024x1024.Idx → Elt Bits .f32) (x5 : S1x1024.Idx → Elt Bits .f32) (x6 : S1024x128.Idx → Elt Bits .bf16) (x7 : S1024x128.Idx → Elt Bits .bf16) (x8 : S1x128.Idx → Elt Bits .f32) (h : First i) :
    (runF c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 h).2.2.2.1 = filled c x4 := by
  have e : filled c x4 = (View.whole cc0_scratch0).writes (Elt Bits) (scM.view.junk (Val := Elt Bits)) (runF.sl.HS_8 arg5 x4) := by
    unfold filled
    rw [fill_eq arg5 x4]
  rw [e]
  sl_kernel_rfl

/-- A later tile leaves the scratch buffer as it was. -/
theorem scN (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S1x1024x1024 .f32) (harg5 : arg5.IsWhole) (arg6 : Memref sig .tc .vmem S1x1024 .f32) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1x128 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x128 .f32) (harg12 : arg12.IsWhole)
    (x0 : S512x1024.Idx → Elt Bits .f32) (x1 : S512x512.Idx → Elt Bits .bf16) (x2 : S512x256.Idx → Elt Bits .bf16) (x3 : S512x256.Idx → Elt Bits .bf16) (x4 : S1x1024x1024.Idx → Elt Bits .f32) (x5 : S1x1024.Idx → Elt Bits .f32) (x6 : S1024x128.Idx → Elt Bits .bf16) (x7 : S1024x128.Idx → Elt Bits .bf16) (x8 : S1x128.Idx → Elt Bits .f32) (xa : Buf (Elt Bits) ((c : Thread nD τ).loc cc0_scratch0)) (h : ¬First i) :
    (runN c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 xa h).2.2.2.1 = xa := by
  rfl

/-! ## The proof data -/

/-- What output window 9 holds after a tile. -/
def after9 (c : Dev nD) (t : Fin cfg0.N) : Vec Bits S512x1024 .f32 :=
  if h : First (crd t) then VO9.read (Elt Bits) (VO9.writes (Elt Bits) (VO9.junk (Val := Elt Bits)) (runF c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) h).1)
  else VO9.read (Elt Bits) (VO9.writes (Elt Bits) (VO9.junk (Val := Elt Bits)) (runN c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (filled c (iblk m c 4 t)) h).1)

/-- What output window 10 holds after a tile. -/
def after10 (c : Dev nD) (t : Fin cfg0.N) : Vec Bits S512x1024 .bf16 :=
  if h : First (crd t) then VO10.read (Elt Bits) (VO10.writes (Elt Bits) (VO10.junk (Val := Elt Bits)) (runF c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) h).2.1)
  else VO10.read (Elt Bits) (VO10.writes (Elt Bits) (VO10.junk (Val := Elt Bits)) (runN c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (filled c (iblk m c 4 t)) h).2.1)

/-- What output window 11 holds after a tile. -/
def after11 (c : Dev nD) (t : Fin cfg0.N) : Vec Bits S512x128 .f32 :=
  if h : First (crd t) then VO11.read (Elt Bits) (VO11.writes (Elt Bits) (VO11.junk (Val := Elt Bits)) (runF c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) h).2.2.1)
  else VO11.read (Elt Bits) (VO11.writes (Elt Bits) (VO11.junk (Val := Elt Bits)) (runN c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (filled c (iblk m c 4 t)) h).2.2.1)

/-- The grid's first tile. -/
def tile0 : Fin cfg0.N := ⟨0, by rw [show cfg0.N = 32 from N_0]; omega⟩

/-- What holds between tiles: the scratch buffer holds the rounded weights after the first tile. -/
def Phi (c : Dev nD) (t : Fin (cfg0.N + 1)) : sProp 𝕄 :=
  iprop((∃ a, ⌜t.val ≠ 0 → a = filled c (iblk m c 4 tile0)⌝ ∗ (scM.view.loc (c : Thread nD τ) ↦{fullShare} a)) ∗ ∃ r, prngReg c r)

/-- The proof data of the pipeline. -/
def dats (_ : Fin 1) (c : Dev nD) : Dat τ (Elt Bits) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => after9 m c t
    | ⟨10, _⟩ => after10 m c t
    | ⟨11, _⟩ => after11 m c t
  Φ t := Phi m c t
  q _ := fullShare
  owed _ := 0

/-- The arrays at launch. -/
theorem A_eq (c : Dev nD) (w : Fin cfg0.W) : (dats m 0 c).A w = V m c (Pipeline.arrRef spec0 w) := by
  dsimp only [dats]
/-- Window 0 after a tile. -/
theorem after0_0 (c : Dev nD) (t : Fin cfg0.N) : (dats m 0 c).after 0 t = iblk m c 0 t := by dsimp only [dats]
/-- Window 0 holds its block before a tile. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- Window 1 after a tile. -/
theorem after0_1 (c : Dev nD) (t : Fin cfg0.N) : (dats m 0 c).after 1 t = iblk m c 1 t := by dsimp only [dats]
/-- Window 1 holds its block before a tile. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
/-- Window 2 after a tile. -/
theorem after0_2 (c : Dev nD) (t : Fin cfg0.N) : (dats m 0 c).after 2 t = iblk m c 2 t := by dsimp only [dats]
/-- Window 2 holds its block before a tile. -/
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
/-- Window 3 after a tile. -/
theorem after0_3 (c : Dev nD) (t : Fin cfg0.N) : (dats m 0 c).after 3 t = iblk m c 3 t := by dsimp only [dats]
/-- Window 3 holds its block before a tile. -/
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
/-- Window 4 after a tile. -/
theorem after0_4 (c : Dev nD) (t : Fin cfg0.N) : (dats m 0 c).after 4 t = iblk m c 4 t := by dsimp only [dats]
/-- Window 4 holds its block before a tile. -/
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
/-- Window 5 after a tile. -/
theorem after0_5 (c : Dev nD) (t : Fin cfg0.N) : (dats m 0 c).after 5 t = iblk m c 5 t := by dsimp only [dats]
/-- Window 5 holds its block before a tile. -/
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
/-- Window 6 after a tile. -/
theorem after0_6 (c : Dev nD) (t : Fin cfg0.N) : (dats m 0 c).after 6 t = iblk m c 6 t := by dsimp only [dats]
/-- Window 6 holds its block before a tile. -/
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
/-- Window 7 after a tile. -/
theorem after0_7 (c : Dev nD) (t : Fin cfg0.N) : (dats m 0 c).after 7 t = iblk m c 7 t := by dsimp only [dats]
/-- Window 7 holds its block before a tile. -/
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
/-- Window 8 after a tile. -/
theorem after0_8 (c : Dev nD) (t : Fin cfg0.N) : (dats m 0 c).after 8 t = iblk m c 8 t := by dsimp only [dats]
/-- Window 8 holds its block before a tile. -/
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
/-- Window 9 after a tile. -/
theorem after0_9 (c : Dev nD) (t : Fin cfg0.N) : (dats m 0 c).after 9 t = after9 m c t := by dsimp only [dats]
/-- Window 10 after a tile. -/
theorem after0_10 (c : Dev nD) (t : Fin cfg0.N) : (dats m 0 c).after 10 t = after10 m c t := by dsimp only [dats]
/-- Window 11 after a tile. -/
theorem after0_11 (c : Dev nD) (t : Fin cfg0.N) : (dats m 0 c).after 11 t = after11 m c t := by dsimp only [dats]

set_option maxHeartbeats 4000000 in
/-- The body's obligation at a tile: the first, and a later one. -/
theorem sound_body (c : Dev nD) (t : Fin cfg0.N) :
    iprop((dats m 0 c).Φ t.castSucc ∗ (dats m 0 c).owesAt () t.castSucc
        ∗ (∃ d, owns (c : Thread nD τ) (ms0_0 t) fullShare ((dats m 0 c).before 0 t d))
        ∗ (∃ d, owns (c : Thread nD τ) (ms0_1 t) fullShare ((dats m 0 c).before 1 t d))
        ∗ (∃ d, owns (c : Thread nD τ) (ms0_2 t) fullShare ((dats m 0 c).before 2 t d))
        ∗ (∃ d, owns (c : Thread nD τ) (ms0_3 t) fullShare ((dats m 0 c).before 3 t d))
        ∗ (∃ d, owns (c : Thread nD τ) (ms0_4 t) fullShare ((dats m 0 c).before 4 t d))
        ∗ (∃ d, owns (c : Thread nD τ) (ms0_5 t) fullShare ((dats m 0 c).before 5 t d))
        ∗ (∃ d, owns (c : Thread nD τ) (ms0_6 t) fullShare ((dats m 0 c).before 6 t d))
        ∗ (∃ d, owns (c : Thread nD τ) (ms0_7 t) fullShare ((dats m 0 c).before 7 t d))
        ∗ (∃ d, owns (c : Thread nD τ) (ms0_8 t) fullShare ((dats m 0 c).before 8 t d))
        ∗ (∃ d, owns (c : Thread nD τ) (ms0_9 t) fullShare ((dats m 0 c).before 9 t d))
        ∗ (∃ d, owns (c : Thread nD τ) (ms0_10 t) fullShare ((dats m 0 c).before 10 t d))
        ∗ (∃ d, owns (c : Thread nD τ) (ms0_11 t) fullShare ((dats m 0 c).before 11 t d)))
      ⊢ wp frame (wpE (defs₀ (F := Bits)) Variants.none c none) Set.univ (bodyAt0 t) fun _ =>
          iprop((dats m 0 c).Φ t.succ ∗ (dats m 0 c).owesAt () t.succ
            ∗ owns (c : Thread nD τ) (ms0_0 t) fullShare ((dats m 0 c).after 0 t)
            ∗ owns (c : Thread nD τ) (ms0_1 t) fullShare ((dats m 0 c).after 1 t)
            ∗ owns (c : Thread nD τ) (ms0_2 t) fullShare ((dats m 0 c).after 2 t)
            ∗ owns (c : Thread nD τ) (ms0_3 t) fullShare ((dats m 0 c).after 3 t)
            ∗ owns (c : Thread nD τ) (ms0_4 t) fullShare ((dats m 0 c).after 4 t)
            ∗ owns (c : Thread nD τ) (ms0_5 t) fullShare ((dats m 0 c).after 5 t)
            ∗ owns (c : Thread nD τ) (ms0_6 t) fullShare ((dats m 0 c).after 6 t)
            ∗ owns (c : Thread nD τ) (ms0_7 t) fullShare ((dats m 0 c).after 7 t)
            ∗ owns (c : Thread nD τ) (ms0_8 t) fullShare ((dats m 0 c).after 8 t)
            ∗ owns (c : Thread nD τ) (ms0_9 t) fullShare ((dats m 0 c).after 9 t)
            ∗ owns (c : Thread nD τ) (ms0_10 t) fullShare ((dats m 0 c).after 10 t)
            ∗ owns (c : Thread nD τ) (ms0_11 t) fullShare ((dats m 0 c).after 11 t)) := by
  simp only [before0_0, before0_1, before0_2, before0_3, before0_4, before0_5, before0_6, before0_7, before0_8, after0_0, after0_1, after0_2, after0_3, after0_4, after0_5, after0_6, after0_7, after0_8, after0_9, after0_10, after0_11]
  rewrite [show (dats m 0 c).Φ t.succ = Phi m c t.succ from rfl, show (dats m 0 c).Φ t.castSucc = Phi m c t.castSucc from rfl,
    show (dats m 0 c).owesAt () t.succ = (dats m 0 c).owesAt () t.castSucc from rfl]
  unfold Phi
  iintro ⟨⟨⟨%a, %ha, HS⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  by_cases h : First (crd t)
  · iapply ((runF c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) h).2.2.2.2 a _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [H7]; · iapply rep_of_owns; iexact H7
    isplitl [H8]; · iapply rep_of_owns; iexact H8
    isplitl [H9]; · iexists _; iexact H9
    isplitl [H10]; · iexists _; iexact H10
    isplitl [H11]; · iexists _; iexact H11
    isplitl [HS]; · iexact HS
    iintro ⟨H0, H1, H2, H3, H4, H5, H6, H7, H8, ⟨%e9, H9⟩, ⟨%e10, H10⟩, ⟨%e11, H11⟩, HS⟩
    isplitl [HS HP]
    · isplitl [HS]
      · iexists _; isplitr; swap
        · iexact HS
        · ipureintro; exact fun _ => (scF c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) h).trans (congrArg (filled c) (same4 m c t tile0))
      iexact HP
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    isplitl [H7]; · iapply owns_of_rep; iexact H7
    isplitl [H8]; · iapply owns_of_rep; iexact H8
    isplitl [H9]
    · unfold owns; iexists _; isplitr; swap
      · iexact H9
      · ipureintro; exact (View.read_writes_of_cover _ _ VO9 VO9.junk _ (coverrunF9 c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) h)).trans (show _ = after9 m c t by unfold after9; rw [dif_pos h])
    isplitl [H10]
    · unfold owns; iexists _; isplitr; swap
      · iexact H10
      · ipureintro; exact (View.read_writes_of_cover _ _ VO10 VO10.junk _ (coverrunF10 c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) h)).trans (show _ = after10 m c t by unfold after10; rw [dif_pos h])
    unfold owns; iexists _; isplitr; swap
    · iexact H11
    · ipureintro; exact (View.read_writes_of_cover _ _ VO11 VO11.junk _ (coverrunF11 c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) h)).trans (show _ = after11 m c t by unfold after11; rw [dif_pos h])
  · obtain rfl : a = filled c (iblk m c 4 t) := (ha fun e => h ((first_iff t).2 e)).trans (congrArg (filled c) (same4 m c tile0 t))
    iapply ((runN c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (filled c (iblk m c 4 t)) h).2.2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [H7]; · iapply rep_of_owns; iexact H7
    isplitl [H8]; · iapply rep_of_owns; iexact H8
    isplitl [H9]; · iexists _; iexact H9
    isplitl [H10]; · iexists _; iexact H10
    isplitl [H11]; · iexists _; iexact H11
    isplitl [HS]; · iexact HS
    iintro ⟨H0, H1, H2, H3, H4, H5, H6, H7, H8, ⟨%e9, H9⟩, ⟨%e10, H10⟩, ⟨%e11, H11⟩, HS⟩
    isplitl [HS HP]
    · isplitl [HS]
      · iexists _; isplitr; swap
        · iexact HS
        · ipureintro; exact fun _ => (scN c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (filled c (iblk m c 4 t)) h).trans (congrArg (filled c) (same4 m c t tile0))
      iexact HP
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    isplitl [H7]; · iapply owns_of_rep; iexact H7
    isplitl [H8]; · iapply owns_of_rep; iexact H8
    isplitl [H9]
    · unfold owns; iexists _; isplitr; swap
      · iexact H9
      · ipureintro; exact (View.read_writes_of_cover _ _ VO9 VO9.junk _ (coverrunN9 c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (filled c (iblk m c 4 t)) h)).trans (show _ = after9 m c t by unfold after9; rw [dif_neg h])
    isplitl [H10]
    · unfold owns; iexists _; isplitr; swap
      · iexact H10
      · ipureintro; exact (View.read_writes_of_cover _ _ VO10 VO10.junk _ (coverrunN10 c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (filled c (iblk m c 4 t)) h)).trans (show _ = after10 m c t by unfold after10; rw [dif_neg h])
    unfold owns; iexists _; isplitr; swap
    · iexact H11
    · ipureintro; exact (View.read_writes_of_cover _ _ VO11 VO11.junk _ (coverrunN11 c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (filled c (iblk m c 4 t)) h)).trans (show _ = after11 m c t by unfold after11; rw [dif_neg h])

/-- The pipeline's call of the body at a tile. -/
theorem defs₀_row (t : Fin cfg0.N) :
    defs₀ (F := Bits) .tc cfg0.body (cfg0.bodyArgs t (cfg0.slots t)) = bodyAt0 t := by
  unfold defs₀; rw [Defs.onTc_tc]

/-- The body's obligation, as the pipeline asks it. -/
theorem body_obligation (c : Dev nD) : BodyObligation (dats m 0 c) (defs₀ (F := Bits)) Variants.none () Set.univ := fun t => by
  rw [bigSep_W0, bigSep_W0, defs₀_row]
  exact triple_restated (sound_body m c t) rfl .rfl fun _ => .rfl

/-- Before the first tile nothing is known of the scratch buffer. -/
theorem phi0 (c : Dev nD) : Pipeline.ΦA spec0 c ⊢ (dats m 0 c).Φ 0 := by
  rw [show (dats m 0 c).Φ 0 = Phi m c 0 from rfl]
  unfold Pipeline.ΦA Phi
  rw [scopedRest0_eq]
  iintro ⟨⟨%a, HS⟩, HP⟩
  isplitl [HS]
  · iexists a; isplitr; swap
    · iexact HS
    · ipureintro; exact fun h => absurd rfl h
  iexact HP

/-- After the last tile the scratch buffer is forgotten. -/
theorem phiN (c : Dev nD) : (dats m 0 c).Φ (Fin.last cfg0.N) ⊢ Pipeline.ΦA spec0 c := by
  rw [show (dats m 0 c).Φ (Fin.last cfg0.N) = Phi m c (Fin.last _) from rfl]
  unfold Pipeline.ΦA Phi
  rw [scopedRest0_eq]
  iintro ⟨⟨%a, -, HS⟩, HP⟩
  isplitl [HS]
  · iexists a; iexact HS
  iexact HP

/-- The program is its one call. -/
theorem hmain : Pipeline.HMain (Ix := Unit) (Name := ℕ) (U := UR sig nD τ) (Lvl := ℕ) cfgs 0 defs₀ Variants.none m (main (F := Bits)) (V m) :=
  Pipeline.hmain_region cfgs 0 defs₀ Variants.none m main fun c => by rw [main_chain]; rfl

set_option backward.isDefEq.respectTransparency.types false in
set_option maxHeartbeats 800000 in
/-- Every execution ends with the arrays at what the tiles left, and with every semaphore at zero. -/
theorem run_main_quiescent : θ_run defs (onTc (τ := τ) (main (F := Bits))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m) (hA := A_eq m) (hin := phi0 m) (hout := phiN m)

/-- What the final memory is: every array at what the tiles left. -/
theorem run_main : θ_run defs (onTc (τ := τ) (main (F := Bits))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := Bits))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats m 0 c).arrAt_in 0 rfl _).trans (A_eq m c 0)), ((h c).1 1).trans (((dats m 0 c).arrAt_in 1 rfl _).trans (A_eq m c 1)), ((h c).1 2).trans (((dats m 0 c).arrAt_in 2 rfl _).trans (A_eq m c 2)), ((h c).1 3).trans (((dats m 0 c).arrAt_in 3 rfl _).trans (A_eq m c 3)), ((h c).1 4).trans (((dats m 0 c).arrAt_in 4 rfl _).trans (A_eq m c 4)), ((h c).1 5).trans (((dats m 0 c).arrAt_in 5 rfl _).trans (A_eq m c 5)), ((h c).1 6).trans (((dats m 0 c).arrAt_in 6 rfl _).trans (A_eq m c 6)), ((h c).1 7).trans (((dats m 0 c).arrAt_in 7 rfl _).trans (A_eq m c 7)), ((h c).1 8).trans (((dats m 0 c).arrAt_in 8 rfl _).trans (A_eq m c 8))⟩) (run_main m ρ)

/-- The frame claim. -/
theorem frame : θ_run defs (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Kernel3.Out

end
-- ==== Proof.OutBodyIdeal.lean ====
module

public import proofs.«01_k».proof.Proof.Gen.Kernel3Ideal
public import proofs.«01_k».proof.Proof.Gen.Kernel3Ideal.Skeleton
public import proofs.«01_k».proof.Proof.Gen.Kernel3Ideal.Launch
public import Idealize.ShloMosaic.Lib.Claim
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Lib.Pipeline.Kit
public import Idealize.ShloMosaic.Lib.Pipeline.FrameBody
public import Idealize.ShloMosaic.PureOps.Ideal
public import Idealize.ShloMosaic.Adequacy
public import Idealize.ShloMosaic.Init

/-!
  The body of the output projection at one tile: what it leaves in the three output tiles and in the scratch buffer. At the first
  tile the scratch buffer is filled with the rounded weights; at the others it is only read.
-/

@[expose] public section

set_option maxRecDepth 16384
set_option Elab.async false

noncomputable section

namespace Cert.Kernel3Ideal.Out

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The resource algebra of the program logic. -/
abbrev 𝕄 := MT nD τ sig Unit (Elt Ideal) ℕ (UR sig nD τ) ℕ

/-- The scratch buffer, whole. -/
abbrev scM : Memref sig .tc .vmem S1024x1024 .bf16 := Memref.whole cc0_scratch0

/-- The decision to fill the scratch buffer: the first tile. -/
abbrev First (i : grid0.Coords) : Prop :=
  Scalar.cmpi .ne (Scalar.extui (Scalar.cmpi .eq (BitVec.ofNat 32 (i 0).val) 0#32) : BitVec 32) 0#32 = 1#1

/-- One buffer of each output tile, through which its contents are stated. -/
abbrev VO9 : View sig .tc .vmem S512x1024 .f32 := (Memref.whole cc0_stg9_0 : Memref sig .tc .vmem S512x1024 .f32).view
/-- One buffer of the second output tile. -/
abbrev VO10 : View sig .tc .vmem S512x1024 .bf16 := (Memref.whole cc0_stg10_0 : Memref sig .tc .vmem S512x1024 .bf16).view
/-- One buffer of the third output tile. -/
abbrev VO11 : View sig .tc .vmem S512x128 .f32 := (Memref.whole cc0_stg11_0 : Memref sig .tc .vmem S512x128 .f32).view

set_option backward.proofsInPublic true in
set_option maxHeartbeats 16000000 in
/-- The first tile: the stores into the output tiles and the scratch buffer's contents, with the run that leaves them. -/
noncomputable def runF (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S1x1024x1024 .f32) (harg5 : arg5.IsWhole) (arg6 : Memref sig .tc .vmem S1x1024 .f32) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1x128 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x128 .f32) (harg12 : arg12.IsWhole)
    (x0 : S512x1024.Idx → Elt Ideal .f32) (x1 : S512x512.Idx → Elt Ideal .bf16) (x2 : S512x256.Idx → Elt Ideal .bf16) (x3 : S512x256.Idx → Elt Ideal .bf16) (x4 : S1x1024x1024.Idx → Elt Ideal .f32) (x5 : S1x1024.Idx → Elt Ideal .f32) (x6 : S1024x128.Idx → Elt Ideal .bf16) (x7 : S1024x128.Idx → Elt Ideal .bf16) (x8 : S1x128.Idx → Elt Ideal .f32) (hc : First i) :
    Σ' (out9 : List (View.Piece (Elt Ideal) S512x1024 .f32)) (out10 : List (View.Piece (Elt Ideal) S512x1024 .bf16)) (out11 : List (View.Piece (Elt Ideal) S512x128 .f32)), { outS : Buf (Elt Ideal) ((c : Thread nD τ).loc cc0_scratch0) //
      ∀ (xa : Buf (Elt Ideal) ((c : Thread nD τ).loc cc0_scratch0)) (K : PUnit → sProp 𝕄),
        iprop((arg1.view.loc (c : Thread nD τ) ↦[arg1.view.set]{fullShare} arg1.view.rep x0)
          ∗ (arg2.view.loc (c : Thread nD τ) ↦[arg2.view.set]{fullShare} arg2.view.rep x1)
          ∗ (arg3.view.loc (c : Thread nD τ) ↦[arg3.view.set]{fullShare} arg3.view.rep x2)
          ∗ (arg4.view.loc (c : Thread nD τ) ↦[arg4.view.set]{fullShare} arg4.view.rep x3)
          ∗ (arg5.view.loc (c : Thread nD τ) ↦[arg5.view.set]{fullShare} arg5.view.rep x4)
          ∗ (arg6.view.loc (c : Thread nD τ) ↦[arg6.view.set]{fullShare} arg6.view.rep x5)
          ∗ (arg7.view.loc (c : Thread nD τ) ↦[arg7.view.set]{fullShare} arg7.view.rep x6)
          ∗ (arg8.view.loc (c : Thread nD τ) ↦[arg8.view.set]{fullShare} arg8.view.rep x7)
          ∗ (arg9.view.loc (c : Thread nD τ) ↦[arg9.view.set]{fullShare} arg9.view.rep x8)
          ∗ (∃ d, owns (c : Thread nD τ) arg10 fullShare d)
          ∗ (∃ d, owns (c : Thread nD τ) arg11 fullShare d)
          ∗ (∃ d, owns (c : Thread nD τ) arg12 fullShare d)
          ∗ (scM.view.loc (c : Thread nD τ) ↦{fullShare} xa)
          ∗ (iprop((arg1.view.loc (c : Thread nD τ) ↦[arg1.view.set]{fullShare} arg1.view.rep x0)
          ∗ (arg2.view.loc (c : Thread nD τ) ↦[arg2.view.set]{fullShare} arg2.view.rep x1)
          ∗ (arg3.view.loc (c : Thread nD τ) ↦[arg3.view.set]{fullShare} arg3.view.rep x2)
          ∗ (arg4.view.loc (c : Thread nD τ) ↦[arg4.view.set]{fullShare} arg4.view.rep x3)
          ∗ (arg5.view.loc (c : Thread nD τ) ↦[arg5.view.set]{fullShare} arg5.view.rep x4)
          ∗ (arg6.view.loc (c : Thread nD τ) ↦[arg6.view.set]{fullShare} arg6.view.rep x5)
          ∗ (arg7.view.loc (c : Thread nD τ) ↦[arg7.view.set]{fullShare} arg7.view.rep x6)
          ∗ (arg8.view.loc (c : Thread nD τ) ↦[arg8.view.set]{fullShare} arg8.view.rep x7)
          ∗ (arg9.view.loc (c : Thread nD τ) ↦[arg9.view.set]{fullShare} arg9.view.rep x8)
          ∗ (∃ f, arg10.view.loc (c : Thread nD τ) ↦[arg10.view.set]{fullShare} arg10.view.writes (Elt Ideal) f out9)
          ∗ (∃ f, arg11.view.loc (c : Thread nD τ) ↦[arg11.view.set]{fullShare} arg11.view.writes (Elt Ideal) f out10)
          ∗ (∃ f, arg12.view.loc (c : Thread nD τ) ↦[arg12.view.set]{fullShare} arg12.view.writes (Elt Ideal) f out11)
          ∗ (scM.view.loc (c : Thread nD τ) ↦{fullShare} outS)) -∗ K ⟨⟩))
          ⊢ wp frame (wpE (defs₀ (F := Ideal)) Variants.none c none) Set.univ (cc0__out_proj_kernel i arg1 harg1 arg2 harg2 arg3 harg3 arg4 harg4 arg5 harg5 arg6 harg6 arg7 harg7 arg8 harg8 arg9 harg9 arg10 harg10 arg11 harg11 arg12 harg12 scM (Memref.isWhole_whole _)) K } :=
  ⟨_, _, _, _, fun (xa : Buf (Elt Ideal) ((c : Thread nD τ).loc cc0_scratch0)) (K : PUnit → sProp 𝕄) => by
    unfold owns
    rw [cc0__out_proj_kernel_eq_skeleton]; unfold cc0__out_proj_kernel_skel
    iintro ⟨H0, H1, H2, H3, H4, H5, H6, H7, H8, ⟨%d9, %f9, -, HO9⟩, ⟨%d10, %f10, -, HO10⟩, ⟨%d11, %f11, -, HO11⟩, HS, Hk⟩
    have hS : scM.IsWhole := Memref.isWhole_whole _
    sl_exec! (disch := exact hc)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HO9]; · iexists _; iexact HO9
    isplitl [HO10]; · iexists _; iexact HO10
    isplitl [HO11]; · iexists _; iexact HO11
    iexact HS⟩

set_option backward.proofsInPublic true in
set_option maxHeartbeats 16000000 in
/-- A later tile: the stores into the output tiles and the scratch buffer's contents, with the run that leaves them. -/
noncomputable def runN (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S1x1024x1024 .f32) (harg5 : arg5.IsWhole) (arg6 : Memref sig .tc .vmem S1x1024 .f32) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1x128 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x128 .f32) (harg12 : arg12.IsWhole)
    (x0 : S512x1024.Idx → Elt Ideal .f32) (x1 : S512x512.Idx → Elt Ideal .bf16) (x2 : S512x256.Idx → Elt Ideal .bf16) (x3 : S512x256.Idx → Elt Ideal .bf16) (x4 : S1x1024x1024.Idx → Elt Ideal .f32) (x5 : S1x1024.Idx → Elt Ideal .f32) (x6 : S1024x128.Idx → Elt Ideal .bf16) (x7 : S1024x128.Idx → Elt Ideal .bf16) (x8 : S1x128.Idx → Elt Ideal .f32) (xa : Buf (Elt Ideal) ((c : Thread nD τ).loc cc0_scratch0)) (hc : ¬First i) :
    Σ' (out9 : List (View.Piece (Elt Ideal) S512x1024 .f32)) (out10 : List (View.Piece (Elt Ideal) S512x1024 .bf16)) (out11 : List (View.Piece (Elt Ideal) S512x128 .f32)), { outS : Buf (Elt Ideal) ((c : Thread nD τ).loc cc0_scratch0) //
      ∀ (K : PUnit → sProp 𝕄),
        iprop((arg1.view.loc (c : Thread nD τ) ↦[arg1.view.set]{fullShare} arg1.view.rep x0)
          ∗ (arg2.view.loc (c : Thread nD τ) ↦[arg2.view.set]{fullShare} arg2.view.rep x1)
          ∗ (arg3.view.loc (c : Thread nD τ) ↦[arg3.view.set]{fullShare} arg3.view.rep x2)
          ∗ (arg4.view.loc (c : Thread nD τ) ↦[arg4.view.set]{fullShare} arg4.view.rep x3)
          ∗ (arg5.view.loc (c : Thread nD τ) ↦[arg5.view.set]{fullShare} arg5.view.rep x4)
          ∗ (arg6.view.loc (c : Thread nD τ) ↦[arg6.view.set]{fullShare} arg6.view.rep x5)
          ∗ (arg7.view.loc (c : Thread nD τ) ↦[arg7.view.set]{fullShare} arg7.view.rep x6)
          ∗ (arg8.view.loc (c : Thread nD τ) ↦[arg8.view.set]{fullShare} arg8.view.rep x7)
          ∗ (arg9.view.loc (c : Thread nD τ) ↦[arg9.view.set]{fullShare} arg9.view.rep x8)
          ∗ (∃ d, owns (c : Thread nD τ) arg10 fullShare d)
          ∗ (∃ d, owns (c : Thread nD τ) arg11 fullShare d)
          ∗ (∃ d, owns (c : Thread nD τ) arg12 fullShare d)
          ∗ (scM.view.loc (c : Thread nD τ) ↦{fullShare} xa)
          ∗ (iprop((arg1.view.loc (c : Thread nD τ) ↦[arg1.view.set]{fullShare} arg1.view.rep x0)
          ∗ (arg2.view.loc (c : Thread nD τ) ↦[arg2.view.set]{fullShare} arg2.view.rep x1)
          ∗ (arg3.view.loc (c : Thread nD τ) ↦[arg3.view.set]{fullShare} arg3.view.rep x2)
          ∗ (arg4.view.loc (c : Thread nD τ) ↦[arg4.view.set]{fullShare} arg4.view.rep x3)
          ∗ (arg5.view.loc (c : Thread nD τ) ↦[arg5.view.set]{fullShare} arg5.view.rep x4)
          ∗ (arg6.view.loc (c : Thread nD τ) ↦[arg6.view.set]{fullShare} arg6.view.rep x5)
          ∗ (arg7.view.loc (c : Thread nD τ) ↦[arg7.view.set]{fullShare} arg7.view.rep x6)
          ∗ (arg8.view.loc (c : Thread nD τ) ↦[arg8.view.set]{fullShare} arg8.view.rep x7)
          ∗ (arg9.view.loc (c : Thread nD τ) ↦[arg9.view.set]{fullShare} arg9.view.rep x8)
          ∗ (∃ f, arg10.view.loc (c : Thread nD τ) ↦[arg10.view.set]{fullShare} arg10.view.writes (Elt Ideal) f out9)
          ∗ (∃ f, arg11.view.loc (c : Thread nD τ) ↦[arg11.view.set]{fullShare} arg11.view.writes (Elt Ideal) f out10)
          ∗ (∃ f, arg12.view.loc (c : Thread nD τ) ↦[arg12.view.set]{fullShare} arg12.view.writes (Elt Ideal) f out11)
          ∗ (scM.view.loc (c : Thread nD τ) ↦{fullShare} outS)) -∗ K ⟨⟩))
          ⊢ wp frame (wpE (defs₀ (F := Ideal)) Variants.none c none) Set.univ (cc0__out_proj_kernel i arg1 harg1 arg2 harg2 arg3 harg3 arg4 harg4 arg5 harg5 arg6 harg6 arg7 harg7 arg8 harg8 arg9 harg9 arg10 harg10 arg11 harg11 arg12 harg12 scM (Memref.isWhole_whole _)) K } :=
  ⟨_, _, _, _, fun (K : PUnit → sProp 𝕄) => by
    unfold owns
    rw [cc0__out_proj_kernel_eq_skeleton]; unfold cc0__out_proj_kernel_skel
    iintro ⟨H0, H1, H2, H3, H4, H5, H6, H7, H8, ⟨%d9, %f9, -, HO9⟩, ⟨%d10, %f10, -, HO10⟩, ⟨%d11, %f11, -, HO11⟩, HS, Hk⟩
    have hS : scM.IsWhole := Memref.isWhole_whole _
    sl_exec! (disch := exact hc)
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HO9]; · iexists _; iexact HO9
    isplitl [HO10]; · iexists _; iexact HO10
    isplitl [HO11]; · iexists _; iexact HO11
    iexact HS⟩

/-- The stores of `runF` cover output tile 9. -/
theorem coverrunF9 (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S1x1024x1024 .f32) (harg5 : arg5.IsWhole) (arg6 : Memref sig .tc .vmem S1x1024 .f32) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1x128 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x128 .f32) (harg12 : arg12.IsWhole)
    (x0 : S512x1024.Idx → Elt Ideal .f32) (x1 : S512x512.Idx → Elt Ideal .bf16) (x2 : S512x256.Idx → Elt Ideal .bf16) (x3 : S512x256.Idx → Elt Ideal .bf16) (x4 : S1x1024x1024.Idx → Elt Ideal .f32) (x5 : S1x1024.Idx → Elt Ideal .f32) (x6 : S1024x128.Idx → Elt Ideal .bf16) (x7 : S1024x128.Idx → Elt Ideal .bf16) (x8 : S1x128.Idx → Elt Ideal .f32) (hc : First i) (y : S512x1024.Idx) :
    ∃ pc ∈ (runF c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 hc).1, y ∈ pc.1.set :=
  View.cover_of_tiledL (runF c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 hc).1 S256x1024.size (by sl_kernel_rfl) y

/-- The stores of `runF` cover output tile 10. -/
theorem coverrunF10 (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S1x1024x1024 .f32) (harg5 : arg5.IsWhole) (arg6 : Memref sig .tc .vmem S1x1024 .f32) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1x128 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x128 .f32) (harg12 : arg12.IsWhole)
    (x0 : S512x1024.Idx → Elt Ideal .f32) (x1 : S512x512.Idx → Elt Ideal .bf16) (x2 : S512x256.Idx → Elt Ideal .bf16) (x3 : S512x256.Idx → Elt Ideal .bf16) (x4 : S1x1024x1024.Idx → Elt Ideal .f32) (x5 : S1x1024.Idx → Elt Ideal .f32) (x6 : S1024x128.Idx → Elt Ideal .bf16) (x7 : S1024x128.Idx → Elt Ideal .bf16) (x8 : S1x128.Idx → Elt Ideal .f32) (hc : First i) (y : S512x1024.Idx) :
    ∃ pc ∈ (runF c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 hc).2.1, y ∈ pc.1.set :=
  View.cover_of_tiledL (runF c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 hc).2.1 S256x1024.size (by sl_kernel_rfl) y

/-- The stores of `runF` cover output tile 11. -/
theorem coverrunF11 (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S1x1024x1024 .f32) (harg5 : arg5.IsWhole) (arg6 : Memref sig .tc .vmem S1x1024 .f32) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1x128 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x128 .f32) (harg12 : arg12.IsWhole)
    (x0 : S512x1024.Idx → Elt Ideal .f32) (x1 : S512x512.Idx → Elt Ideal .bf16) (x2 : S512x256.Idx → Elt Ideal .bf16) (x3 : S512x256.Idx → Elt Ideal .bf16) (x4 : S1x1024x1024.Idx → Elt Ideal .f32) (x5 : S1x1024.Idx → Elt Ideal .f32) (x6 : S1024x128.Idx → Elt Ideal .bf16) (x7 : S1024x128.Idx → Elt Ideal .bf16) (x8 : S1x128.Idx → Elt Ideal .f32) (hc : First i) (y : S512x128.Idx) :
    ∃ pc ∈ (runF c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 hc).2.2.1, y ∈ pc.1.set :=
  View.cover_of_tiledL (runF c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 hc).2.2.1 S256x128.size (by sl_kernel_rfl) y

/-- The stores of `runN` cover output tile 9. -/
theorem coverrunN9 (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S1x1024x1024 .f32) (harg5 : arg5.IsWhole) (arg6 : Memref sig .tc .vmem S1x1024 .f32) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1x128 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x128 .f32) (harg12 : arg12.IsWhole)
    (x0 : S512x1024.Idx → Elt Ideal .f32) (x1 : S512x512.Idx → Elt Ideal .bf16) (x2 : S512x256.Idx → Elt Ideal .bf16) (x3 : S512x256.Idx → Elt Ideal .bf16) (x4 : S1x1024x1024.Idx → Elt Ideal .f32) (x5 : S1x1024.Idx → Elt Ideal .f32) (x6 : S1024x128.Idx → Elt Ideal .bf16) (x7 : S1024x128.Idx → Elt Ideal .bf16) (x8 : S1x128.Idx → Elt Ideal .f32) (xa : Buf (Elt Ideal) ((c : Thread nD τ).loc cc0_scratch0)) (hc : ¬First i) (y : S512x1024.Idx) :
    ∃ pc ∈ (runN c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 xa hc).1, y ∈ pc.1.set :=
  View.cover_of_tiledL (runN c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 xa hc).1 S256x1024.size (by sl_kernel_rfl) y

/-- The stores of `runN` cover output tile 10. -/
theorem coverrunN10 (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S1x1024x1024 .f32) (harg5 : arg5.IsWhole) (arg6 : Memref sig .tc .vmem S1x1024 .f32) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1x128 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x128 .f32) (harg12 : arg12.IsWhole)
    (x0 : S512x1024.Idx → Elt Ideal .f32) (x1 : S512x512.Idx → Elt Ideal .bf16) (x2 : S512x256.Idx → Elt Ideal .bf16) (x3 : S512x256.Idx → Elt Ideal .bf16) (x4 : S1x1024x1024.Idx → Elt Ideal .f32) (x5 : S1x1024.Idx → Elt Ideal .f32) (x6 : S1024x128.Idx → Elt Ideal .bf16) (x7 : S1024x128.Idx → Elt Ideal .bf16) (x8 : S1x128.Idx → Elt Ideal .f32) (xa : Buf (Elt Ideal) ((c : Thread nD τ).loc cc0_scratch0)) (hc : ¬First i) (y : S512x1024.Idx) :
    ∃ pc ∈ (runN c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 xa hc).2.1, y ∈ pc.1.set :=
  View.cover_of_tiledL (runN c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 xa hc).2.1 S256x1024.size (by sl_kernel_rfl) y

/-- The stores of `runN` cover output tile 11. -/
theorem coverrunN11 (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S1x1024x1024 .f32) (harg5 : arg5.IsWhole) (arg6 : Memref sig .tc .vmem S1x1024 .f32) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1x128 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x128 .f32) (harg12 : arg12.IsWhole)
    (x0 : S512x1024.Idx → Elt Ideal .f32) (x1 : S512x512.Idx → Elt Ideal .bf16) (x2 : S512x256.Idx → Elt Ideal .bf16) (x3 : S512x256.Idx → Elt Ideal .bf16) (x4 : S1x1024x1024.Idx → Elt Ideal .f32) (x5 : S1x1024.Idx → Elt Ideal .f32) (x6 : S1024x128.Idx → Elt Ideal .bf16) (x7 : S1024x128.Idx → Elt Ideal .bf16) (x8 : S1x128.Idx → Elt Ideal .f32) (xa : Buf (Elt Ideal) ((c : Thread nD τ).loc cc0_scratch0)) (hc : ¬First i) (y : S512x128.Idx) :
    ∃ pc ∈ (runN c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 xa hc).2.2.1, y ∈ pc.1.set :=
  View.cover_of_tiledL (runN c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 xa hc).2.2.1 S256x128.size (by sl_kernel_rfl) y

end Cert.Kernel3Ideal.Out

end
-- ==== Proof.OutRunIdeal.lean ====
module

public import proofs.«01_k».proof.Proof.OutBodyIdeal
public import Idealize.ShloMosaic.Lib.Pipeline.Frame
public import Idealize.ShloMosaic.Lib.Pipeline.TableIdle
public import Idealize.ShloMosaic.Lib.Pipeline.ValueKit

/-!
  The run of the output projection: every tile of the outputs ends at what the body's stores leave in it, the scratch buffer holds the
  rounded weights from the first tile on, and the arguments end unchanged.
-/

@[expose] public section

set_option maxRecDepth 16384
set_option Elab.async false

noncomputable section

namespace Cert.Kernel3Ideal.Out

open Cert.Kernel3Ideal Cert.Kernel3Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable (m : (ℓ : Loc nD τ sig) → Buf (Elt Ideal) ℓ) (ρ : Dev nD → PrngReg)

/-- The buffers at launch. -/
abbrev V (c : Dev nD) (b : Ref sig .tc) : Buf (Elt Ideal) ((c : Thread nD τ).loc b) := m ((c.tc : Thread nD τ).loc b)
/-- A tile's place in the grid. -/
abbrev crd (t : Fin cfg0.N) : grid0.Coords := grid0.coords t
/-- Window 0's staging buffer at a tile. -/
abbrev ms0_0 (t : Fin cfg0.N) : Memref sig .tc .vmem S512x1024 .f32 := win0_0.stage (cfg0.slots t 0)
/-- Window 0's staging buffer is a whole buffer. -/
abbrev hs0_0 (t : Fin cfg0.N) : (ms0_0 t).IsWhole := hstage0_0 ((cfg0.slots t 0).cast nbuf0_0)
/-- Window 1's staging buffer at a tile. -/
abbrev ms0_1 (t : Fin cfg0.N) : Memref sig .tc .vmem S512x512 .bf16 := win0_1.stage (cfg0.slots t 1)
/-- Window 1's staging buffer is a whole buffer. -/
abbrev hs0_1 (t : Fin cfg0.N) : (ms0_1 t).IsWhole := hstage0_1 ((cfg0.slots t 1).cast nbuf0_1)
/-- Window 2's staging buffer at a tile. -/
abbrev ms0_2 (t : Fin cfg0.N) : Memref sig .tc .vmem S512x256 .bf16 := win0_2.stage (cfg0.slots t 2)
/-- Window 2's staging buffer is a whole buffer. -/
abbrev hs0_2 (t : Fin cfg0.N) : (ms0_2 t).IsWhole := hstage0_2 ((cfg0.slots t 2).cast nbuf0_2)
/-- Window 3's staging buffer at a tile. -/
abbrev ms0_3 (t : Fin cfg0.N) : Memref sig .tc .vmem S512x256 .bf16 := win0_3.stage (cfg0.slots t 3)
/-- Window 3's staging buffer is a whole buffer. -/
abbrev hs0_3 (t : Fin cfg0.N) : (ms0_3 t).IsWhole := hstage0_3 ((cfg0.slots t 3).cast nbuf0_3)
/-- Window 4's staging buffer at a tile. -/
abbrev ms0_4 (t : Fin cfg0.N) : Memref sig .tc .vmem S1x1024x1024 .f32 := win0_4.stage (cfg0.slots t 4)
/-- Window 4's staging buffer is a whole buffer. -/
abbrev hs0_4 (t : Fin cfg0.N) : (ms0_4 t).IsWhole := hstage0_4 ((cfg0.slots t 4).cast nbuf0_4)
/-- Window 5's staging buffer at a tile. -/
abbrev ms0_5 (t : Fin cfg0.N) : Memref sig .tc .vmem S1x1024 .f32 := win0_5.stage (cfg0.slots t 5)
/-- Window 5's staging buffer is a whole buffer. -/
abbrev hs0_5 (t : Fin cfg0.N) : (ms0_5 t).IsWhole := hstage0_5 ((cfg0.slots t 5).cast nbuf0_5)
/-- Window 6's staging buffer at a tile. -/
abbrev ms0_6 (t : Fin cfg0.N) : Memref sig .tc .vmem S1024x128 .bf16 := win0_6.stage (cfg0.slots t 6)
/-- Window 6's staging buffer is a whole buffer. -/
abbrev hs0_6 (t : Fin cfg0.N) : (ms0_6 t).IsWhole := hstage0_6 ((cfg0.slots t 6).cast nbuf0_6)
/-- Window 7's staging buffer at a tile. -/
abbrev ms0_7 (t : Fin cfg0.N) : Memref sig .tc .vmem S1024x128 .bf16 := win0_7.stage (cfg0.slots t 7)
/-- Window 7's staging buffer is a whole buffer. -/
abbrev hs0_7 (t : Fin cfg0.N) : (ms0_7 t).IsWhole := hstage0_7 ((cfg0.slots t 7).cast nbuf0_7)
/-- Window 8's staging buffer at a tile. -/
abbrev ms0_8 (t : Fin cfg0.N) : Memref sig .tc .vmem S1x128 .f32 := win0_8.stage (cfg0.slots t 8)
/-- Window 8's staging buffer is a whole buffer. -/
abbrev hs0_8 (t : Fin cfg0.N) : (ms0_8 t).IsWhole := hstage0_8 ((cfg0.slots t 8).cast nbuf0_8)
/-- Window 9's staging buffer at a tile. -/
abbrev ms0_9 (t : Fin cfg0.N) : Memref sig .tc .vmem S512x1024 .f32 := win0_9.stage (cfg0.slots t 9)
/-- Window 9's staging buffer is a whole buffer. -/
abbrev hs0_9 (t : Fin cfg0.N) : (ms0_9 t).IsWhole := hstage0_9 ((cfg0.slots t 9).cast nbuf0_9)
/-- Window 10's staging buffer at a tile. -/
abbrev ms0_10 (t : Fin cfg0.N) : Memref sig .tc .vmem S512x1024 .bf16 := win0_10.stage (cfg0.slots t 10)
/-- Window 10's staging buffer is a whole buffer. -/
abbrev hs0_10 (t : Fin cfg0.N) : (ms0_10 t).IsWhole := hstage0_10 ((cfg0.slots t 10).cast nbuf0_10)
/-- Window 11's staging buffer at a tile. -/
abbrev ms0_11 (t : Fin cfg0.N) : Memref sig .tc .vmem S512x128 .f32 := win0_11.stage (cfg0.slots t 11)
/-- Window 11's staging buffer is a whole buffer. -/
abbrev hs0_11 (t : Fin cfg0.N) : (ms0_11 t).IsWhole := hstage0_11 ((cfg0.slots t 11).cast nbuf0_11)

/-- The body at a tile, as the pipeline calls it. -/
abbrev bodyAt0 (t : Fin cfg0.N) : Prog (TpuEff nD τ sig (Elt Ideal) Λ₀ .tc) PUnit :=
  cc0__out_proj_kernel (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) scM (Memref.isWhole_whole _)

/-- A window's block at a tile, read off its array at launch. -/
def iblk (c : Dev nD) (w : Fin cfg0.W) (t : Fin cfg0.N) : ((cfg0.win w).xblock (cfg0.grid.coords t)).Idx → Elt Ideal (cfg0.win w).elt :=
  ((cfg0.win w).blk t).view.read (Elt Ideal) (V m c (Pipeline.arrRef spec0 w))

/-- The weights' block is the same at every tile. -/
theorem same4 (c : Dev nD) (t t' : Fin cfg0.N) : (iblk m c 4 t : Vec Ideal S1x1024x1024 .f32) = iblk m c 4 t' := rfl

/-- The scratch buffer's contents from the first tile on: the weights rounded. -/
def filled (c : Dev nD) (x4 : Vec Ideal S1x1024x1024 .f32) : Buf (Elt Ideal) ((c : Thread nD τ).loc cc0_scratch0) :=
  (View.whole cc0_scratch0).writes (Elt Ideal) (scM.view.junk (Val := Elt Ideal)) (runF.sl.HS_8 (Memref.whole cc0_stg4_0) x4)

/-- The first tile is the one numbered zero. -/
theorem first_iff : ∀ t : Fin grid0.N, First (grid0.coords t) ↔ t.val = 0 := by decide +kernel

/-- The stores that fill the scratch buffer do not depend on the staging buffer the weights are read from. -/
theorem fill_eq (arg5 : Memref sig .tc .vmem S1x1024x1024 .f32) (x4 : S1x1024x1024.Idx → Elt Ideal .f32) :
    runF.sl.HS_8 arg5 x4 = runF.sl.HS_8 (Memref.whole cc0_stg4_0) x4 := by
  delta runF.sl.HS_8
  simp only [View.readAt_rep]

/-- The first tile leaves the scratch buffer filled. -/
theorem scF (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S1x1024x1024 .f32) (harg5 : arg5.IsWhole) (arg6 : Memref sig .tc .vmem S1x1024 .f32) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1x128 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x128 .f32) (harg12 : arg12.IsWhole)
    (x0 : S512x1024.Idx → Elt Ideal .f32) (x1 : S512x512.Idx → Elt Ideal .bf16) (x2 : S512x256.Idx → Elt Ideal .bf16) (x3 : S512x256.Idx → Elt Ideal .bf16) (x4 : S1x1024x1024.Idx → Elt Ideal .f32) (x5 : S1x1024.Idx → Elt Ideal .f32) (x6 : S1024x128.Idx → Elt Ideal .bf16) (x7 : S1024x128.Idx → Elt Ideal .bf16) (x8 : S1x128.Idx → Elt Ideal .f32) (h : First i) :
    (runF c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 h).2.2.2.1 = filled c x4 := by
  have e : filled c x4 = (View.whole cc0_scratch0).writes (Elt Ideal) (scM.view.junk (Val := Elt Ideal)) (runF.sl.HS_8 arg5 x4) := by
    unfold filled
    rw [fill_eq arg5 x4]
  rw [e]
  sl_kernel_rfl

/-- A later tile leaves the scratch buffer as it was. -/
theorem scN (c : Dev nD) (i : grid0.Coords) (arg1 : Memref sig .tc .vmem S512x1024 .f32) (harg1 : arg1.IsWhole) (arg2 : Memref sig .tc .vmem S512x512 .bf16) (harg2 : arg2.IsWhole) (arg3 : Memref sig .tc .vmem S512x256 .bf16) (harg3 : arg3.IsWhole) (arg4 : Memref sig .tc .vmem S512x256 .bf16) (harg4 : arg4.IsWhole) (arg5 : Memref sig .tc .vmem S1x1024x1024 .f32) (harg5 : arg5.IsWhole) (arg6 : Memref sig .tc .vmem S1x1024 .f32) (harg6 : arg6.IsWhole) (arg7 : Memref sig .tc .vmem S1024x128 .bf16) (harg7 : arg7.IsWhole) (arg8 : Memref sig .tc .vmem S1024x128 .bf16) (harg8 : arg8.IsWhole) (arg9 : Memref sig .tc .vmem S1x128 .f32) (harg9 : arg9.IsWhole) (arg10 : Memref sig .tc .vmem S512x1024 .f32) (harg10 : arg10.IsWhole) (arg11 : Memref sig .tc .vmem S512x1024 .bf16) (harg11 : arg11.IsWhole) (arg12 : Memref sig .tc .vmem S512x128 .f32) (harg12 : arg12.IsWhole)
    (x0 : S512x1024.Idx → Elt Ideal .f32) (x1 : S512x512.Idx → Elt Ideal .bf16) (x2 : S512x256.Idx → Elt Ideal .bf16) (x3 : S512x256.Idx → Elt Ideal .bf16) (x4 : S1x1024x1024.Idx → Elt Ideal .f32) (x5 : S1x1024.Idx → Elt Ideal .f32) (x6 : S1024x128.Idx → Elt Ideal .bf16) (x7 : S1024x128.Idx → Elt Ideal .bf16) (x8 : S1x128.Idx → Elt Ideal .f32) (xa : Buf (Elt Ideal) ((c : Thread nD τ).loc cc0_scratch0)) (h : ¬First i) :
    (runN c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 xa h).2.2.2.1 = xa := by
  rfl

/-! ## The proof data -/

/-- What output window 9 holds after a tile. -/
def after9 (c : Dev nD) (t : Fin cfg0.N) : Vec Ideal S512x1024 .f32 :=
  if h : First (crd t) then VO9.read (Elt Ideal) (VO9.writes (Elt Ideal) (VO9.junk (Val := Elt Ideal)) (runF c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) h).1)
  else VO9.read (Elt Ideal) (VO9.writes (Elt Ideal) (VO9.junk (Val := Elt Ideal)) (runN c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (filled c (iblk m c 4 t)) h).1)

/-- What output window 10 holds after a tile. -/
def after10 (c : Dev nD) (t : Fin cfg0.N) : Vec Ideal S512x1024 .bf16 :=
  if h : First (crd t) then VO10.read (Elt Ideal) (VO10.writes (Elt Ideal) (VO10.junk (Val := Elt Ideal)) (runF c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) h).2.1)
  else VO10.read (Elt Ideal) (VO10.writes (Elt Ideal) (VO10.junk (Val := Elt Ideal)) (runN c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (filled c (iblk m c 4 t)) h).2.1)

/-- What output window 11 holds after a tile. -/
def after11 (c : Dev nD) (t : Fin cfg0.N) : Vec Ideal S512x128 .f32 :=
  if h : First (crd t) then VO11.read (Elt Ideal) (VO11.writes (Elt Ideal) (VO11.junk (Val := Elt Ideal)) (runF c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) h).2.2.1)
  else VO11.read (Elt Ideal) (VO11.writes (Elt Ideal) (VO11.junk (Val := Elt Ideal)) (runN c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (filled c (iblk m c 4 t)) h).2.2.1)

/-- The grid's first tile. -/
def tile0 : Fin cfg0.N := ⟨0, by rw [show cfg0.N = 32 from N_0]; omega⟩

/-- What holds between tiles: the scratch buffer holds the rounded weights after the first tile. -/
def Phi (c : Dev nD) (t : Fin (cfg0.N + 1)) : sProp 𝕄 :=
  iprop((∃ a, ⌜t.val ≠ 0 → a = filled c (iblk m c 4 tile0)⌝ ∗ (scM.view.loc (c : Thread nD τ) ↦{fullShare} a)) ∗ ∃ r, prngReg c r)

/-- The proof data of the pipeline. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => after9 m c t
    | ⟨10, _⟩ => after10 m c t
    | ⟨11, _⟩ => after11 m c t
  Φ t := Phi m c t
  q _ := fullShare
  owed _ := 0

/-- The arrays at launch. -/
theorem A_eq (c : Dev nD) (w : Fin cfg0.W) : (dats m 0 c).A w = V m c (Pipeline.arrRef spec0 w) := by
  dsimp only [dats]
/-- Window 0 after a tile. -/
theorem after0_0 (c : Dev nD) (t : Fin cfg0.N) : (dats m 0 c).after 0 t = iblk m c 0 t := by dsimp only [dats]
/-- Window 0 holds its block before a tile. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
/-- Window 1 after a tile. -/
theorem after0_1 (c : Dev nD) (t : Fin cfg0.N) : (dats m 0 c).after 1 t = iblk m c 1 t := by dsimp only [dats]
/-- Window 1 holds its block before a tile. -/
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
/-- Window 2 after a tile. -/
theorem after0_2 (c : Dev nD) (t : Fin cfg0.N) : (dats m 0 c).after 2 t = iblk m c 2 t := by dsimp only [dats]
/-- Window 2 holds its block before a tile. -/
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
/-- Window 3 after a tile. -/
theorem after0_3 (c : Dev nD) (t : Fin cfg0.N) : (dats m 0 c).after 3 t = iblk m c 3 t := by dsimp only [dats]
/-- Window 3 holds its block before a tile. -/
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
/-- Window 4 after a tile. -/
theorem after0_4 (c : Dev nD) (t : Fin cfg0.N) : (dats m 0 c).after 4 t = iblk m c 4 t := by dsimp only [dats]
/-- Window 4 holds its block before a tile. -/
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
/-- Window 5 after a tile. -/
theorem after0_5 (c : Dev nD) (t : Fin cfg0.N) : (dats m 0 c).after 5 t = iblk m c 5 t := by dsimp only [dats]
/-- Window 5 holds its block before a tile. -/
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
/-- Window 6 after a tile. -/
theorem after0_6 (c : Dev nD) (t : Fin cfg0.N) : (dats m 0 c).after 6 t = iblk m c 6 t := by dsimp only [dats]
/-- Window 6 holds its block before a tile. -/
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
/-- Window 7 after a tile. -/
theorem after0_7 (c : Dev nD) (t : Fin cfg0.N) : (dats m 0 c).after 7 t = iblk m c 7 t := by dsimp only [dats]
/-- Window 7 holds its block before a tile. -/
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
/-- Window 8 after a tile. -/
theorem after0_8 (c : Dev nD) (t : Fin cfg0.N) : (dats m 0 c).after 8 t = iblk m c 8 t := by dsimp only [dats]
/-- Window 8 holds its block before a tile. -/
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
/-- Window 9 after a tile. -/
theorem after0_9 (c : Dev nD) (t : Fin cfg0.N) : (dats m 0 c).after 9 t = after9 m c t := by dsimp only [dats]
/-- Window 10 after a tile. -/
theorem after0_10 (c : Dev nD) (t : Fin cfg0.N) : (dats m 0 c).after 10 t = after10 m c t := by dsimp only [dats]
/-- Window 11 after a tile. -/
theorem after0_11 (c : Dev nD) (t : Fin cfg0.N) : (dats m 0 c).after 11 t = after11 m c t := by dsimp only [dats]

set_option maxHeartbeats 4000000 in
/-- The body's obligation at a tile: the first, and a later one. -/
theorem sound_body (c : Dev nD) (t : Fin cfg0.N) :
    iprop((dats m 0 c).Φ t.castSucc ∗ (dats m 0 c).owesAt () t.castSucc
        ∗ (∃ d, owns (c : Thread nD τ) (ms0_0 t) fullShare ((dats m 0 c).before 0 t d))
        ∗ (∃ d, owns (c : Thread nD τ) (ms0_1 t) fullShare ((dats m 0 c).before 1 t d))
        ∗ (∃ d, owns (c : Thread nD τ) (ms0_2 t) fullShare ((dats m 0 c).before 2 t d))
        ∗ (∃ d, owns (c : Thread nD τ) (ms0_3 t) fullShare ((dats m 0 c).before 3 t d))
        ∗ (∃ d, owns (c : Thread nD τ) (ms0_4 t) fullShare ((dats m 0 c).before 4 t d))
        ∗ (∃ d, owns (c : Thread nD τ) (ms0_5 t) fullShare ((dats m 0 c).before 5 t d))
        ∗ (∃ d, owns (c : Thread nD τ) (ms0_6 t) fullShare ((dats m 0 c).before 6 t d))
        ∗ (∃ d, owns (c : Thread nD τ) (ms0_7 t) fullShare ((dats m 0 c).before 7 t d))
        ∗ (∃ d, owns (c : Thread nD τ) (ms0_8 t) fullShare ((dats m 0 c).before 8 t d))
        ∗ (∃ d, owns (c : Thread nD τ) (ms0_9 t) fullShare ((dats m 0 c).before 9 t d))
        ∗ (∃ d, owns (c : Thread nD τ) (ms0_10 t) fullShare ((dats m 0 c).before 10 t d))
        ∗ (∃ d, owns (c : Thread nD τ) (ms0_11 t) fullShare ((dats m 0 c).before 11 t d)))
      ⊢ wp frame (wpE (defs₀ (F := Ideal)) Variants.none c none) Set.univ (bodyAt0 t) fun _ =>
          iprop((dats m 0 c).Φ t.succ ∗ (dats m 0 c).owesAt () t.succ
            ∗ owns (c : Thread nD τ) (ms0_0 t) fullShare ((dats m 0 c).after 0 t)
            ∗ owns (c : Thread nD τ) (ms0_1 t) fullShare ((dats m 0 c).after 1 t)
            ∗ owns (c : Thread nD τ) (ms0_2 t) fullShare ((dats m 0 c).after 2 t)
            ∗ owns (c : Thread nD τ) (ms0_3 t) fullShare ((dats m 0 c).after 3 t)
            ∗ owns (c : Thread nD τ) (ms0_4 t) fullShare ((dats m 0 c).after 4 t)
            ∗ owns (c : Thread nD τ) (ms0_5 t) fullShare ((dats m 0 c).after 5 t)
            ∗ owns (c : Thread nD τ) (ms0_6 t) fullShare ((dats m 0 c).after 6 t)
            ∗ owns (c : Thread nD τ) (ms0_7 t) fullShare ((dats m 0 c).after 7 t)
            ∗ owns (c : Thread nD τ) (ms0_8 t) fullShare ((dats m 0 c).after 8 t)
            ∗ owns (c : Thread nD τ) (ms0_9 t) fullShare ((dats m 0 c).after 9 t)
            ∗ owns (c : Thread nD τ) (ms0_10 t) fullShare ((dats m 0 c).after 10 t)
            ∗ owns (c : Thread nD τ) (ms0_11 t) fullShare ((dats m 0 c).after 11 t)) := by
  simp only [before0_0, before0_1, before0_2, before0_3, before0_4, before0_5, before0_6, before0_7, before0_8, after0_0, after0_1, after0_2, after0_3, after0_4, after0_5, after0_6, after0_7, after0_8, after0_9, after0_10, after0_11]
  rewrite [show (dats m 0 c).Φ t.succ = Phi m c t.succ from rfl, show (dats m 0 c).Φ t.castSucc = Phi m c t.castSucc from rfl,
    show (dats m 0 c).owesAt () t.succ = (dats m 0 c).owesAt () t.castSucc from rfl]
  unfold Phi
  iintro ⟨⟨⟨%a, %ha, HS⟩, HP⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  by_cases h : First (crd t)
  · iapply ((runF c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) h).2.2.2.2 a _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [H7]; · iapply rep_of_owns; iexact H7
    isplitl [H8]; · iapply rep_of_owns; iexact H8
    isplitl [H9]; · iexists _; iexact H9
    isplitl [H10]; · iexists _; iexact H10
    isplitl [H11]; · iexists _; iexact H11
    isplitl [HS]; · iexact HS
    iintro ⟨H0, H1, H2, H3, H4, H5, H6, H7, H8, ⟨%e9, H9⟩, ⟨%e10, H10⟩, ⟨%e11, H11⟩, HS⟩
    isplitl [HS HP]
    · isplitl [HS]
      · iexists _; isplitr; swap
        · iexact HS
        · ipureintro; exact fun _ => (scF c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) h).trans (congrArg (filled c) (same4 m c t tile0))
      iexact HP
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    isplitl [H7]; · iapply owns_of_rep; iexact H7
    isplitl [H8]; · iapply owns_of_rep; iexact H8
    isplitl [H9]
    · unfold owns; iexists _; isplitr; swap
      · iexact H9
      · ipureintro; exact (View.read_writes_of_cover _ _ VO9 VO9.junk _ (coverrunF9 c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) h)).trans (show _ = after9 m c t by unfold after9; rw [dif_pos h])
    isplitl [H10]
    · unfold owns; iexists _; isplitr; swap
      · iexact H10
      · ipureintro; exact (View.read_writes_of_cover _ _ VO10 VO10.junk _ (coverrunF10 c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) h)).trans (show _ = after10 m c t by unfold after10; rw [dif_pos h])
    unfold owns; iexists _; isplitr; swap
    · iexact H11
    · ipureintro; exact (View.read_writes_of_cover _ _ VO11 VO11.junk _ (coverrunF11 c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) h)).trans (show _ = after11 m c t by unfold after11; rw [dif_pos h])
  · obtain rfl : a = filled c (iblk m c 4 t) := (ha fun e => h ((first_iff t).2 e)).trans (congrArg (filled c) (same4 m c tile0 t))
    iapply ((runN c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (filled c (iblk m c 4 t)) h).2.2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iapply rep_of_owns; iexact H6
    isplitl [H7]; · iapply rep_of_owns; iexact H7
    isplitl [H8]; · iapply rep_of_owns; iexact H8
    isplitl [H9]; · iexists _; iexact H9
    isplitl [H10]; · iexists _; iexact H10
    isplitl [H11]; · iexists _; iexact H11
    isplitl [HS]; · iexact HS
    iintro ⟨H0, H1, H2, H3, H4, H5, H6, H7, H8, ⟨%e9, H9⟩, ⟨%e10, H10⟩, ⟨%e11, H11⟩, HS⟩
    isplitl [HS HP]
    · isplitl [HS]
      · iexists _; isplitr; swap
        · iexact HS
        · ipureintro; exact fun _ => (scN c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (filled c (iblk m c 4 t)) h).trans (congrArg (filled c) (same4 m c t tile0))
      iexact HP
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iapply owns_of_rep; iexact H6
    isplitl [H7]; · iapply owns_of_rep; iexact H7
    isplitl [H8]; · iapply owns_of_rep; iexact H8
    isplitl [H9]
    · unfold owns; iexists _; isplitr; swap
      · iexact H9
      · ipureintro; exact (View.read_writes_of_cover _ _ VO9 VO9.junk _ (coverrunN9 c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (filled c (iblk m c 4 t)) h)).trans (show _ = after9 m c t by unfold after9; rw [dif_neg h])
    isplitl [H10]
    · unfold owns; iexists _; isplitr; swap
      · iexact H10
      · ipureintro; exact (View.read_writes_of_cover _ _ VO10 VO10.junk _ (coverrunN10 c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (filled c (iblk m c 4 t)) h)).trans (show _ = after10 m c t by unfold after10; rw [dif_neg h])
    unfold owns; iexists _; isplitr; swap
    · iexact H11
    · ipureintro; exact (View.read_writes_of_cover _ _ VO11 VO11.junk _ (coverrunN11 c (crd t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (iblk m c 0 t) (iblk m c 1 t) (iblk m c 2 t) (iblk m c 3 t) (iblk m c 4 t) (iblk m c 5 t) (iblk m c 6 t) (iblk m c 7 t) (iblk m c 8 t) (filled c (iblk m c 4 t)) h)).trans (show _ = after11 m c t by unfold after11; rw [dif_neg h])

/-- The pipeline's call of the body at a tile. -/
theorem defs₀_row (t : Fin cfg0.N) :
    defs₀ (F := Ideal) .tc cfg0.body (cfg0.bodyArgs t (cfg0.slots t)) = bodyAt0 t := by
  unfold defs₀; rw [Defs.onTc_tc]

/-- The body's obligation, as the pipeline asks it. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- Before the first tile nothing is known of the scratch buffer. -/
theorem phi0 (c : Dev nD) : Pipeline.ΦA spec0 c ⊢ (dats m 0 c).Φ 0 := by
  rw [show (dats m 0 c).Φ 0 = Phi m c 0 from rfl]
  unfold Pipeline.ΦA Phi
  rw [scopedRest0_eq]
  iintro ⟨⟨%a, HS⟩, HP⟩
  isplitl [HS]
  · iexists a; isplitr; swap
    · iexact HS
    · ipureintro; exact fun h => absurd rfl h
  iexact HP

/-- After the last tile the scratch buffer is forgotten. -/
theorem phiN (c : Dev nD) : (dats m 0 c).Φ (Fin.last cfg0.N) ⊢ Pipeline.ΦA spec0 c := by
  rw [show (dats m 0 c).Φ (Fin.last cfg0.N) = Phi m c (Fin.last _) from rfl]
  unfold Pipeline.ΦA Phi
  rw [scopedRest0_eq]
  iintro ⟨⟨%a, -, HS⟩, HP⟩
  isplitl [HS]
  · iexists a; iexact HS
  iexact HP

/-- The program is its one call. -/
theorem hmain : Pipeline.HMain (Ix := Unit) (Name := ℕ) (U := UR sig nD τ) (Lvl := ℕ) cfgs 0 defs₀ Variants.none m (main (F := Ideal)) (V m) :=
  Pipeline.hmain_region cfgs 0 defs₀ Variants.none m main fun c => by rw [main_chain]; rfl

set_option backward.isDefEq.respectTransparency.types false in
set_option maxHeartbeats 800000 in
/-- Every execution ends with the arrays at what the tiles left, and with every semaphore at zero. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m) (hA := A_eq m) (hin := phi0 m) (hout := phiN m)

/-- What the final memory is: every array at what the tiles left. -/
theorem run_main : θ_run defs (onTc (τ := τ) (main (F := Ideal))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).1 0).trans (((dats m 0 c).arrAt_in 0 rfl _).trans (A_eq m c 0)), ((h c).1 1).trans (((dats m 0 c).arrAt_in 1 rfl _).trans (A_eq m c 1)), ((h c).1 2).trans (((dats m 0 c).arrAt_in 2 rfl _).trans (A_eq m c 2)), ((h c).1 3).trans (((dats m 0 c).arrAt_in 3 rfl _).trans (A_eq m c 3)), ((h c).1 4).trans (((dats m 0 c).arrAt_in 4 rfl _).trans (A_eq m c 4)), ((h c).1 5).trans (((dats m 0 c).arrAt_in 5 rfl _).trans (A_eq m c 5)), ((h c).1 6).trans (((dats m 0 c).arrAt_in 6 rfl _).trans (A_eq m c 6)), ((h c).1 7).trans (((dats m 0 c).arrAt_in 7 rfl _).trans (A_eq m c 7)), ((h c).1 8).trans (((dats m 0 c).arrAt_in 8 rfl _).trans (A_eq m c 8))⟩) (run_main m ρ)

/-- The frame claim. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ) ((θ_run defs _ _).mono (fun _ h => h.2) (run_main_quiescent m ρ))

end Cert.Kernel3Ideal.Out

end
-- ==== Proof.OutRef.lean ====
module

public import proofs.«01_k».proof.Proof.Gen.Reference3Ideal.Run
public import Idealize.ShloMosaic.Lib.Pointwise
public import Idealize.ShloMosaic.Lib.Pipeline.ValueKit
public import Idealize.ShloMosaic.Lib.Tactic.CleanTypes

/-!
  The output projection's reference at an entry of its results: the residual plus the three mixers' products with their rows of the
  weights, and the root mean square norm of that row.
-/

@[expose] public section

set_option maxRecDepth 16384

noncomputable section

namespace Cert.OutSpec

open Idealize.ShloMosaic

/-- One entry of the residual: what comes in, plus the three mixers' products with their rows of the weights. -/
def mix (x : EReal) (a : Fin 512 → EReal) (g s : Fin 256 → EReal) (w : Fin 1024 → EReal) : EReal :=
  x + (∑ k : Fin 512, a k * w ⟨k, by omega⟩ + ∑ k : Fin 256, g k * w ⟨512 + k, by omega⟩ + ∑ k : Fin 256, s k * w ⟨768 + k, by omega⟩)

/-- One entry of the norm of a row `x`, scaled by `n`. -/
def norm (x : Fin 1024 → EReal) (n : EReal) (d : Fin 1024) : EReal :=
  x d * Ideal.rsqrt (Ideal.div (∑ j : Fin 1024, x j * x j) (Ideal.ofBits .f32 0x44800000#32) + Ideal.ofBits .f32 0x358637BD#32) * n

/-- A sum over the 1024 rows of the weights, by the three mixers' parts. -/
theorem sum_parts (f : Fin 1024 → EReal) :
    ∑ k : Fin 1024, f k = ∑ k : Fin 512, f ⟨k, by omega⟩ + ∑ k : Fin 256, f ⟨512 + k, by omega⟩ + ∑ k : Fin 256, f ⟨768 + k, by omega⟩ := by
  have h1 := Fin.sum_univ_add (a := 768) (b := 256) f
  have h2 := Fin.sum_univ_add (a := 512) (b := 256) (fun k : Fin 768 => f (Fin.castAdd 256 k))
  exact h1.trans (congrArg (· + _) h2)

end Cert.OutSpec

namespace Cert.Reference3Ideal.Out

open Idealize.ShloMosaic Idealize.ShloMosaic.TcCoe Idealize.SL.Sem Cert.Reference3Ideal Cert.Reference3Ideal.Gen Cert.OutSpec

/-- The three mixers' results side by side. -/
def cat (a1 : Vec Ideal S16384x512 .bf16) (a2 a3 : Vec Ideal S16384x256 .bf16) : Vec Ideal S16384x1024 .f32 :=
  concatenate S16384x1024 1 [⟨S16384x512, extf (F := Ideal) .f32 a1 bitsLt_bf16_f32⟩, ⟨S16384x256, extf (F := Ideal) .f32 a2 bitsLt_bf16_f32⟩, ⟨S16384x256, extf (F := Ideal) .f32 a3 bitsLt_bf16_f32⟩] concatenates_S16384x512_S16384x256_S16384x256_S16384x1024_d1

/-- The residual with the projection added, from the mixers' results side by side. -/
def proj (a0 b : Vec Ideal S16384x1024 .f32) (a4 : Vec Ideal S2x1024x1024 .f32) : Vec Ideal S16384x1024 .f32 :=
  addf (F := Ideal) (φ := .f32) a0 (Host.dotGeneral (F := Ideal) (φ₁ := .f32) (φ₂ := .f32) dot_S16384x1024_S1024x1024_S16384x1024_1_0_0_1_n_n none b (shapeCast _ (extractStridedSlice S1x1024x1024 ![0, 0, 0] a4 slices_S2x1024x1024_S1x1024x1024_0_0_0) shapeCasts_S1x1024x1024_S1024x1024))

/-- The norm of each row, scaled. -/
def normed (x : Vec Ideal S16384x1024 .f32) (a5 : Vec Ideal S1x1024 .f32) : Vec Ideal S16384x1024 .bf16 :=
  truncf (F := Ideal) .bf16 (mulf (F := Ideal) (φ := .f32) (mulf (F := Ideal) (φ := .f32) x (broadcastInDim S16384x1024 ![0, 1] bcast_S16384x1_S16384x1024_0_1 (Host.rsqrt (F := Ideal) (φ := .f32) (addf (F := Ideal) (φ := .f32) (Host.divf (F := Ideal) (φ := .f32) (broadcastInDim S16384x1 ![0] bcast_S16384_S16384x1_0 (Host.reduceAdd (F := Ideal) (φ := .f32) (mulf (F := Ideal) (φ := .f32) x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 (shapeCast _ a5 shapeCasts_S1x1024_S1024)))) bitsLt_bf16_f32

/-- The first part of the columns side by side. -/
theorem cat_at0 (a1 : Vec Ideal S16384x512 .bf16) (a2 a3 : Vec Ideal S16384x256 .bf16) (r : Fin 16384) (k : Fin 512) :
    cat a1 a2 a3 (ix2 r (⟨k, by omega⟩ : Fin 1024)) = a1 (ix2 r k) := by
  pointwise [cat]
/-- The second part of the columns side by side. -/
theorem cat_at1 (a1 : Vec Ideal S16384x512 .bf16) (a2 a3 : Vec Ideal S16384x256 .bf16) (r : Fin 16384) (k : Fin 256) :
    cat a1 a2 a3 (ix2 r (⟨512 + k, by omega⟩ : Fin 1024)) = a2 (ix2 r k) := by
  pointwise [cat]
/-- The third part of the columns side by side. -/
theorem cat_at2 (a1 : Vec Ideal S16384x512 .bf16) (a2 a3 : Vec Ideal S16384x256 .bf16) (r : Fin 16384) (k : Fin 256) :
    cat a1 a2 a3 (ix2 r (⟨768 + k, by omega⟩ : Fin 1024)) = a3 (ix2 r k) := by
  pointwise [cat]
  rw [dif_neg (by omega), dif_neg (by omega)]
  refine congrArg (fun z => a3 (ix2 r z)) (Fin.ext ?_)
  show 768 + (k : ℕ) - 512 - 256 = k
  omega

/-- The residual with the projection added, at an entry. -/
theorem proj_at (a0 b : Vec Ideal S16384x1024 .f32) (a4 : Vec Ideal S2x1024x1024 .f32) (r : Fin 16384) (d : Fin 1024) :
    proj a0 b a4 (ix2 r d) = a0 (ix2 r d) + ∑ k : Fin 1024, b (ix2 r k) * a4 (ix3 (0 : Fin 2) k d) := by
  pointwise [proj]

/-- The residual with the projection added, at an entry, by the mixers. -/
theorem mix_at (a0 : Vec Ideal S16384x1024 .f32) (a1 : Vec Ideal S16384x512 .bf16) (a2 a3 : Vec Ideal S16384x256 .bf16) (a4 : Vec Ideal S2x1024x1024 .f32) (r : Fin 16384) (d : Fin 1024) :
    proj a0 (cat a1 a2 a3) a4 (ix2 r d) = mix (a0 (ix2 r d)) (fun k => a1 (ix2 r k)) (fun k => a2 (ix2 r k)) (fun k => a3 (ix2 r k)) (fun k => a4 (ix3 (0 : Fin 2) k d)) := by
  rw [proj_at, sum_parts]
  simp only [cat_at0, cat_at1, cat_at2]
  rfl

/-- The norm at an entry. -/
theorem normed_at (x : Vec Ideal S16384x1024 .f32) (a5 : Vec Ideal S1x1024 .f32) (r : Fin 16384) (d : Fin 1024) :
    normed x a5 (ix2 r d) = norm (fun j => x (ix2 r j)) (a5 (ix2 (0 : Fin 1) d)) d := by
  pointwise [normed]
  rfl

end Cert.Reference3Ideal.Out

end
-- ==== Proof.OutAt.lean ====
module

public import proofs.«01_k».proof.Proof.OutBodyIdeal
public import proofs.«01_k».proof.Proof.OutRef

/-!
  What one tile of the output projection leaves in its first two outputs, at an entry: the residual plus the three mixers' products
  with their rows of the weights, and the norm of that row.
-/

@[expose] public section

set_option maxRecDepth 16384

noncomputable section

namespace Cert.Kernel3Ideal.Out

open Idealize.ShloMosaic Idealize.ShloMosaic.TcCoe Idealize.SL.Sem Cert.Kernel3Ideal Cert.Kernel3Ideal.Gen Cert.OutSpec

/-- The three products of half a tile, at an entry. -/
theorem pay10_at (v3 : Vec Ideal S256x512 .bf16) (v4 : Vec Ideal S512x1024 .bf16) (v6 : Vec Ideal S256x256 .bf16) (v7 : Vec Ideal S256x1024 .bf16) (v10 : Vec Ideal S256x256 .bf16) (v11 : Vec Ideal S256x1024 .bf16) (s : Fin 256) (d : Fin 1024) :
    k0_pay10 (F := Ideal) v3 v4 v6 v7 v10 v11 (ix2 s d) = ∑ k : Fin 512, v3 (ix2 s k) * v4 (ix2 k d) + ∑ k : Fin 256, v6 (ix2 s k) * v7 (ix2 k d) + ∑ k : Fin 256, v10 (ix2 s k) * v11 (ix2 k d) := by
  pointwise [k0_pay10]
/-- The three products of the other half, at an entry. -/
theorem pay11_at (v3 : Vec Ideal S256x512 .bf16) (v4 : Vec Ideal S512x1024 .bf16) (v6 : Vec Ideal S256x256 .bf16) (v7 : Vec Ideal S256x1024 .bf16) (v10 : Vec Ideal S256x256 .bf16) (v11 : Vec Ideal S256x1024 .bf16) (s : Fin 256) (d : Fin 1024) :
    k0_pay11 (F := Ideal) v3 v4 v6 v7 v10 v11 (ix2 s d) = ∑ k : Fin 512, v3 (ix2 s k) * v4 (ix2 k d) + ∑ k : Fin 256, v6 (ix2 s k) * v7 (ix2 k d) + ∑ k : Fin 256, v10 (ix2 s k) * v11 (ix2 k d) := by
  pointwise [k0_pay11]
/-- The residual of half a tile, at an entry. -/
theorem pay12_at (v13 v25 : Vec Ideal S256x1024 .f32) (s : Fin 256) (d : Fin 1024) : k0_pay12 (F := Ideal) v13 v25 (ix2 s d) = v25 (ix2 s d) + v13 (ix2 s d) := by
  pointwise [k0_pay12]
/-- The residual of the other half, at an entry. -/
theorem pay17_at (v13 v25 : Vec Ideal S256x1024 .f32) (s : Fin 256) (d : Fin 1024) : k0_pay17 (F := Ideal) v13 v25 (ix2 s d) = v25 (ix2 s d) + v13 (ix2 s d) := by
  pointwise [k0_pay17]
/-- The norm of half a tile, at an entry. -/
theorem pay14_at (v13 v25 : Vec Ideal S256x1024 .f32) (v38 : Vec Ideal S1x1024 .f32) (s : Fin 256) (d : Fin 1024) :
    k0_pay14 (F := Ideal) v13 v25 v38 (ix2 s d) = norm (fun j => v25 (ix2 s j) + v13 (ix2 s j)) (v38 (ix2 (0 : Fin 1) d)) d := by
  pointwise [k0_pay14, k0_pay13, k0_pay12]
  rfl
/-- The norm of the other half, at an entry. -/
theorem pay19_at (v13 v25 : Vec Ideal S256x1024 .f32) (v38 : Vec Ideal S1x1024 .f32) (s : Fin 256) (d : Fin 1024) :
    k0_pay19 (F := Ideal) (k0_pay18 v13 v25 v38) (ix2 s d) = norm (fun j => v25 (ix2 s j) + v13 (ix2 s j)) (v38 (ix2 (0 : Fin 1) d)) d := by
  pointwise [k0_pay19, k0_pay18, k0_pay17]
  rfl

/-- A block of rows of the weights, rounded, at an entry. -/
theorem pay2_at (v : Vec Ideal S1x128x1024 .f32) (r : Fin 128) (d : Fin 1024) : k0_pay2 (F := Ideal) v (ix2 r d) = v (ix3 (0 : Fin 1) r d) := by
  pointwise [k0_pay2]
/-- A block of rows of the weights, rounded, at an entry. -/
theorem pay3_at (v : Vec Ideal S1x128x1024 .f32) (r : Fin 128) (d : Fin 1024) : k0_pay3 (F := Ideal) v (ix2 r d) = v (ix3 (0 : Fin 1) r d) := by
  pointwise [k0_pay3]
/-- A block of rows of the weights, rounded, at an entry. -/
theorem pay4_at (v : Vec Ideal S1x128x1024 .f32) (r : Fin 128) (d : Fin 1024) : k0_pay4 (F := Ideal) v (ix2 r d) = v (ix3 (0 : Fin 1) r d) := by
  pointwise [k0_pay4]
/-- A block of rows of the weights, rounded, at an entry. -/
theorem pay5_at (v : Vec Ideal S1x128x1024 .f32) (r : Fin 128) (d : Fin 1024) : k0_pay5 (F := Ideal) v (ix2 r d) = v (ix3 (0 : Fin 1) r d) := by
  pointwise [k0_pay5]
/-- A block of rows of the weights, rounded, at an entry. -/
theorem pay6_at (v : Vec Ideal S1x128x1024 .f32) (r : Fin 128) (d : Fin 1024) : k0_pay6 (F := Ideal) v (ix2 r d) = v (ix3 (0 : Fin 1) r d) := by
  pointwise [k0_pay6]
/-- A block of rows of the weights, rounded, at an entry. -/
theorem pay7_at (v : Vec Ideal S1x128x1024 .f32) (r : Fin 128) (d : Fin 1024) : k0_pay7 (F := Ideal) v (ix2 r d) = v (ix3 (0 : Fin 1) r d) := by
  pointwise [k0_pay7]
/-- A block of rows of the weights, rounded, at an entry. -/
theorem pay8_at (v : Vec Ideal S1x128x1024 .f32) (r : Fin 128) (d : Fin 1024) : k0_pay8 (F := Ideal) v (ix2 r d) = v (ix3 (0 : Fin 1) r d) := by
  pointwise [k0_pay8]
/-- A block of rows of the weights, rounded, at an entry. -/
theorem pay9_at (v : Vec Ideal S1x128x1024 .f32) (r : Fin 128) (d : Fin 1024) : k0_pay9 (F := Ideal) v (ix2 r d) = v (ix3 (0 : Fin 1) r d) := by
  pointwise [k0_pay9]

end Cert.Kernel3Ideal.Out

end
-- ==== Proof.OutTile.lean ====
module

public import proofs.«01_k».proof.Proof.OutAt

/-!
  The first two outputs of a tile of the output projection, at an entry, from the tile's inputs and the weights.
-/

@[expose] public section

set_option maxRecDepth 16384

noncomputable section

namespace Cert.Kernel3Ideal.Out

open Idealize.ShloMosaic Idealize.ShloMosaic.TcCoe Idealize.SL.Sem Cert.Kernel3Ideal Cert.Kernel3Ideal.Gen Cert.OutSpec

/-- An index of a block of rows, from the array it lies in. -/
theorem row_idx {A n m o : ℕ} (inb : ∀ a, (![o, 0] : Fin 2 → ℕ) a + (⟨2, ![n, m]⟩ : Shape).size a ≤ (⟨2, ![A, m]⟩ : Shape).size a) (s : Fin n) (k : Fin m) (h : o + s.val < A) :
    (Rect.unit (s := ⟨2, ![A, m]⟩) ![o, 0] (⟨2, ![n, m]⟩ : Shape).size inb).toLoadRect.idx (ix2 s k) = ix2 (⟨o + s.val, h⟩ : Fin A) k := by
  funext a
  match a with
  | 0 => exact Fin.ext (by show o + 1 * s.val = o + s.val; omega)
  | 1 => exact Fin.ext (by show 0 + 1 * k.val = k.val; omega)

/-- A block of rows of the scratch buffer, at an entry. -/
theorem scr_at {n o : ℕ} (inb : ∀ a, (![o, 0] : Fin 2 → ℕ) a + (⟨2, ![n, 1024]⟩ : Shape).size a ≤ S1024x1024.size a) (c : Dev nD) (xa : Buf (Elt Ideal) ((c : Thread nD τ).loc cc0_scratch0))
    (x4 : Vec Ideal S1x1024x1024 .f32) (hS : ∀ k d : Fin 1024, (xa : Vec Ideal S1024x1024 .bf16) (ix2 k d) = x4 (ix3 (0 : Fin 1) k d)) (k : Fin n) (d : Fin 1024) (h : o + k.val < 1024) :
    View.readAt (Elt Ideal) scM.view (Rect.unit (s := S1024x1024) ![o, 0] (⟨2, ![n, 1024]⟩ : Shape).size inb).toLoadRect xa (ix2 k d) = x4 (ix3 (0 : Fin 1) (⟨o + k.val, h⟩ : Fin 1024) d) := by
  refine (congrFun (View.read_whole (Val := Elt Ideal) cc0_scratch0 xa) _).trans ?_
  exact (congrArg (xa : Vec Ideal S1024x1024 .bf16) (row_idx inb k d h)).trans (hS _ _)

/-- The residual of the half tile from row 0, at an entry. -/
theorem mixr0 (c : Dev nD) (arg2 : Memref sig .tc .vmem S512x512 .bf16) (arg3 : Memref sig .tc .vmem S512x256 .bf16) (arg4 : Memref sig .tc .vmem S512x256 .bf16) (x1 : Vec Ideal S512x512 .bf16) (x2 : Vec Ideal S512x256 .bf16) (x3 : Vec Ideal S512x256 .bf16) (x4 : Vec Ideal S1x1024x1024 .f32) (xa : Buf (Elt Ideal) ((c : Thread nD τ).loc cc0_scratch0)) (hS : ∀ k d : Fin 1024, (xa : Vec Ideal S1024x1024 .bf16) (ix2 k d) = x4 (ix3 (0 : Fin 1) k d)) (x : EReal) (s : Fin 256) (d : Fin 1024) :
    x + runN.sl.r c arg2 arg3 arg4 x1 x2 x3 xa (ix2 s d)
      = mix x (fun k => x1 (ix2 (⟨0 + s.val, by omega⟩ : Fin 512) k)) (fun k => x2 (ix2 (⟨0 + s.val, by omega⟩ : Fin 512) k)) (fun k => x3 (ix2 (⟨0 + s.val, by omega⟩ : Fin 512) k)) (fun k => x4 (ix3 (0 : Fin 1) k d)) := by
  delta runN.sl.r
  simp only [View.readAt_rep]
  rw [pay10_at]
  unfold mix
  refine congrArg (x + ·) (congrArg₂ (· + ·) (congrArg₂ (· + ·) (Finset.sum_congr rfl fun k _ => ?_) (Finset.sum_congr rfl fun k _ => ?_)) (Finset.sum_congr rfl fun k _ => ?_))
  · refine congrArg₂ (· * ·) (congrArg x1 (row_idx _ s k _)) ((scr_at _ c xa x4 hS k d (by omega)).trans (congrArg x4 ?_))
    exact congrArg (fun z : Fin 1024 => ix3 (0 : Fin 1) z d) (Fin.ext (Nat.zero_add _))
  · exact congrArg₂ (· * ·) (congrArg x2 (row_idx _ s k _)) (scr_at _ c xa x4 hS k d (by omega))
  · exact congrArg₂ (· * ·) (congrArg x3 (row_idx _ s k _)) (scr_at _ c xa x4 hS k d (by omega))

/-- The residual of the half tile from row 256, at an entry. -/
theorem mixr256 (c : Dev nD) (arg2 : Memref sig .tc .vmem S512x512 .bf16) (arg3 : Memref sig .tc .vmem S512x256 .bf16) (arg4 : Memref sig .tc .vmem S512x256 .bf16) (x1 : Vec Ideal S512x512 .bf16) (x2 : Vec Ideal S512x256 .bf16) (x3 : Vec Ideal S512x256 .bf16) (x4 : Vec Ideal S1x1024x1024 .f32) (xa : Buf (Elt Ideal) ((c : Thread nD τ).loc cc0_scratch0)) (hS : ∀ k d : Fin 1024, (xa : Vec Ideal S1024x1024 .bf16) (ix2 k d) = x4 (ix3 (0 : Fin 1) k d)) (x : EReal) (s : Fin 256) (d : Fin 1024) :
    x + runN.sl.r_1 c arg2 arg3 arg4 x1 x2 x3 xa (ix2 s d)
      = mix x (fun k => x1 (ix2 (⟨256 + s.val, by omega⟩ : Fin 512) k)) (fun k => x2 (ix2 (⟨256 + s.val, by omega⟩ : Fin 512) k)) (fun k => x3 (ix2 (⟨256 + s.val, by omega⟩ : Fin 512) k)) (fun k => x4 (ix3 (0 : Fin 1) k d)) := by
  delta runN.sl.r_1
  simp only [View.readAt_rep]
  rw [pay11_at]
  unfold mix
  refine congrArg (x + ·) (congrArg₂ (· + ·) (congrArg₂ (· + ·) (Finset.sum_congr rfl fun k _ => ?_) (Finset.sum_congr rfl fun k _ => ?_)) (Finset.sum_congr rfl fun k _ => ?_))
  · refine congrArg₂ (· * ·) (congrArg x1 (row_idx _ s k _)) ((scr_at _ c xa x4 hS k d (by omega)).trans (congrArg x4 ?_))
    exact congrArg (fun z : Fin 1024 => ix3 (0 : Fin 1) z d) (Fin.ext (Nat.zero_add _))
  · exact congrArg₂ (· * ·) (congrArg x2 (row_idx _ s k _)) (scr_at _ c xa x4 hS k d (by omega))
  · exact congrArg₂ (· * ·) (congrArg x3 (row_idx _ s k _)) (scr_at _ c xa x4 hS k d (by omega))

/-- A tile's residual, row by row. -/
def tileMix (x0 : Vec Ideal S512x1024 .f32) (x1 : Vec Ideal S512x512 .bf16) (x2 : Vec Ideal S512x256 .bf16) (x3 : Vec Ideal S512x256 .bf16) (x4 : Vec Ideal S1x1024x1024 .f32) (r : Fin 512) (d : Fin 1024) : EReal :=
  mix (x0 (ix2 r d)) (fun k => x1 (ix2 r k)) (fun k => x2 (ix2 r k)) (fun k => x3 (ix2 r k)) (fun k => x4 (ix3 (0 : Fin 1) k d))

/-- A half tile's rows, as rows of the tile. -/
theorem lift_rows {α : Type} (o : ℕ) (ho : o + 256 ≤ 512) (inb : ∀ a, (![o, 0] : Fin 2 → ℕ) a + S256x1024.size a ≤ S512x1024.size a) (f : S256x1024.Idx → α) (g : Fin 512 → Fin 1024 → α)
    (h : ∀ (s : Fin 256) (d : Fin 1024), f (ix2 s d) = g ⟨o + s.val, by omega⟩ d) (x : (Rect.unit (s := S512x1024) ![o, 0] S256x1024.size inb).shape.Idx) :
    f x = g ((Rect.unit (s := S512x1024) ![o, 0] S256x1024.size inb).emb x 0 : Fin 512) ((Rect.unit (s := S512x1024) ![o, 0] S256x1024.size inb).emb x 1 : Fin 1024) := by
  have e : x = ix2 (x 0 : Fin 256) (x 1 : Fin 1024) := by
    funext a
    match a with
    | 0 => rfl
    | 1 => rfl
  refine (congrArg f e).trans ((h (x 0 : Fin 256) (x 1 : Fin 1024)).trans (congrArg₂ g (Fin.ext ?_) (Fin.ext ?_)))
  · show o + (x 0 : Fin 256).val = o + 1 * (x 0 : Fin 256).val
    omega
  · show (x 1 : Fin 1024).val = 0 + 1 * (x 1 : Fin 1024).val
    omega

/-- What the first output's stores leave, at an entry. -/
theorem out9_at (c : Dev nD) (arg1 : Memref sig .tc .vmem S512x1024 .f32) (arg2 : Memref sig .tc .vmem S512x512 .bf16) (arg3 : Memref sig .tc .vmem S512x256 .bf16) (arg4 : Memref sig .tc .vmem S512x256 .bf16) (x0 : Vec Ideal S512x1024 .f32) (x1 : Vec Ideal S512x512 .bf16) (x2 : Vec Ideal S512x256 .bf16) (x3 : Vec Ideal S512x256 .bf16) (x4 : Vec Ideal S1x1024x1024 .f32) (xa : Buf (Elt Ideal) ((c : Thread nD τ).loc cc0_scratch0)) (hS : ∀ k d : Fin 1024, (xa : Vec Ideal S1024x1024 .bf16) (ix2 k d) = x4 (ix3 (0 : Fin 1) k d))
    (y : S512x1024.Idx) (h : ∃ p ∈ runN.sl.HO9_2 c arg1 arg2 arg3 arg4 x0 x1 x2 x3 xa, y ∈ p.1.set) :
    VO9.read (Elt Ideal) (VO9.writes (Elt Ideal) (VO9.junk (Val := Elt Ideal)) (runN.sl.HO9_2 c arg1 arg2 arg3 arg4 x0 x1 x2 x3 xa)) y = tileMix x0 x1 x2 x3 x4 (y 0 : Fin 512) (y 1 : Fin 1024) := by
  refine View.read_writes_apply_of_pieces (Val := Elt Ideal) VO9 (VO9.junk (Val := Elt Ideal)) (fun y : S512x1024.Idx => tileMix x0 x1 x2 x3 x4 (y 0 : Fin 512) (y 1 : Fin 1024)) (runN.sl.HO9_2 c arg1 arg2 arg3 arg4 x0 x1 x2 x3 xa) (fun p hp x => ?_) _ h
  revert hp x
  delta runN.sl.HO9_2
  intro hp x
  simp only [View.readAt_rep, List.mem_cons, List.not_mem_nil, or_false] at hp
  rcases hp with rfl | rfl
  · refine lift_rows 256 (by omega) inb_S512x1024_S256x1024_256_0 _ (tileMix x0 x1 x2 x3 x4) (fun s d => ?_) x
    refine (pay17_at (runN.sl.r_1 c arg2 arg3 arg4 x1 x2 x3 xa) (fun y => x0 ((Rect.unit (s := S512x1024) ![256, 0] S256x1024.size inb_S512x1024_S256x1024_256_0).toLoadRect.idx y)) s d).trans ?_
    refine (mixr256 c arg2 arg3 arg4 x1 x2 x3 x4 xa hS _ s d).trans ?_
    exact congrArg (fun z => mix z _ _ _ _) (congrArg x0 (row_idx (A := 512) (o := 256) _ s d (by omega)))
  · refine lift_rows 0 (by omega) inb_S512x1024_S256x1024_0_0 _ (tileMix x0 x1 x2 x3 x4) (fun s d => ?_) x
    refine (pay12_at (runN.sl.r c arg2 arg3 arg4 x1 x2 x3 xa) (fun y => x0 ((Rect.unit (s := S512x1024) ![0, 0] S256x1024.size inb_S512x1024_S256x1024_0_0).toLoadRect.idx y)) s d).trans ?_
    refine (mixr0 c arg2 arg3 arg4 x1 x2 x3 x4 xa hS _ s d).trans ?_
    exact congrArg (fun z => mix z _ _ _ _) (congrArg x0 (row_idx (A := 512) (o := 0) _ s d (by omega)))

/-- What the second output's stores leave, at an entry. -/
theorem out10_at (c : Dev nD) (arg1 : Memref sig .tc .vmem S512x1024 .f32) (arg2 : Memref sig .tc .vmem S512x512 .bf16) (arg3 : Memref sig .tc .vmem S512x256 .bf16) (arg4 : Memref sig .tc .vmem S512x256 .bf16) (arg6 : Memref sig .tc .vmem S1x1024 .f32) (x0 : Vec Ideal S512x1024 .f32) (x1 : Vec Ideal S512x512 .bf16) (x2 : Vec Ideal S512x256 .bf16) (x3 : Vec Ideal S512x256 .bf16) (x4 : Vec Ideal S1x1024x1024 .f32) (x5 : Vec Ideal S1x1024 .f32) (xa : Buf (Elt Ideal) ((c : Thread nD τ).loc cc0_scratch0)) (hS : ∀ k d : Fin 1024, (xa : Vec Ideal S1024x1024 .bf16) (ix2 k d) = x4 (ix3 (0 : Fin 1) k d))
    (y : S512x1024.Idx) (h : ∃ p ∈ runN.sl.HO10_2 c arg1 arg2 arg3 arg4 arg6 x0 x1 x2 x3 x5 xa, y ∈ p.1.set) :
    VO10.read (Elt Ideal) (VO10.writes (Elt Ideal) (VO10.junk (Val := Elt Ideal)) (runN.sl.HO10_2 c arg1 arg2 arg3 arg4 arg6 x0 x1 x2 x3 x5 xa)) y
      = norm (fun j => tileMix x0 x1 x2 x3 x4 (y 0 : Fin 512) j) (x5 (ix2 (0 : Fin 1) (y 1 : Fin 1024))) (y 1 : Fin 1024) := by
  refine View.read_writes_apply_of_pieces (Val := Elt Ideal) VO10 (VO10.junk (Val := Elt Ideal)) (fun y : S512x1024.Idx => norm (fun j => tileMix x0 x1 x2 x3 x4 (y 0 : Fin 512) j) (x5 (ix2 (0 : Fin 1) (y 1 : Fin 1024))) (y 1 : Fin 1024)) (runN.sl.HO10_2 c arg1 arg2 arg3 arg4 arg6 x0 x1 x2 x3 x5 xa) (fun p hp x => ?_) _ h
  revert hp x
  delta runN.sl.HO10_2 runN.sl.r_4
  intro hp x
  simp only [View.readAt_rep, List.mem_cons, List.not_mem_nil, or_false] at hp
  rcases hp with rfl | rfl
  · refine lift_rows 256 (by omega) inb_S512x1024_S256x1024_256_0 _ (fun r d => norm (fun j => tileMix x0 x1 x2 x3 x4 r j) (x5 (ix2 (0 : Fin 1) d)) d) (fun s d => ?_) x
    refine (pay19_at _ _ _ s d).trans (congrArg₂ (fun f z => norm f z d) (funext fun j => ?_) (congrArg x5 ?_))
    · refine (mixr256 c arg2 arg3 arg4 x1 x2 x3 x4 xa hS _ s j).trans ?_
      exact (congrArg (fun z => mix z _ _ _ _) (congrArg x0 (row_idx (A := 512) (o := 256) _ s j (by omega))))
    · exact row_idx _ (0 : Fin 1) d (by omega)
  · refine lift_rows 0 (by omega) inb_S512x1024_S256x1024_0_0 _ (fun r d => norm (fun j => tileMix x0 x1 x2 x3 x4 r j) (x5 (ix2 (0 : Fin 1) d)) d) (fun s d => ?_) x
    refine (pay14_at _ _ _ s d).trans (congrArg₂ (fun f z => norm f z d) (funext fun j => ?_) (congrArg x5 ?_))
    · refine (mixr0 c arg2 arg3 arg4 x1 x2 x3 x4 xa hS _ s j).trans ?_
      exact (congrArg (fun z => mix z _ _ _ _) (congrArg x0 (row_idx (A := 512) (o := 0) _ s j (by omega))))
    · exact row_idx _ (0 : Fin 1) d (by omega)

end Cert.Kernel3Ideal.Out

end
-- ==== Proof.OutValue.lean ====
module

public import proofs.«01_k».proof.Proof.OutRunIdeal
public import proofs.«01_k».proof.Proof.OutTile
public import Idealize.ShloMosaic.Lib.Pipeline.Covers

/-!
  The first two arrays the output projection's tiles leave, at an entry, from its arguments.
-/

@[expose] public section

set_option maxRecDepth 16384

noncomputable section

namespace Cert.Kernel3Ideal.Out

open Idealize.ShloMosaic Idealize.ShloMosaic.TcCoe Idealize.SL.Sem Cert.Kernel3Ideal Cert.Kernel3Ideal.Gen Cert.OutSpec
open Idealize.ShloMosaic.Pipeline (Dat Cfg Window)

/-- A block of 128 rows of the weights, rounded, is those rows. -/
theorem block_at (o : ℕ) (inb : ∀ a, (![0, o, 0] : Fin 3 → ℕ) a + S1x128x1024.size a ≤ S1x1024x1024.size a) (inb' : ∀ a, (![o, 0] : Fin 2 → ℕ) a + S128x1024.size a ≤ S1024x1024.size a)
    (pay : Vec Ideal S1x128x1024 .f32 → Vec Ideal S128x1024 .bf16) (hp : ∀ v (r : Fin 128) (d : Fin 1024), pay v (ix2 r d) = v (ix3 (0 : Fin 1) r d))
    (x4 : Vec Ideal S1x1024x1024 .f32) (x : (Rect.unit (s := S1024x1024) ![o, 0] S128x1024.size inb').shape.Idx) :
    pay (fun y => x4 ((Rect.unit (s := S1x1024x1024) ![0, o, 0] S1x128x1024.size inb).toLoadRect.idx y)) x
      = x4 (ix3 (0 : Fin 1) ((Rect.unit (s := S1024x1024) ![o, 0] S128x1024.size inb').emb x 0 : Fin 1024) ((Rect.unit (s := S1024x1024) ![o, 0] S128x1024.size inb').emb x 1 : Fin 1024)) := by
  have e : x = ix2 (x 0 : Fin 128) (x 1 : Fin 1024) := by
    funext a
    match a with
    | 0 => rfl
    | 1 => rfl
  refine (congrArg (pay _) e).trans ((hp _ _ _).trans (congrArg x4 ?_))
  funext a
  match a with
  | 0 => rfl
  | 1 => rfl
  | 2 => rfl

/-- The scratch buffer filled holds the weights. -/
theorem filled_at (c : Dev nD) (x4 : Vec Ideal S1x1024x1024 .f32) (k d : Fin 1024) :
    (filled c x4 : Vec Ideal S1024x1024 .bf16) (ix2 k d) = x4 (ix3 (0 : Fin 1) k d) := by
  refine (congrFun (View.read_whole (Val := Elt Ideal) cc0_scratch0 (filled c x4)) (ix2 k d)).symm.trans ?_
  refine View.read_writes_apply_of_pieces (Val := Elt Ideal) (View.whole cc0_scratch0) (scM.view.junk (Val := Elt Ideal)) (fun y : S1024x1024.Idx => x4 (ix3 (0 : Fin 1) (y 0 : Fin 1024) (y 1 : Fin 1024))) (runF.sl.HS_8 (Memref.whole cc0_stg4_0) x4) (fun p hp x => ?_) _
    (View.cover_of_tiledL (runF.sl.HS_8 (Memref.whole cc0_stg4_0) x4) S128x1024.size (by sl_kernel_rfl) _)
  revert hp x
  delta runF.sl.HS_8
  intro hp x
  simp only [View.readAt_rep, List.mem_cons, List.not_mem_nil, or_false] at hp
  rcases hp with rfl | rfl | rfl | rfl | rfl | rfl | rfl | rfl
  · exact block_at 896 inb_S1x1024x1024_S1x128x1024_0_896_0 inb_S1024x1024_S128x1024_896_0 k0_pay9 pay9_at x4 x
  · exact block_at 768 inb_S1x1024x1024_S1x128x1024_0_768_0 inb_S1024x1024_S128x1024_768_0 k0_pay8 pay8_at x4 x
  · exact block_at 640 inb_S1x1024x1024_S1x128x1024_0_640_0 inb_S1024x1024_S128x1024_640_0 k0_pay7 pay7_at x4 x
  · exact block_at 512 inb_S1x1024x1024_S1x128x1024_0_512_0 inb_S1024x1024_S128x1024_512_0 k0_pay6 pay6_at x4 x
  · exact block_at 384 inb_S1x1024x1024_S1x128x1024_0_384_0 inb_S1024x1024_S128x1024_384_0 k0_pay5 pay5_at x4 x
  · exact block_at 256 inb_S1x1024x1024_S1x128x1024_0_256_0 inb_S1024x1024_S128x1024_256_0 k0_pay4 pay4_at x4 x
  · exact block_at 128 inb_S1x1024x1024_S1x128x1024_0_128_0 inb_S1024x1024_S128x1024_128_0 k0_pay3 pay3_at x4 x
  · exact block_at 0 inb_S1x1024x1024_S1x128x1024_0_0_0 inb_S1024x1024_S128x1024_0_0 k0_pay2 pay2_at x4 x

/-- The first output's stores at the first tile are those of a later tile with the scratch buffer filled. -/
theorem out9_eq (c : Dev nD) (arg1 : Memref sig .tc .vmem S512x1024 .f32) (arg2 : Memref sig .tc .vmem S512x512 .bf16) (arg3 : Memref sig .tc .vmem S512x256 .bf16) (arg4 : Memref sig .tc .vmem S512x256 .bf16) (arg5 : Memref sig .tc .vmem S1x1024x1024 .f32) (x0 : S512x1024.Idx → Elt Ideal .f32) (x1 : S512x512.Idx → Elt Ideal .bf16) (x2 : S512x256.Idx → Elt Ideal .bf16) (x3 : S512x256.Idx → Elt Ideal .bf16) (x4 : S1x1024x1024.Idx → Elt Ideal .f32) :
    runF.sl.HO9_2 arg1 arg2 arg3 arg4 arg5 x0 x1 x2 x3 x4 = runN.sl.HO9_2 c arg1 arg2 arg3 arg4 x0 x1 x2 x3 (filled c x4) := by
  delta runF.sl.HO9_2 runN.sl.HO9_2 runF.sl.r runF.sl.r_1 runN.sl.r runN.sl.r_1 runF.sl.v4 runF.sl.v7 runF.sl.v11
  rw [fill_eq arg5 x4]
  rfl

/-- The second output's stores at the first tile are those of a later tile with the scratch buffer filled. -/
theorem out10_eq (c : Dev nD) (arg1 : Memref sig .tc .vmem S512x1024 .f32) (arg2 : Memref sig .tc .vmem S512x512 .bf16) (arg3 : Memref sig .tc .vmem S512x256 .bf16) (arg4 : Memref sig .tc .vmem S512x256 .bf16) (arg5 : Memref sig .tc .vmem S1x1024x1024 .f32) (arg6 : Memref sig .tc .vmem S1x1024 .f32) (x0 : S512x1024.Idx → Elt Ideal .f32) (x1 : S512x512.Idx → Elt Ideal .bf16) (x2 : S512x256.Idx → Elt Ideal .bf16) (x3 : S512x256.Idx → Elt Ideal .bf16) (x4 : S1x1024x1024.Idx → Elt Ideal .f32) (x5 : S1x1024.Idx → Elt Ideal .f32) :
    runF.sl.HO10_2 arg1 arg2 arg3 arg4 arg5 arg6 x0 x1 x2 x3 x4 x5 = runN.sl.HO10_2 c arg1 arg2 arg3 arg4 arg6 x0 x1 x2 x3 x5 (filled c x4) := by
  delta runF.sl.HO10_2 runN.sl.HO10_2 runF.sl.r_4 runN.sl.r_4 runF.sl.r runF.sl.r_1 runN.sl.r runN.sl.r_1 runF.sl.v4 runF.sl.v7 runF.sl.v11
  rw [fill_eq arg5 x4]
  rfl

variable (m : (ℓ : Loc nD τ sig) → Buf (Elt Ideal) ℓ) (c : Dev nD)

/-- There are 32 tiles. -/
theorem lt32 (t : Fin cfg0.N) : (t : ℕ) < 32 := by
  have h := t.isLt
  have e : cfg0.N = 32 := N_0
  omega

/-- What output window 9 holds after a tile, at an entry. -/
theorem after9_at (t : Fin cfg0.N) (s : Fin 512) (d : Fin 1024) :
    after9 m c t (ix2 s d) = tileMix (iblk m c 0 t) (iblk m c 1 t) (iblk m c 2 t) (iblk m c 3 t) (iblk m c 4 t) s d := by
  unfold after9
  split
  · refine (congrFun (congrArg (fun L => VO9.read (Elt Ideal) (VO9.writes (Elt Ideal) (VO9.junk (Val := Elt Ideal)) L)) (out9_eq c (ms0_0 t) (ms0_1 t) (ms0_2 t) (ms0_3 t) (ms0_4 t) (iblk m c 0 t) (iblk m c 1 t) (iblk m c 2 t) (iblk m c 3 t) (iblk m c 4 t))) (ix2 s d)).trans ?_
    exact out9_at c (ms0_0 t) (ms0_1 t) (ms0_2 t) (ms0_3 t) (iblk m c 0 t) (iblk m c 1 t) (iblk m c 2 t) (iblk m c 3 t) (iblk m c 4 t) (filled c (iblk m c 4 t)) (filled_at c (iblk m c 4 t)) (ix2 s d)
      (View.cover_of_tiledL (runN.sl.HO9_2 c (ms0_0 t) (ms0_1 t) (ms0_2 t) (ms0_3 t) (iblk m c 0 t) (iblk m c 1 t) (iblk m c 2 t) (iblk m c 3 t) (filled c (iblk m c 4 t))) S256x1024.size (by sl_kernel_rfl) (ix2 s d))
  · exact out9_at c (ms0_0 t) (ms0_1 t) (ms0_2 t) (ms0_3 t) (iblk m c 0 t) (iblk m c 1 t) (iblk m c 2 t) (iblk m c 3 t) (iblk m c 4 t) (filled c (iblk m c 4 t)) (filled_at c (iblk m c 4 t)) (ix2 s d)
      (View.cover_of_tiledL (runN.sl.HO9_2 c (ms0_0 t) (ms0_1 t) (ms0_2 t) (ms0_3 t) (iblk m c 0 t) (iblk m c 1 t) (iblk m c 2 t) (iblk m c 3 t) (filled c (iblk m c 4 t))) S256x1024.size (by sl_kernel_rfl) (ix2 s d))

/-- What output window 10 holds after a tile, at an entry. -/
theorem after10_at (t : Fin cfg0.N) (s : Fin 512) (d : Fin 1024) :
    after10 m c t (ix2 s d) = norm (fun j => tileMix (iblk m c 0 t) (iblk m c 1 t) (iblk m c 2 t) (iblk m c 3 t) (iblk m c 4 t) s j) ((iblk m c 5 t : Vec Ideal S1x1024 .f32) (ix2 (0 : Fin 1) d)) d := by
  unfold after10
  split
  · refine (congrFun (congrArg (fun L => VO10.read (Elt Ideal) (VO10.writes (Elt Ideal) (VO10.junk (Val := Elt Ideal)) L)) (out10_eq c (ms0_0 t) (ms0_1 t) (ms0_2 t) (ms0_3 t) (ms0_4 t) (ms0_5 t) (iblk m c 0 t) (iblk m c 1 t) (iblk m c 2 t) (iblk m c 3 t) (iblk m c 4 t) (iblk m c 5 t))) (ix2 s d)).trans ?_
    exact out10_at c (ms0_0 t) (ms0_1 t) (ms0_2 t) (ms0_3 t) (ms0_5 t) (iblk m c 0 t) (iblk m c 1 t) (iblk m c 2 t) (iblk m c 3 t) (iblk m c 4 t) (iblk m c 5 t) (filled c (iblk m c 4 t)) (filled_at c (iblk m c 4 t)) (ix2 s d)
      (View.cover_of_tiledL (runN.sl.HO10_2 c (ms0_0 t) (ms0_1 t) (ms0_2 t) (ms0_3 t) (ms0_5 t) (iblk m c 0 t) (iblk m c 1 t) (iblk m c 2 t) (iblk m c 3 t) (iblk m c 5 t) (filled c (iblk m c 4 t))) S256x1024.size (by sl_kernel_rfl) (ix2 s d))
  · exact out10_at c (ms0_0 t) (ms0_1 t) (ms0_2 t) (ms0_3 t) (ms0_5 t) (iblk m c 0 t) (iblk m c 1 t) (iblk m c 2 t) (iblk m c 3 t) (iblk m c 4 t) (iblk m c 5 t) (filled c (iblk m c 4 t)) (filled_at c (iblk m c 4 t)) (ix2 s d)
      (View.cover_of_tiledL (runN.sl.HO10_2 c (ms0_0 t) (ms0_1 t) (ms0_2 t) (ms0_3 t) (ms0_5 t) (iblk m c 0 t) (iblk m c 1 t) (iblk m c 2 t) (iblk m c 3 t) (iblk m c 5 t) (filled c (iblk m c 4 t))) S256x1024.size (by sl_kernel_rfl) (ix2 s d))

/-- Window 0's block at a tile. -/
theorem idx0 (t : Fin cfg0.N) : (cfg0.win (0 : Fin 12)).index t = ![(t : ℕ), 0] :=
  (by decide +kernel : ∀ t : Fin grid0.N, cc0_transform_0 (grid0.coords t) = ![(t : ℕ), 0]) t
/-- Window 1's block at a tile. -/
theorem idx1 (t : Fin cfg0.N) : (cfg0.win (1 : Fin 12)).index t = ![(t : ℕ), 0] :=
  (by decide +kernel : ∀ t : Fin grid0.N, cc0_transform_1 (grid0.coords t) = ![(t : ℕ), 0]) t
/-- Window 2's block at a tile. -/
theorem idx2 (t : Fin cfg0.N) : (cfg0.win (2 : Fin 12)).index t = ![(t : ℕ), 0] :=
  (by decide +kernel : ∀ t : Fin grid0.N, cc0_transform_2 (grid0.coords t) = ![(t : ℕ), 0]) t
/-- Window 3's block at a tile. -/
theorem idx3 (t : Fin cfg0.N) : (cfg0.win (3 : Fin 12)).index t = ![(t : ℕ), 0] :=
  (by decide +kernel : ∀ t : Fin grid0.N, cc0_transform_3 (grid0.coords t) = ![(t : ℕ), 0]) t
/-- Window 9's block at a tile. -/
theorem idx9 (t : Fin cfg0.N) : (cfg0.win (9 : Fin 12)).index t = ![(t : ℕ), 0] :=
  (by decide +kernel : ∀ t : Fin grid0.N, cc0_transform_9 (grid0.coords t) = ![(t : ℕ), 0]) t
/-- Window 10's block at a tile. -/
theorem idx10 (t : Fin cfg0.N) : (cfg0.win (10 : Fin 12)).index t = ![(t : ℕ), 0] :=
  (by decide +kernel : ∀ t : Fin grid0.N, cc0_transform_10 (grid0.coords t) = ![(t : ℕ), 0]) t
/-- Window 5's block at a tile. -/
theorem idx5 (t : Fin cfg0.N) : (cfg0.win (5 : Fin 12)).index t = ![0, 0] :=
  (by decide +kernel : ∀ t : Fin grid0.N, cc0_transform_5 (grid0.coords t) = ![0, 0]) t
/-- Window 4's block at a tile. -/
theorem idx4 (t : Fin cfg0.N) : (cfg0.win (4 : Fin 12)).index t = ![0, 0, 0] :=
  (by decide +kernel : ∀ t : Fin grid0.N, cc0_transform_4 (grid0.coords t) = ![0, 0, 0]) t

/-- Argument 0's block at a tile. -/
theorem blk0 (t : Fin cfg0.N) (s : Fin 512) (k : Fin 1024) :
    iblk m c 0 t (ix2 s k) = m ((c : Thread nD τ).loc main_arg0) (ix2 (⟨512 * t + s, by have := lt32 t; omega⟩ : Fin 16384) k) := by
  blk_simp [iblk]
  refine congrArg _ ?_
  blk_ext [idx0 t]
/-- Argument 1's block at a tile. -/
theorem blk1 (t : Fin cfg0.N) (s : Fin 512) (k : Fin 512) :
    iblk m c 1 t (ix2 s k) = m ((c : Thread nD τ).loc main_arg1) (ix2 (⟨512 * t + s, by have := lt32 t; omega⟩ : Fin 16384) k) := by
  blk_simp [iblk]
  refine congrArg _ ?_
  blk_ext [idx1 t]
/-- Argument 2's block at a tile. -/
theorem blk2 (t : Fin cfg0.N) (s : Fin 512) (k : Fin 256) :
    iblk m c 2 t (ix2 s k) = m ((c : Thread nD τ).loc main_arg2) (ix2 (⟨512 * t + s, by have := lt32 t; omega⟩ : Fin 16384) k) := by
  blk_simp [iblk]
  refine congrArg _ ?_
  blk_ext [idx2 t]
/-- Argument 3's block at a tile. -/
theorem blk3 (t : Fin cfg0.N) (s : Fin 512) (k : Fin 256) :
    iblk m c 3 t (ix2 s k) = m ((c : Thread nD τ).loc main_arg3) (ix2 (⟨512 * t + s, by have := lt32 t; omega⟩ : Fin 16384) k) := by
  blk_simp [iblk]
  refine congrArg _ ?_
  blk_ext [idx3 t]
/-- The weights' block at a tile. -/
theorem blk4 (t : Fin cfg0.N) (k d : Fin 1024) :
    iblk m c 4 t (ix3 (0 : Fin 1) k d) = m ((c : Thread nD τ).loc main_arg4) (ix3 (0 : Fin 2) k d) := by
  blk_simp [iblk]
  refine congrArg _ ?_
  blk_ext [idx4 t]
/-- The norm's scales at a tile. -/
theorem blk5 (t : Fin cfg0.N) (d : Fin 1024) :
    iblk m c 5 t (ix2 (0 : Fin 1) d) = m ((c : Thread nD τ).loc main_arg5) (ix2 (0 : Fin 1) d) := by
  blk_simp [iblk]
  refine congrArg _ ?_
  blk_ext [idx5 t]

/-- A tile's residual, from the arguments. -/
theorem tileMix_at (t : Fin cfg0.N) (s : Fin 512) (d : Fin 1024) (a0 : Vec Ideal S16384x1024 .f32) (a1 : Vec Ideal S16384x512 .bf16) (a2 a3 : Vec Ideal S16384x256 .bf16) (a4 : Vec Ideal S2x1024x1024 .f32)
    (h0 : m ((c : Thread nD τ).loc main_arg0) = a0) (h1 : m ((c : Thread nD τ).loc main_arg1) = a1) (h2 : m ((c : Thread nD τ).loc main_arg2) = a2) (h3 : m ((c : Thread nD τ).loc main_arg3) = a3) (h4 : m ((c : Thread nD τ).loc main_arg4) = a4) :
    tileMix (iblk m c 0 t) (iblk m c 1 t) (iblk m c 2 t) (iblk m c 3 t) (iblk m c 4 t) s d
      = mix (a0 (ix2 (⟨512 * t + s, by have := lt32 t; omega⟩ : Fin 16384) d)) (fun k => a1 (ix2 (⟨512 * t + s, by have := lt32 t; omega⟩ : Fin 16384) k)) (fun k => a2 (ix2 (⟨512 * t + s, by have := lt32 t; omega⟩ : Fin 16384) k)) (fun k => a3 (ix2 (⟨512 * t + s, by have := lt32 t; omega⟩ : Fin 16384) k)) (fun k => a4 (ix3 (0 : Fin 2) k d)) := by
  subst h0 h1 h2 h3 h4
  unfold tileMix
  congr 1
  · exact blk0 m c t s d
  · exact funext fun k => blk1 m c t s k
  · exact funext fun k => blk2 m c t s k
  · exact funext fun k => blk3 m c t s k
  · exact funext fun k => blk4 m c t k d

/-- The tiles' blocks cover array 9. -/
theorem covers9 : (cfg0.win (9 : Fin 12)).Covers := by
  refine Window.covers_of_index_surj _ rfl (fun a => ?_) fun β => ?_
  · match a with
    | 0 => exact (by omega : 0 < 512)
    | 1 => exact (by omega : 0 < 1024)
  have h0 : (β (0 : Fin 2) : ℕ) < (16384 + 512 - 1) / 512 := (β (0 : Fin 2)).isLt
  have h1 : (β (1 : Fin 2) : ℕ) < (1024 + 1024 - 1) / 1024 := (β (1 : Fin 2)).isLt
  have e : cfg0.N = 32 := N_0
  refine ⟨⟨(β (0 : Fin 2) : ℕ), lt_of_lt_of_eq h0 e.symm⟩, ?_⟩
  intro a
  refine (congrFun (idx9 _) a).trans ?_
  match a with
  | 0 => rfl
  | 1 => exact (by omega : 0 = (β (1 : Fin 2) : ℕ))

/-- Array 9 as the tiles leave it is `G`, when every tile ends at `G`'s part. -/
theorem final9 (G : Vec Ideal S16384x1024 .f32)
    (hG : ∀ (t : Fin cfg0.N) (s : Fin 512) (d : Fin 1024), after9 m c t (ix2 s d) = G (ix2 (⟨512 * t + s, by have := lt32 t; omega⟩ : Fin 16384) d)) :
    (dats m 0 c).arrAt (9 : Fin 12) cfg0.N = G := by
  refine (dats m 0 c).arrAt_eq_of_covers (9 : Fin 12) G covers9 fun t hf y => ?_
  have e : ((cfg0.win (9 : Fin 12)).blk t).view.emb y = ix2 (⟨512 * t + (y 0 : ℕ), by have := lt32 t; have : (y 0 : ℕ) < 512 := (y 0).isLt; omega⟩ : Fin 16384) (y 1 : Fin 1024) := by
    blk_ext [idx9 t]
  rw [e]
  blk_simp
  rw [after0_9]
  refine Eq.trans (congrArg _ ?_) (hG t (y 0) (y 1))
  funext a
  match a with
  | 0 => rfl
  | 1 => rfl

/-- The tiles' blocks cover array 10. -/
theorem covers10 : (cfg0.win (10 : Fin 12)).Covers := by
  refine Window.covers_of_index_surj _ rfl (fun a => ?_) fun β => ?_
  · match a with
    | 0 => exact (by omega : 0 < 512)
    | 1 => exact (by omega : 0 < 1024)
  have h0 : (β (0 : Fin 2) : ℕ) < (16384 + 512 - 1) / 512 := (β (0 : Fin 2)).isLt
  have h1 : (β (1 : Fin 2) : ℕ) < (1024 + 1024 - 1) / 1024 := (β (1 : Fin 2)).isLt
  have e : cfg0.N = 32 := N_0
  refine ⟨⟨(β (0 : Fin 2) : ℕ), lt_of_lt_of_eq h0 e.symm⟩, ?_⟩
  intro a
  refine (congrFun (idx10 _) a).trans ?_
  match a with
  | 0 => rfl
  | 1 => exact (by omega : 0 = (β (1 : Fin 2) : ℕ))

/-- Array 10 as the tiles leave it is `G`, when every tile ends at `G`'s part. -/
theorem final10 (G : Vec Ideal S16384x1024 .bf16)
    (hG : ∀ (t : Fin cfg0.N) (s : Fin 512) (d : Fin 1024), after10 m c t (ix2 s d) = G (ix2 (⟨512 * t + s, by have := lt32 t; omega⟩ : Fin 16384) d)) :
    (dats m 0 c).arrAt (10 : Fin 12) cfg0.N = G := by
  refine (dats m 0 c).arrAt_eq_of_covers (10 : Fin 12) G covers10 fun t hf y => ?_
  have e : ((cfg0.win (10 : Fin 12)).blk t).view.emb y = ix2 (⟨512 * t + (y 0 : ℕ), by have := lt32 t; have : (y 0 : ℕ) < 512 := (y 0).isLt; omega⟩ : Fin 16384) (y 1 : Fin 1024) := by
    blk_ext [idx10 t]
  rw [e]
  blk_simp
  rw [after0_10]
  refine Eq.trans (congrArg _ ?_) (hG t (y 0) (y 1))
  funext a
  match a with
  | 0 => rfl
  | 1 => rfl

end Cert.Kernel3Ideal.Out

end
-- ==== Proof.OutClaim.lean ====
module

public import proofs.«01_k».proof.Defs
public import proofs.«01_k».proof.Proof.Gen.Reference3Ideal.Run
public import proofs.«01_k».proof.Proof.OutRun
public import proofs.«01_k».proof.Proof.OutValue
public import proofs.«01_k».proof.Proof.OutRef

/-!
  The output projection with the residual and the second norm: the frames, and the equality of the kernel's two arrays with the
  reference's.
-/

@[expose] public section

set_option maxRecDepth 16384

noncomputable section

namespace Cert.OutClaim

open Idealize.ShloMosaic Idealize.ShloMosaic.TcCoe Idealize.SL.Sem
open Cert.Kernel3Ideal (S16384x1024 S16384x512 S16384x256 S2x1024x1024 S1x1024)
open Cert.Reference3Ideal.Out (cat proj normed mix_at normed_at)

/-- The kernel's frame. -/
theorem frame_kernel : quiescent_Kernel3 := fun m ρ _ => Kernel3.Out.frame m ρ

/-- The idealized kernel's frame. -/
theorem frame_kernel_ideal : quiescent_Kernel3Ideal := fun m ρ _ => Kernel3Ideal.Out.frame m ρ

/-- The residual with the projection added, as the reference writes it. -/
def residual (a0 : Vec Ideal S16384x1024 .f32) (a1 : Vec Ideal S16384x512 .bf16) (a2 a3 : Vec Ideal S16384x256 .bf16) (a4 : Vec Ideal S2x1024x1024 .f32) : Vec Ideal S16384x1024 .f32 :=
  proj a0 (cat a1 a2 a3) a4

/-- The first array the kernel leaves is the residual. -/
theorem kernel_eq9 (m : (ℓ : Loc Kernel3Ideal.nD Kernel3Ideal.τ Kernel3Ideal.sig) → Buf (Elt Ideal) ℓ) (c : Dev Kernel3Ideal.nD) :
    (Kernel3Ideal.Out.dats m 0 c).arrAt (9 : Fin 12) Kernel3Ideal.cfg0.N
      = residual (m (c.tc.loc Kernel3Ideal.main_arg0)) (m (c.tc.loc Kernel3Ideal.main_arg1)) (m (c.tc.loc Kernel3Ideal.main_arg2)) (m (c.tc.loc Kernel3Ideal.main_arg3)) (m (c.tc.loc Kernel3Ideal.main_arg4)) := by
  refine Kernel3Ideal.Out.final9 m c _ fun t s d => ?_
  rw [Kernel3Ideal.Out.after9_at, Kernel3Ideal.Out.tileMix_at m c t s d _ _ _ _ _ rfl rfl rfl rfl rfl]
  exact (mix_at _ _ _ _ _ _ _).symm

/-- The second array the kernel leaves is the residual's norm. -/
theorem kernel_eq10 (m : (ℓ : Loc Kernel3Ideal.nD Kernel3Ideal.τ Kernel3Ideal.sig) → Buf (Elt Ideal) ℓ) (c : Dev Kernel3Ideal.nD) :
    (Kernel3Ideal.Out.dats m 0 c).arrAt (10 : Fin 12) Kernel3Ideal.cfg0.N
      = normed (residual (m (c.tc.loc Kernel3Ideal.main_arg0)) (m (c.tc.loc Kernel3Ideal.main_arg1)) (m (c.tc.loc Kernel3Ideal.main_arg2)) (m (c.tc.loc Kernel3Ideal.main_arg3)) (m (c.tc.loc Kernel3Ideal.main_arg4)))
          (m (c.tc.loc Kernel3Ideal.main_arg5)) := by
  refine Kernel3Ideal.Out.final10 m c _ fun t s d => ?_
  rw [Kernel3Ideal.Out.after10_at, normed_at]
  refine congrArg₂ (fun f z => OutSpec.norm f z d) (funext fun j => ?_) (Kernel3Ideal.Out.blk5 m c t d)
  rw [Kernel3Ideal.Out.tileMix_at m c t s j _ _ _ _ _ rfl rfl rfl rfl rfl]
  exact (mix_at _ _ _ _ _ _ _).symm

/-- The value claim. -/
theorem algebraic : algebraic_Kernel3Ideal_Reference3Ideal := fun m ρ m' ρ' _ hag =>
  ⟨fun c => residual (m (c.tc.loc Kernel3Ideal.main_arg0)) (m (c.tc.loc Kernel3Ideal.main_arg1)) (m (c.tc.loc Kernel3Ideal.main_arg2)) (m (c.tc.loc Kernel3Ideal.main_arg3)) (m (c.tc.loc Kernel3Ideal.main_arg4)),
    fun c => normed (residual (m (c.tc.loc Kernel3Ideal.main_arg0)) (m (c.tc.loc Kernel3Ideal.main_arg1)) (m (c.tc.loc Kernel3Ideal.main_arg2)) (m (c.tc.loc Kernel3Ideal.main_arg3)) (m (c.tc.loc Kernel3Ideal.main_arg4)))
      (m (c.tc.loc Kernel3Ideal.main_arg5)),
    (θ_run _ _ _).mono (fun _ h c => ⟨((h.1 c).1 (9 : Fin 12)).trans (kernel_eq9 m c), ((h.1 c).1 (10 : Fin 12)).trans (kernel_eq10 m c), h.2 c⟩)
      (θ_run_and (Kernel3Ideal.Out.run_main m ρ) (Kernel3Ideal.Out.unchanged m ρ)),
    (θ_run _ _ _).mono (fun _ h c => ⟨(h c).1.trans (by
        obtain ⟨h0, h1, h2, h3, h4, _⟩ := hag c
        rw [h0, h1, h2, h3, h4]
        rfl), (h c).2.1.trans (by
        obtain ⟨h0, h1, h2, h3, h4, h5, _⟩ := hag c
        rw [h0, h1, h2, h3, h4, h5]
        rfl), (h c).2.2⟩)
      (Reference3Ideal.Value.run m' ρ')⟩

/-- The reference runs, leaves its arguments as they were, and declares no semaphore. -/
theorem frame_reference : quiescent_Reference3Ideal := fun m ρ _ =>
  (θ_run Reference3Ideal.defs _ _).mono (fun r h => ⟨fun c => (h c).2.2, sem_eq_zero_of_no_sems (by decide) r.2⟩)
    (Reference3Ideal.Value.run m ρ)

end Cert.OutClaim

end
-- ==== Proof.lean ====
/- The claims, assembled from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Pre_in_range
public import proofs.«01_k».proof.Proof.Attention
public import proofs.«01_k».proof.Proof.MoeClaim
public import proofs.«01_k».proof.Proof.OutClaim
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import Idealize.ShloMosaic.Adequacy
public import Idealize.ShloMosaic.Init

@[expose] public section

noncomputable section

namespace Cert.Proof

open Idealize.ShloMosaic Idealize.SL.Sem Cert.Kernel

/-- The reference runs, leaves its arguments as they were, and declares no semaphore. -/
theorem frame_reference (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem (c.tc.loc Cert.ReferenceIdeal.main_arg0) = m (c.tc.loc Cert.ReferenceIdeal.main_arg0)
      ∧ r.2.mem (c.tc.loc Cert.ReferenceIdeal.main_arg1) = m (c.tc.loc Cert.ReferenceIdeal.main_arg1)
      ∧ r.2.mem (c.tc.loc Cert.ReferenceIdeal.main_arg2) = m (c.tc.loc Cert.ReferenceIdeal.main_arg2)
      ∧ r.2.mem (c.tc.loc Cert.ReferenceIdeal.main_arg3) = m (c.tc.loc Cert.ReferenceIdeal.main_arg3)
      ∧ r.2.mem (c.tc.loc Cert.ReferenceIdeal.main_arg4) = m (c.tc.loc Cert.ReferenceIdeal.main_arg4)) ∧ r.2.sem = fun _ => 0) :=
  (θ_run Cert.ReferenceIdeal.defs _ _).mono (fun r h => ⟨fun c => (h c).2, sem_eq_zero_of_no_sems (by decide) r.2⟩)
    (Cert.ReferenceIdeal.Value.run m ρ)

/-- The certificate's claim: of the attention over the cached rows, of the experts over the routed rows and of the output
    projection with the residual and the second norm, each with its frames, its idealization and its value. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Pre_finite.Gen.facts, Cert.Pre_in_range.Gen.facts,
    fun m ρ _ => Cert.Kernel.Gen.frame m ρ,
    fun m ρ _ => Cert.KernelIdeal.Gen.frame m ρ,
    fun m ρ _ => Cert.KernelIdeal.Gen.frame m ρ,
    fun m ρ _ => Cert.Proof.frame_reference m ρ,
    fun m ρ _ => Cert.Proof.frame_reference m ρ,
    Cert.MoeClaim.frame_kernel,
    Cert.MoeClaim.frame_kernel_ideal,
    Cert.MoeClaim.frame_reference,
    fun m ρ _ => Cert.MoeClaim.frame_reference m ρ trivial,
    Cert.OutClaim.frame_kernel,
    Cert.OutClaim.frame_kernel_ideal,
    Cert.OutClaim.frame_reference,
    ⟨IdealRules.named_const.statement _ "qscale" .f32 0x3E38AA3B#32 _ rfl, IdealRules.named_const.statement _ "log2e" .f32 0x3FB8AA3B#32 _ rfl⟩,
    Cert.Attention.algebraic,
    trivial,
    Cert.MoeClaim.algebraic,
    trivial,
    Cert.OutClaim.algebraic⟩

end Cert.Proof

end
